-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_WffnBwd (m : (ℓ : Loc Cert.WffnBwd.nD Cert.WffnBwd.τ Cert.WffnBwd.sig) → Buf (Elt Bits) ℓ) : Prop :=
  True

def Pre_WffnBwdIdeal (m : (ℓ : Loc Cert.WffnBwdIdeal.nD Cert.WffnBwdIdeal.τ Cert.WffnBwdIdeal.sig) → Buf (Elt Ideal) ℓ) : Prop :=
  True

def Pre_WffnRefIdeal (m : (ℓ : Loc Cert.WffnRefIdeal.nD Cert.WffnRefIdeal.τ Cert.WffnRefIdeal.sig) → Buf (Elt Ideal) ℓ) : Prop :=
  True

def Pre_WinBwd (m : (ℓ : Loc Cert.WinBwd.nD Cert.WinBwd.τ Cert.WinBwd.sig) → Buf (Elt Bits) ℓ) : Prop :=
  True

def Pre_WinBwdIdeal (m : (ℓ : Loc Cert.WinBwdIdeal.nD Cert.WinBwdIdeal.τ Cert.WinBwdIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_WffnBwd [hWffnBwd : Cert.WffnBwd.Facts] : Prop :=
  ∀ (m : (ℓ : Loc Cert.WffnBwd.nD Cert.WffnBwd.τ Cert.WffnBwd.sig) → Buf (Elt Bits) ℓ) (g : Dev Cert.WffnBwd.nD → PrngReg), Pre_WffnBwd m →
    θ_run (Cert.WffnBwd.defs (F := Bits)) (onTc (τ := Cert.WffnBwd.τ) (Cert.WffnBwd.main (F := Bits))) ⟨m, fun _ => 0, g⟩ (fun r => (∀ c : Dev Cert.WffnBwd.nD,
      r.2.mem ((c.tc : Thread Cert.WffnBwd.nD Cert.WffnBwd.τ).loc Cert.WffnBwd.main_arg0) = m ((c.tc : Thread Cert.WffnBwd.nD Cert.WffnBwd.τ).loc Cert.WffnBwd.main_arg0)
      ∧ r.2.mem ((c.tc : Thread Cert.WffnBwd.nD Cert.WffnBwd.τ).loc Cert.WffnBwd.main_arg1) = m ((c.tc : Thread Cert.WffnBwd.nD Cert.WffnBwd.τ).loc Cert.WffnBwd.main_arg1)
      ∧ r.2.mem ((c.tc : Thread Cert.WffnBwd.nD Cert.WffnBwd.τ).loc Cert.WffnBwd.main_arg2) = m ((c.tc : Thread Cert.WffnBwd.nD Cert.WffnBwd.τ).loc Cert.WffnBwd.main_arg2)
      ∧ r.2.mem ((c.tc : Thread Cert.WffnBwd.nD Cert.WffnBwd.τ).loc Cert.WffnBwd.main_arg3) = m ((c.tc : Thread Cert.WffnBwd.nD Cert.WffnBwd.τ).loc Cert.WffnBwd.main_arg3)
      ∧ r.2.mem ((c.tc : Thread Cert.WffnBwd.nD Cert.WffnBwd.τ).loc Cert.WffnBwd.main_arg4) = m ((c.tc : Thread Cert.WffnBwd.nD Cert.WffnBwd.τ).loc Cert.WffnBwd.main_arg4)
      ∧ r.2.mem ((c.tc : Thread Cert.WffnBwd.nD Cert.WffnBwd.τ).loc Cert.WffnBwd.main_arg5) = m ((c.tc : Thread Cert.WffnBwd.nD Cert.WffnBwd.τ).loc Cert.WffnBwd.main_arg5)
      ∧ r.2.mem ((c.tc : Thread Cert.WffnBwd.nD Cert.WffnBwd.τ).loc Cert.WffnBwd.main_arg6) = m ((c.tc : Thread Cert.WffnBwd.nD Cert.WffnBwd.τ).loc Cert.WffnBwd.main_arg6))
      ∧ r.2.sem = fun _ => 0)

def quiescent_WffnBwdIdeal [hWffnBwdIdeal : Cert.WffnBwdIdeal.Facts] : Prop :=
  ∀ (m : (ℓ : Loc Cert.WffnBwdIdeal.nD Cert.WffnBwdIdeal.τ Cert.WffnBwdIdeal.sig) → Buf (Elt Ideal) ℓ) (g : Dev Cert.WffnBwdIdeal.nD → PrngReg), Pre_WffnBwdIdeal m →
    θ_run (Cert.WffnBwdIdeal.defs (F := Ideal)) (onTc (τ := Cert.WffnBwdIdeal.τ) (Cert.WffnBwdIdeal.main (F := Ideal))) ⟨m, fun _ => 0, g⟩ (fun r => (∀ c : Dev Cert.WffnBwdIdeal.nD,
      r.2.mem ((c.tc : Thread Cert.WffnBwdIdeal.nD Cert.WffnBwdIdeal.τ).loc Cert.WffnBwdIdeal.main_arg0) = m ((c.tc : Thread Cert.WffnBwdIdeal.nD Cert.WffnBwdIdeal.τ).loc Cert.WffnBwdIdeal.main_arg0)
      ∧ r.2.mem ((c.tc : Thread Cert.WffnBwdIdeal.nD Cert.WffnBwdIdeal.τ).loc Cert.WffnBwdIdeal.main_arg1) = m ((c.tc : Thread Cert.WffnBwdIdeal.nD Cert.WffnBwdIdeal.τ).loc Cert.WffnBwdIdeal.main_arg1)
      ∧ r.2.mem ((c.tc : Thread Cert.WffnBwdIdeal.nD Cert.WffnBwdIdeal.τ).loc Cert.WffnBwdIdeal.main_arg2) = m ((c.tc : Thread Cert.WffnBwdIdeal.nD Cert.WffnBwdIdeal.τ).loc Cert.WffnBwdIdeal.main_arg2)
      ∧ r.2.mem ((c.tc : Thread Cert.WffnBwdIdeal.nD Cert.WffnBwdIdeal.τ).loc Cert.WffnBwdIdeal.main_arg3) = m ((c.tc : Thread Cert.WffnBwdIdeal.nD Cert.WffnBwdIdeal.τ).loc Cert.WffnBwdIdeal.main_arg3)
      ∧ r.2.mem ((c.tc : Thread Cert.WffnBwdIdeal.nD Cert.WffnBwdIdeal.τ).loc Cert.WffnBwdIdeal.main_arg4) = m ((c.tc : Thread Cert.WffnBwdIdeal.nD Cert.WffnBwdIdeal.τ).loc Cert.WffnBwdIdeal.main_arg4)
      ∧ r.2.mem ((c.tc : Thread Cert.WffnBwdIdeal.nD Cert.WffnBwdIdeal.τ).loc Cert.WffnBwdIdeal.main_arg5) = m ((c.tc : Thread Cert.WffnBwdIdeal.nD Cert.WffnBwdIdeal.τ).loc Cert.WffnBwdIdeal.main_arg5)
      ∧ r.2.mem ((c.tc : Thread Cert.WffnBwdIdeal.nD Cert.WffnBwdIdeal.τ).loc Cert.WffnBwdIdeal.main_arg6) = m ((c.tc : Thread Cert.WffnBwdIdeal.nD Cert.WffnBwdIdeal.τ).loc Cert.WffnBwdIdeal.main_arg6))
      ∧ r.2.sem = fun _ => 0)

def quiescent_WffnRefIdeal [hWffnRefIdeal : Cert.WffnRefIdeal.Facts] : Prop :=
  ∀ (m : (ℓ : Loc Cert.WffnRefIdeal.nD Cert.WffnRefIdeal.τ Cert.WffnRefIdeal.sig) → Buf (Elt Ideal) ℓ) (g : Dev Cert.WffnRefIdeal.nD → PrngReg), Pre_WffnRefIdeal m →
    θ_run (Cert.WffnRefIdeal.defs (F := Ideal)) (onTc (τ := Cert.WffnRefIdeal.τ) (Cert.WffnRefIdeal.main (F := Ideal))) ⟨m, fun _ => 0, g⟩ (fun r => (∀ c : Dev Cert.WffnRefIdeal.nD,
      r.2.mem ((c.tc : Thread Cert.WffnRefIdeal.nD Cert.WffnRefIdeal.τ).loc Cert.WffnRefIdeal.main_arg0) = m ((c.tc : Thread Cert.WffnRefIdeal.nD Cert.WffnRefIdeal.τ).loc Cert.WffnRefIdeal.main_arg0)
      ∧ r.2.mem ((c.tc : Thread Cert.WffnRefIdeal.nD Cert.WffnRefIdeal.τ).loc Cert.WffnRefIdeal.main_arg1) = m ((c.tc : Thread Cert.WffnRefIdeal.nD Cert.WffnRefIdeal.τ).loc Cert.WffnRefIdeal.main_arg1)
      ∧ r.2.mem ((c.tc : Thread Cert.WffnRefIdeal.nD Cert.WffnRefIdeal.τ).loc Cert.WffnRefIdeal.main_arg2) = m ((c.tc : Thread Cert.WffnRefIdeal.nD Cert.WffnRefIdeal.τ).loc Cert.WffnRefIdeal.main_arg2)
      ∧ r.2.mem ((c.tc : Thread Cert.WffnRefIdeal.nD Cert.WffnRefIdeal.τ).loc Cert.WffnRefIdeal.main_arg3) = m ((c.tc : Thread Cert.WffnRefIdeal.nD Cert.WffnRefIdeal.τ).loc Cert.WffnRefIdeal.main_arg3)
      ∧ r.2.mem ((c.tc : Thread Cert.WffnRefIdeal.nD Cert.WffnRefIdeal.τ).loc Cert.WffnRefIdeal.main_arg4) = m ((c.tc : Thread Cert.WffnRefIdeal.nD Cert.WffnRefIdeal.τ).loc Cert.WffnRefIdeal.main_arg4)
      ∧ r.2.mem ((c.tc : Thread Cert.WffnRefIdeal.nD Cert.WffnRefIdeal.τ).loc Cert.WffnRefIdeal.main_arg5) = m ((c.tc : Thread Cert.WffnRefIdeal.nD Cert.WffnRefIdeal.τ).loc Cert.WffnRefIdeal.main_arg5)
      ∧ r.2.mem ((c.tc : Thread Cert.WffnRefIdeal.nD Cert.WffnRefIdeal.τ).loc Cert.WffnRefIdeal.main_arg6) = m ((c.tc : Thread Cert.WffnRefIdeal.nD Cert.WffnRefIdeal.τ).loc Cert.WffnRefIdeal.main_arg6))
      ∧ r.2.sem = fun _ => 0)

def quiescent_WinBwd [hWinBwd : Cert.WinBwd.Facts] : Prop :=
  ∀ (m : (ℓ : Loc Cert.WinBwd.nD Cert.WinBwd.τ Cert.WinBwd.sig) → Buf (Elt Bits) ℓ) (g : Dev Cert.WinBwd.nD → PrngReg), Pre_WinBwd m →
    θ_run (Cert.WinBwd.defs (F := Bits)) (onTc (τ := Cert.WinBwd.τ) (Cert.WinBwd.main (F := Bits))) ⟨m, fun _ => 0, g⟩ (fun r => (∀ c : Dev Cert.WinBwd.nD,
      r.2.mem ((c.tc : Thread Cert.WinBwd.nD Cert.WinBwd.τ).loc Cert.WinBwd.main_arg0) = m ((c.tc : Thread Cert.WinBwd.nD Cert.WinBwd.τ).loc Cert.WinBwd.main_arg0)
      ∧ r.2.mem ((c.tc : Thread Cert.WinBwd.nD Cert.WinBwd.τ).loc Cert.WinBwd.main_arg1) = m ((c.tc : Thread Cert.WinBwd.nD Cert.WinBwd.τ).loc Cert.WinBwd.main_arg1)
      ∧ r.2.mem ((c.tc : Thread Cert.WinBwd.nD Cert.WinBwd.τ).loc Cert.WinBwd.main_arg2) = m ((c.tc : Thread Cert.WinBwd.nD Cert.WinBwd.τ).loc Cert.WinBwd.main_arg2)
      ∧ r.2.mem ((c.tc : Thread Cert.WinBwd.nD Cert.WinBwd.τ).loc Cert.WinBwd.main_arg3) = m ((c.tc : Thread Cert.WinBwd.nD Cert.WinBwd.τ).loc Cert.WinBwd.main_arg3)
      ∧ r.2.mem ((c.tc : Thread Cert.WinBwd.nD Cert.WinBwd.τ).loc Cert.WinBwd.main_arg4) = m ((c.tc : Thread Cert.WinBwd.nD Cert.WinBwd.τ).loc Cert.WinBwd.main_arg4)
      ∧ r.2.mem ((c.tc : Thread Cert.WinBwd.nD Cert.WinBwd.τ).loc Cert.WinBwd.main_arg5) = m ((c.tc : Thread Cert.WinBwd.nD Cert.WinBwd.τ).loc Cert.WinBwd.main_arg5)
      ∧ r.2.mem ((c.tc : Thread Cert.WinBwd.nD Cert.WinBwd.τ).loc Cert.WinBwd.main_arg6) = m ((c.tc : Thread Cert.WinBwd.nD Cert.WinBwd.τ).loc Cert.WinBwd.main_arg6)
      ∧ r.2.mem ((c.tc : Thread Cert.WinBwd.nD Cert.WinBwd.τ).loc Cert.WinBwd.main_arg7) = m ((c.tc : Thread Cert.WinBwd.nD Cert.WinBwd.τ).loc Cert.WinBwd.main_arg7)
      ∧ r.2.mem ((c.tc : Thread Cert.WinBwd.nD Cert.WinBwd.τ).loc Cert.WinBwd.main_arg8) = m ((c.tc : Thread Cert.WinBwd.nD Cert.WinBwd.τ).loc Cert.WinBwd.main_arg8)
      ∧ r.2.mem ((c.tc : Thread Cert.WinBwd.nD Cert.WinBwd.τ).loc Cert.WinBwd.main_arg9) = m ((c.tc : Thread Cert.WinBwd.nD Cert.WinBwd.τ).loc Cert.WinBwd.main_arg9)
      ∧ r.2.mem ((c.tc : Thread Cert.WinBwd.nD Cert.WinBwd.τ).loc Cert.WinBwd.main_arg10) = m ((c.tc : Thread Cert.WinBwd.nD Cert.WinBwd.τ).loc Cert.WinBwd.main_arg10)
      ∧ r.2.mem ((c.tc : Thread Cert.WinBwd.nD Cert.WinBwd.τ).loc Cert.WinBwd.main_arg11) = m ((c.tc : Thread Cert.WinBwd.nD Cert.WinBwd.τ).loc Cert.WinBwd.main_arg11)
      ∧ r.2.mem ((c.tc : Thread Cert.WinBwd.nD Cert.WinBwd.τ).loc Cert.WinBwd.main_arg12) = m ((c.tc : Thread Cert.WinBwd.nD Cert.WinBwd.τ).loc Cert.WinBwd.main_arg12))
      ∧ r.2.sem = fun _ => 0)

def quiescent_WinBwdIdeal [hWinBwdIdeal : Cert.WinBwdIdeal.Facts] : Prop :=
  ∀ (m : (ℓ : Loc Cert.WinBwdIdeal.nD Cert.WinBwdIdeal.τ Cert.WinBwdIdeal.sig) → Buf (Elt Ideal) ℓ) (g : Dev Cert.WinBwdIdeal.nD → PrngReg), Pre_WinBwdIdeal m →
    θ_run (Cert.WinBwdIdeal.defs (F := Ideal)) (onTc (τ := Cert.WinBwdIdeal.τ) (Cert.WinBwdIdeal.main (F := Ideal))) ⟨m, fun _ => 0, g⟩ (fun r => (∀ c : Dev Cert.WinBwdIdeal.nD,
      r.2.mem ((c.tc : Thread Cert.WinBwdIdeal.nD Cert.WinBwdIdeal.τ).loc Cert.WinBwdIdeal.main_arg0) = m ((c.tc : Thread Cert.WinBwdIdeal.nD Cert.WinBwdIdeal.τ).loc Cert.WinBwdIdeal.main_arg0)
      ∧ r.2.mem ((c.tc : Thread Cert.WinBwdIdeal.nD Cert.WinBwdIdeal.τ).loc Cert.WinBwdIdeal.main_arg1) = m ((c.tc : Thread Cert.WinBwdIdeal.nD Cert.WinBwdIdeal.τ).loc Cert.WinBwdIdeal.main_arg1)
      ∧ r.2.mem ((c.tc : Thread Cert.WinBwdIdeal.nD Cert.WinBwdIdeal.τ).loc Cert.WinBwdIdeal.main_arg2) = m ((c.tc : Thread Cert.WinBwdIdeal.nD Cert.WinBwdIdeal.τ).loc Cert.WinBwdIdeal.main_arg2)
      ∧ r.2.mem ((c.tc : Thread Cert.WinBwdIdeal.nD Cert.WinBwdIdeal.τ).loc Cert.WinBwdIdeal.main_arg3) = m ((c.tc : Thread Cert.WinBwdIdeal.nD Cert.WinBwdIdeal.τ).loc Cert.WinBwdIdeal.main_arg3)
      ∧ r.2.mem ((c.tc : Thread Cert.WinBwdIdeal.nD Cert.WinBwdIdeal.τ).loc Cert.WinBwdIdeal.main_arg4) = m ((c.tc : Thread Cert.WinBwdIdeal.nD Cert.WinBwdIdeal.τ).loc Cert.WinBwdIdeal.main_arg4)
      ∧ r.2.mem ((c.tc : Thread Cert.WinBwdIdeal.nD Cert.WinBwdIdeal.τ).loc Cert.WinBwdIdeal.main_arg5) = m ((c.tc : Thread Cert.WinBwdIdeal.nD Cert.WinBwdIdeal.τ).loc Cert.WinBwdIdeal.main_arg5)
      ∧ r.2.mem ((c.tc : Thread Cert.WinBwdIdeal.nD Cert.WinBwdIdeal.τ).loc Cert.WinBwdIdeal.main_arg6) = m ((c.tc : Thread Cert.WinBwdIdeal.nD Cert.WinBwdIdeal.τ).loc Cert.WinBwdIdeal.main_arg6)
      ∧ r.2.mem ((c.tc : Thread Cert.WinBwdIdeal.nD Cert.WinBwdIdeal.τ).loc Cert.WinBwdIdeal.main_arg7) = m ((c.tc : Thread Cert.WinBwdIdeal.nD Cert.WinBwdIdeal.τ).loc Cert.WinBwdIdeal.main_arg7)
      ∧ r.2.mem ((c.tc : Thread Cert.WinBwdIdeal.nD Cert.WinBwdIdeal.τ).loc Cert.WinBwdIdeal.main_arg8) = m ((c.tc : Thread Cert.WinBwdIdeal.nD Cert.WinBwdIdeal.τ).loc Cert.WinBwdIdeal.main_arg8)
      ∧ r.2.mem ((c.tc : Thread Cert.WinBwdIdeal.nD Cert.WinBwdIdeal.τ).loc Cert.WinBwdIdeal.main_arg9) = m ((c.tc : Thread Cert.WinBwdIdeal.nD Cert.WinBwdIdeal.τ).loc Cert.WinBwdIdeal.main_arg9)
      ∧ r.2.mem ((c.tc : Thread Cert.WinBwdIdeal.nD Cert.WinBwdIdeal.τ).loc Cert.WinBwdIdeal.main_arg10) = m ((c.tc : Thread Cert.WinBwdIdeal.nD Cert.WinBwdIdeal.τ).loc Cert.WinBwdIdeal.main_arg10)
      ∧ r.2.mem ((c.tc : Thread Cert.WinBwdIdeal.nD Cert.WinBwdIdeal.τ).loc Cert.WinBwdIdeal.main_arg11) = m ((c.tc : Thread Cert.WinBwdIdeal.nD Cert.WinBwdIdeal.τ).loc Cert.WinBwdIdeal.main_arg11)
      ∧ r.2.mem ((c.tc : Thread Cert.WinBwdIdeal.nD Cert.WinBwdIdeal.τ).loc Cert.WinBwdIdeal.main_arg12) = m ((c.tc : Thread Cert.WinBwdIdeal.nD Cert.WinBwdIdeal.τ).loc Cert.WinBwdIdeal.main_arg12))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5)
      ∧ r.2.mem ((c.tc : Thread Cert.WinRefIdeal.nD Cert.WinRefIdeal.τ).loc Cert.WinRefIdeal.main_arg6) = m ((c.tc : Thread Cert.WinRefIdeal.nD Cert.WinRefIdeal.τ).loc Cert.WinRefIdeal.main_arg6)
      ∧ r.2.mem ((c.tc : Thread Cert.WinRefIdeal.nD Cert.WinRefIdeal.τ).loc Cert.WinRefIdeal.main_arg7) = m ((c.tc : Thread Cert.WinRefIdeal.nD Cert.WinRefIdeal.τ).loc Cert.WinRefIdeal.main_arg7)
      ∧ r.2.mem ((c.tc : Thread Cert.WinRefIdeal.nD Cert.WinRefIdeal.τ).loc Cert.WinRefIdeal.main_arg8) = m ((c.tc : Thread Cert.WinRefIdeal.nD Cert.WinRefIdeal.τ).loc Cert.WinRefIdeal.main_arg8)
      ∧ r.2.mem ((c.tc : Thread Cert.WinRefIdeal.nD Cert.WinRefIdeal.τ).loc Cert.WinRefIdeal.main_arg9) = m ((c.tc : Thread Cert.WinRefIdeal.nD Cert.WinRefIdeal.τ).loc Cert.WinRefIdeal.main_arg9)
      ∧ r.2.mem ((c.tc : Thread Cert.WinRefIdeal.nD Cert.WinRefIdeal.τ).loc Cert.WinRefIdeal.main_arg10) = m ((c.tc : Thread Cert.WinRefIdeal.nD Cert.WinRefIdeal.τ).loc Cert.WinRefIdeal.main_arg10)
      ∧ r.2.mem ((c.tc : Thread Cert.WinRefIdeal.nD Cert.WinRefIdeal.τ).loc Cert.WinRefIdeal.main_arg11) = m ((c.tc : Thread Cert.WinRefIdeal.nD Cert.WinRefIdeal.τ).loc Cert.WinRefIdeal.main_arg11)
      ∧ r.2.mem ((c.tc : Thread Cert.WinRefIdeal.nD Cert.WinRefIdeal.τ).loc Cert.WinRefIdeal.main_arg12) = m ((c.tc : Thread Cert.WinRefIdeal.nD Cert.WinRefIdeal.τ).loc Cert.WinRefIdeal.main_arg12))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1)
      ∧ r.2.mem ((c.tc : Thread Cert.LossFwd.nD Cert.LossFwd.τ).loc Cert.LossFwd.main_arg2) = m ((c.tc : Thread Cert.LossFwd.nD Cert.LossFwd.τ).loc Cert.LossFwd.main_arg2)
      ∧ r.2.mem ((c.tc : Thread Cert.LossFwd.nD Cert.LossFwd.τ).loc Cert.LossFwd.main_arg3) = m ((c.tc : Thread Cert.LossFwd.nD Cert.LossFwd.τ).loc Cert.LossFwd.main_arg3)
      ∧ r.2.mem ((c.tc : Thread Cert.LossFwd.nD Cert.LossFwd.τ).loc Cert.LossFwd.main_arg4) = m ((c.tc : Thread Cert.LossFwd.nD Cert.LossFwd.τ).loc Cert.LossFwd.main_arg4)
      ∧ r.2.mem ((c.tc : Thread Cert.LossFwd.nD Cert.LossFwd.τ).loc Cert.LossFwd.main_arg5) = m ((c.tc : Thread Cert.LossFwd.nD Cert.LossFwd.τ).loc Cert.LossFwd.main_arg5)
      ∧ r.2.mem ((c.tc : Thread Cert.LossFwd.nD Cert.LossFwd.τ).loc Cert.LossFwd.main_arg6) = m ((c.tc : Thread Cert.LossFwd.nD Cert.LossFwd.τ).loc Cert.LossFwd.main_arg6))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
      ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
      ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
      ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
      ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
      ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7)
      ∧ r.2.mem ((c.tc : Thread Cert.AdamOut.nD Cert.AdamOut.τ).loc Cert.AdamOut.main_arg8) = m ((c.tc : Thread Cert.AdamOut.nD Cert.AdamOut.τ).loc Cert.AdamOut.main_arg8)
      ∧ r.2.mem ((c.tc : Thread Cert.AdamOut.nD Cert.AdamOut.τ).loc Cert.AdamOut.main_arg9) = m ((c.tc : Thread Cert.AdamOut.nD Cert.AdamOut.τ).loc Cert.AdamOut.main_arg9)
      ∧ r.2.mem ((c.tc : Thread Cert.AdamOut.nD Cert.AdamOut.τ).loc Cert.AdamOut.main_arg10) = m ((c.tc : Thread Cert.AdamOut.nD Cert.AdamOut.τ).loc Cert.AdamOut.main_arg10)
      ∧ r.2.mem ((c.tc : Thread Cert.AdamOut.nD Cert.AdamOut.τ).loc Cert.AdamOut.main_arg11) = m ((c.tc : Thread Cert.AdamOut.nD Cert.AdamOut.τ).loc Cert.AdamOut.main_arg11)
      ∧ r.2.mem ((c.tc : Thread Cert.AdamOut.nD Cert.AdamOut.τ).loc Cert.AdamOut.main_arg12) = m ((c.tc : Thread Cert.AdamOut.nD Cert.AdamOut.τ).loc Cert.AdamOut.main_arg12)
      ∧ r.2.mem ((c.tc : Thread Cert.AdamOut.nD Cert.AdamOut.τ).loc Cert.AdamOut.main_arg13) = m ((c.tc : Thread Cert.AdamOut.nD Cert.AdamOut.τ).loc Cert.AdamOut.main_arg13)
      ∧ r.2.mem ((c.tc : Thread Cert.AdamOut.nD Cert.AdamOut.τ).loc Cert.AdamOut.main_arg14) = m ((c.tc : Thread Cert.AdamOut.nD Cert.AdamOut.τ).loc Cert.AdamOut.main_arg14)
      ∧ r.2.mem ((c.tc : Thread Cert.AdamOut.nD Cert.AdamOut.τ).loc Cert.AdamOut.main_arg15) = m ((c.tc : Thread Cert.AdamOut.nD Cert.AdamOut.τ).loc Cert.AdamOut.main_arg15))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7)
      ∧ r.2.mem ((c.tc : Thread Cert.AdamOutIdeal.nD Cert.AdamOutIdeal.τ).loc Cert.AdamOutIdeal.main_arg8) = m ((c.tc : Thread Cert.AdamOutIdeal.nD Cert.AdamOutIdeal.τ).loc Cert.AdamOutIdeal.main_arg8)
      ∧ r.2.mem ((c.tc : Thread Cert.AdamOutIdeal.nD Cert.AdamOutIdeal.τ).loc Cert.AdamOutIdeal.main_arg9) = m ((c.tc : Thread Cert.AdamOutIdeal.nD Cert.AdamOutIdeal.τ).loc Cert.AdamOutIdeal.main_arg9)
      ∧ r.2.mem ((c.tc : Thread Cert.AdamOutIdeal.nD Cert.AdamOutIdeal.τ).loc Cert.AdamOutIdeal.main_arg10) = m ((c.tc : Thread Cert.AdamOutIdeal.nD Cert.AdamOutIdeal.τ).loc Cert.AdamOutIdeal.main_arg10)
      ∧ r.2.mem ((c.tc : Thread Cert.AdamOutIdeal.nD Cert.AdamOutIdeal.τ).loc Cert.AdamOutIdeal.main_arg11) = m ((c.tc : Thread Cert.AdamOutIdeal.nD Cert.AdamOutIdeal.τ).loc Cert.AdamOutIdeal.main_arg11)
      ∧ r.2.mem ((c.tc : Thread Cert.AdamOutIdeal.nD Cert.AdamOutIdeal.τ).loc Cert.AdamOutIdeal.main_arg12) = m ((c.tc : Thread Cert.AdamOutIdeal.nD Cert.AdamOutIdeal.τ).loc Cert.AdamOutIdeal.main_arg12)
      ∧ r.2.mem ((c.tc : Thread Cert.AdamOutIdeal.nD Cert.AdamOutIdeal.τ).loc Cert.AdamOutIdeal.main_arg13) = m ((c.tc : Thread Cert.AdamOutIdeal.nD Cert.AdamOutIdeal.τ).loc Cert.AdamOutIdeal.main_arg13)
      ∧ r.2.mem ((c.tc : Thread Cert.AdamOutIdeal.nD Cert.AdamOutIdeal.τ).loc Cert.AdamOutIdeal.main_arg14) = m ((c.tc : Thread Cert.AdamOutIdeal.nD Cert.AdamOutIdeal.τ).loc Cert.AdamOutIdeal.main_arg14)
      ∧ r.2.mem ((c.tc : Thread Cert.AdamOutIdeal.nD Cert.AdamOutIdeal.τ).loc Cert.AdamOutIdeal.main_arg15) = m ((c.tc : Thread Cert.AdamOutIdeal.nD Cert.AdamOutIdeal.τ).loc Cert.AdamOutIdeal.main_arg15))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6)
      ∧ r.2.mem ((c.tc : Thread Cert.AdamOutRefIdeal.nD Cert.AdamOutRefIdeal.τ).loc Cert.AdamOutRefIdeal.main_arg7) = m ((c.tc : Thread Cert.AdamOutRefIdeal.nD Cert.AdamOutRefIdeal.τ).loc Cert.AdamOutRefIdeal.main_arg7)
      ∧ r.2.mem ((c.tc : Thread Cert.AdamOutRefIdeal.nD Cert.AdamOutRefIdeal.τ).loc Cert.AdamOutRefIdeal.main_arg8) = m ((c.tc : Thread Cert.AdamOutRefIdeal.nD Cert.AdamOutRefIdeal.τ).loc Cert.AdamOutRefIdeal.main_arg8)
      ∧ r.2.mem ((c.tc : Thread Cert.AdamOutRefIdeal.nD Cert.AdamOutRefIdeal.τ).loc Cert.AdamOutRefIdeal.main_arg9) = m ((c.tc : Thread Cert.AdamOutRefIdeal.nD Cert.AdamOutRefIdeal.τ).loc Cert.AdamOutRefIdeal.main_arg9)
      ∧ r.2.mem ((c.tc : Thread Cert.AdamOutRefIdeal.nD Cert.AdamOutRefIdeal.τ).loc Cert.AdamOutRefIdeal.main_arg10) = m ((c.tc : Thread Cert.AdamOutRefIdeal.nD Cert.AdamOutRefIdeal.τ).loc Cert.AdamOutRefIdeal.main_arg10)
      ∧ r.2.mem ((c.tc : Thread Cert.AdamOutRefIdeal.nD Cert.AdamOutRefIdeal.τ).loc Cert.AdamOutRefIdeal.main_arg11) = m ((c.tc : Thread Cert.AdamOutRefIdeal.nD Cert.AdamOutRefIdeal.τ).loc Cert.AdamOutRefIdeal.main_arg11)
      ∧ r.2.mem ((c.tc : Thread Cert.AdamOutRefIdeal.nD Cert.AdamOutRefIdeal.τ).loc Cert.AdamOutRefIdeal.main_arg12) = m ((c.tc : Thread Cert.AdamOutRefIdeal.nD Cert.AdamOutRefIdeal.τ).loc Cert.AdamOutRefIdeal.main_arg12)
      ∧ r.2.mem ((c.tc : Thread Cert.AdamOutRefIdeal.nD Cert.AdamOutRefIdeal.τ).loc Cert.AdamOutRefIdeal.main_arg13) = m ((c.tc : Thread Cert.AdamOutRefIdeal.nD Cert.AdamOutRefIdeal.τ).loc Cert.AdamOutRefIdeal.main_arg13)
      ∧ r.2.mem ((c.tc : Thread Cert.AdamOutRefIdeal.nD Cert.AdamOutRefIdeal.τ).loc Cert.AdamOutRefIdeal.main_arg14) = m ((c.tc : Thread Cert.AdamOutRefIdeal.nD Cert.AdamOutRefIdeal.τ).loc Cert.AdamOutRefIdeal.main_arg14)
      ∧ r.2.mem ((c.tc : Thread Cert.AdamOutRefIdeal.nD Cert.AdamOutRefIdeal.τ).loc Cert.AdamOutRefIdeal.main_arg15) = m ((c.tc : Thread Cert.AdamOutRefIdeal.nD Cert.AdamOutRefIdeal.τ).loc Cert.AdamOutRefIdeal.main_arg15))
      ∧ r.2.sem = fun _ => 0)

def preserves_InBwd_InBwdIdeal : Prop :=
  True

def algebraic_InBwdIdeal_InRefIdeal [hInBwdIdeal : Cert.InBwdIdeal.Facts] [hInRefIdeal : Cert.InRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v42) = v0 c
          ∧ r.2.mem ((c.tc : Thread Cert.InRefIdeal.nD Cert.InRefIdeal.τ).loc Cert.InRefIdeal.main_v43) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_v74) = v1 c
          ∧ r.2.mem ((c.tc : Thread Cert.FfnRefIdeal.nD Cert.FfnRefIdeal.τ).loc Cert.FfnRefIdeal.main_v72) = v2 c
          ∧ r.2.mem ((c.tc : Thread Cert.FfnRefIdeal.nD Cert.FfnRefIdeal.τ).loc Cert.FfnRefIdeal.main_v75) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_WffnBwd_WffnBwdIdeal : Prop :=
  True

def algebraic_WffnBwdIdeal_WffnRefIdeal [hWffnBwdIdeal : Cert.WffnBwdIdeal.Facts] [hWffnRefIdeal : Cert.WffnRefIdeal.Facts] : Prop :=
  ∀ (m : (ℓ : Loc Cert.WffnBwdIdeal.nD Cert.WffnBwdIdeal.τ Cert.WffnBwdIdeal.sig) → Buf (Elt Ideal) ℓ) (g : Dev Cert.WffnBwdIdeal.nD → PrngReg)
    (m' : (ℓ : Loc Cert.WffnRefIdeal.nD Cert.WffnRefIdeal.τ Cert.WffnRefIdeal.sig) → Buf (Elt Ideal) ℓ) (g' : Dev Cert.WffnRefIdeal.nD → PrngReg), Pre_WffnBwdIdeal m →
    (∀ c : Dev Cert.WffnBwdIdeal.nD,
      m' ((c.tc : Thread Cert.WffnRefIdeal.nD Cert.WffnRefIdeal.τ).loc Cert.WffnRefIdeal.main_arg0) = m ((c.tc : Thread Cert.WffnBwdIdeal.nD Cert.WffnBwdIdeal.τ).loc Cert.WffnBwdIdeal.main_arg0)
      ∧ m' ((c.tc : Thread Cert.WffnRefIdeal.nD Cert.WffnRefIdeal.τ).loc Cert.WffnRefIdeal.main_arg1) = m ((c.tc : Thread Cert.WffnBwdIdeal.nD Cert.WffnBwdIdeal.τ).loc Cert.WffnBwdIdeal.main_arg1)
      ∧ m' ((c.tc : Thread Cert.WffnRefIdeal.nD Cert.WffnRefIdeal.τ).loc Cert.WffnRefIdeal.main_arg2) = m ((c.tc : Thread Cert.WffnBwdIdeal.nD Cert.WffnBwdIdeal.τ).loc Cert.WffnBwdIdeal.main_arg2)
      ∧ m' ((c.tc : Thread Cert.WffnRefIdeal.nD Cert.WffnRefIdeal.τ).loc Cert.WffnRefIdeal.main_arg3) = m ((c.tc : Thread Cert.WffnBwdIdeal.nD Cert.WffnBwdIdeal.τ).loc Cert.WffnBwdIdeal.main_arg3)
      ∧ m' ((c.tc : Thread Cert.WffnRefIdeal.nD Cert.WffnRefIdeal.τ).loc Cert.WffnRefIdeal.main_arg4) = m ((c.tc : Thread Cert.WffnBwdIdeal.nD Cert.WffnBwdIdeal.τ).loc Cert.WffnBwdIdeal.main_arg4)
      ∧ m' ((c.tc : Thread Cert.WffnRefIdeal.nD Cert.WffnRefIdeal.τ).loc Cert.WffnRefIdeal.main_arg5) = m ((c.tc : Thread Cert.WffnBwdIdeal.nD Cert.WffnBwdIdeal.τ).loc Cert.WffnBwdIdeal.main_arg5)
      ∧ m' ((c.tc : Thread Cert.WffnRefIdeal.nD Cert.WffnRefIdeal.τ).loc Cert.WffnRefIdeal.main_arg6) = m ((c.tc : Thread Cert.WffnBwdIdeal.nD Cert.WffnBwdIdeal.τ).loc Cert.WffnBwdIdeal.main_arg6)) →
    ∃ (v0 : (c : Dev Cert.WffnBwdIdeal.nD) → Buf (Elt Ideal) ((c.tc : Thread Cert.WffnBwdIdeal.nD Cert.WffnBwdIdeal.τ).loc Cert.WffnBwdIdeal.main_v22_0)) (v1 : (c : Dev Cert.WffnBwdIdeal.nD) → Buf (Elt Ideal) ((c.tc : Thread Cert.WffnBwdIdeal.nD Cert.WffnBwdIdeal.τ).loc Cert.WffnBwdIdeal.main_v22_1)) (v2 : (c : Dev Cert.WffnBwdIdeal.nD) → Buf (Elt Ideal) ((c.tc : Thread Cert.WffnBwdIdeal.nD Cert.WffnBwdIdeal.τ).loc Cert.WffnBwdIdeal.main_v22_2)),
      θ_run (Cert.WffnBwdIdeal.defs (F := Ideal)) (onTc (τ := Cert.WffnBwdIdeal.τ) (Cert.WffnBwdIdeal.main (F := Ideal))) ⟨m, fun _ => 0, g⟩ (fun r => ∀ c : Dev Cert.WffnBwdIdeal.nD,
          r.2.mem ((c.tc : Thread Cert.WffnBwdIdeal.nD Cert.WffnBwdIdeal.τ).loc Cert.WffnBwdIdeal.main_v22_0) = v0 c
          ∧ r.2.mem ((c.tc : Thread Cert.WffnBwdIdeal.nD Cert.WffnBwdIdeal.τ).loc Cert.WffnBwdIdeal.main_v22_1) = v1 c
          ∧ r.2.mem ((c.tc : Thread Cert.WffnBwdIdeal.nD Cert.WffnBwdIdeal.τ).loc Cert.WffnBwdIdeal.main_v22_2) = v2 c
          ∧ r.2.mem ((c.tc : Thread Cert.WffnBwdIdeal.nD Cert.WffnBwdIdeal.τ).loc Cert.WffnBwdIdeal.main_arg0) = m ((c.tc : Thread Cert.WffnBwdIdeal.nD Cert.WffnBwdIdeal.τ).loc Cert.WffnBwdIdeal.main_arg0)
          ∧ r.2.mem ((c.tc : Thread Cert.WffnBwdIdeal.nD Cert.WffnBwdIdeal.τ).loc Cert.WffnBwdIdeal.main_arg1) = m ((c.tc : Thread Cert.WffnBwdIdeal.nD Cert.WffnBwdIdeal.τ).loc Cert.WffnBwdIdeal.main_arg1)
          ∧ r.2.mem ((c.tc : Thread Cert.WffnBwdIdeal.nD Cert.WffnBwdIdeal.τ).loc Cert.WffnBwdIdeal.main_arg2) = m ((c.tc : Thread Cert.WffnBwdIdeal.nD Cert.WffnBwdIdeal.τ).loc Cert.WffnBwdIdeal.main_arg2)
          ∧ r.2.mem ((c.tc : Thread Cert.WffnBwdIdeal.nD Cert.WffnBwdIdeal.τ).loc Cert.WffnBwdIdeal.main_arg3) = m ((c.tc : Thread Cert.WffnBwdIdeal.nD Cert.WffnBwdIdeal.τ).loc Cert.WffnBwdIdeal.main_arg3)
          ∧ r.2.mem ((c.tc : Thread Cert.WffnBwdIdeal.nD Cert.WffnBwdIdeal.τ).loc Cert.WffnBwdIdeal.main_arg4) = m ((c.tc : Thread Cert.WffnBwdIdeal.nD Cert.WffnBwdIdeal.τ).loc Cert.WffnBwdIdeal.main_arg4)
          ∧ r.2.mem ((c.tc : Thread Cert.WffnBwdIdeal.nD Cert.WffnBwdIdeal.τ).loc Cert.WffnBwdIdeal.main_arg5) = m ((c.tc : Thread Cert.WffnBwdIdeal.nD Cert.WffnBwdIdeal.τ).loc Cert.WffnBwdIdeal.main_arg5)
          ∧ r.2.mem ((c.tc : Thread Cert.WffnBwdIdeal.nD Cert.WffnBwdIdeal.τ).loc Cert.WffnBwdIdeal.main_arg6) = m ((c.tc : Thread Cert.WffnBwdIdeal.nD Cert.WffnBwdIdeal.τ).loc Cert.WffnBwdIdeal.main_arg6))
      ∧ θ_run (Cert.WffnRefIdeal.defs (F := Ideal)) (onTc (τ := Cert.WffnRefIdeal.τ) (Cert.WffnRefIdeal.main (F := Ideal))) ⟨m', fun _ => 0, g'⟩ (fun r => ∀ c : Dev Cert.WffnRefIdeal.nD,
          r.2.mem ((c.tc : Thread Cert.WffnRefIdeal.nD Cert.WffnRefIdeal.τ).loc Cert.WffnRefIdeal.main_v30) = v0 c
          ∧ r.2.mem ((c.tc : Thread Cert.WffnRefIdeal.nD Cert.WffnRefIdeal.τ).loc Cert.WffnRefIdeal.main_v32) = v1 c
          ∧ r.2.mem ((c.tc : Thread Cert.WffnRefIdeal.nD Cert.WffnRefIdeal.τ).loc Cert.WffnRefIdeal.main_v33) = v2 c
          ∧ r.2.mem ((c.tc : Thread Cert.WffnRefIdeal.nD Cert.WffnRefIdeal.τ).loc Cert.WffnRefIdeal.main_arg0) = m' ((c.tc : Thread Cert.WffnRefIdeal.nD Cert.WffnRefIdeal.τ).loc Cert.WffnRefIdeal.main_arg0)
          ∧ r.2.mem ((c.tc : Thread Cert.WffnRefIdeal.nD Cert.WffnRefIdeal.τ).loc Cert.WffnRefIdeal.main_arg1) = m' ((c.tc : Thread Cert.WffnRefIdeal.nD Cert.WffnRefIdeal.τ).loc Cert.WffnRefIdeal.main_arg1)
          ∧ r.2.mem ((c.tc : Thread Cert.WffnRefIdeal.nD Cert.WffnRefIdeal.τ).loc Cert.WffnRefIdeal.main_arg2) = m' ((c.tc : Thread Cert.WffnRefIdeal.nD Cert.WffnRefIdeal.τ).loc Cert.WffnRefIdeal.main_arg2)
          ∧ r.2.mem ((c.tc : Thread Cert.WffnRefIdeal.nD Cert.WffnRefIdeal.τ).loc Cert.WffnRefIdeal.main_arg3) = m' ((c.tc : Thread Cert.WffnRefIdeal.nD Cert.WffnRefIdeal.τ).loc Cert.WffnRefIdeal.main_arg3)
          ∧ r.2.mem ((c.tc : Thread Cert.WffnRefIdeal.nD Cert.WffnRefIdeal.τ).loc Cert.WffnRefIdeal.main_arg4) = m' ((c.tc : Thread Cert.WffnRefIdeal.nD Cert.WffnRefIdeal.τ).loc Cert.WffnRefIdeal.main_arg4)
          ∧ r.2.mem ((c.tc : Thread Cert.WffnRefIdeal.nD Cert.WffnRefIdeal.τ).loc Cert.WffnRefIdeal.main_arg5) = m' ((c.tc : Thread Cert.WffnRefIdeal.nD Cert.WffnRefIdeal.τ).loc Cert.WffnRefIdeal.main_arg5)
          ∧ r.2.mem ((c.tc : Thread Cert.WffnRefIdeal.nD Cert.WffnRefIdeal.τ).loc Cert.WffnRefIdeal.main_arg6) = m' ((c.tc : Thread Cert.WffnRefIdeal.nD Cert.WffnRefIdeal.τ).loc Cert.WffnRefIdeal.main_arg6))

def preserves_WinBwd_WinBwdIdeal : Prop :=
  True

def algebraic_WinBwdIdeal_WinRefIdeal [hWinBwdIdeal : Cert.WinBwdIdeal.Facts] [hWinRefIdeal : Cert.WinRefIdeal.Facts] : Prop :=
  ∀ (m : (ℓ : Loc Cert.WinBwdIdeal.nD Cert.WinBwdIdeal.τ Cert.WinBwdIdeal.sig) → Buf (Elt Ideal) ℓ) (g : Dev Cert.WinBwdIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinBwdIdeal m →
    (∀ c : Dev Cert.WinBwdIdeal.nD,
      m' ((c.tc : Thread Cert.WinRefIdeal.nD Cert.WinRefIdeal.τ).loc Cert.WinRefIdeal.main_arg0) = m ((c.tc : Thread Cert.WinBwdIdeal.nD Cert.WinBwdIdeal.τ).loc Cert.WinBwdIdeal.main_arg0)
      ∧ m' ((c.tc : Thread Cert.WinRefIdeal.nD Cert.WinRefIdeal.τ).loc Cert.WinRefIdeal.main_arg1) = m ((c.tc : Thread Cert.WinBwdIdeal.nD Cert.WinBwdIdeal.τ).loc Cert.WinBwdIdeal.main_arg1)
      ∧ m' ((c.tc : Thread Cert.WinRefIdeal.nD Cert.WinRefIdeal.τ).loc Cert.WinRefIdeal.main_arg2) = m ((c.tc : Thread Cert.WinBwdIdeal.nD Cert.WinBwdIdeal.τ).loc Cert.WinBwdIdeal.main_arg2)
      ∧ m' ((c.tc : Thread Cert.WinRefIdeal.nD Cert.WinRefIdeal.τ).loc Cert.WinRefIdeal.main_arg3) = m ((c.tc : Thread Cert.WinBwdIdeal.nD Cert.WinBwdIdeal.τ).loc Cert.WinBwdIdeal.main_arg3)
      ∧ m' ((c.tc : Thread Cert.WinRefIdeal.nD Cert.WinRefIdeal.τ).loc Cert.WinRefIdeal.main_arg4) = m ((c.tc : Thread Cert.WinBwdIdeal.nD Cert.WinBwdIdeal.τ).loc Cert.WinBwdIdeal.main_arg4)
      ∧ m' ((c.tc : Thread Cert.WinRefIdeal.nD Cert.WinRefIdeal.τ).loc Cert.WinRefIdeal.main_arg5) = m ((c.tc : Thread Cert.WinBwdIdeal.nD Cert.WinBwdIdeal.τ).loc Cert.WinBwdIdeal.main_arg5)
      ∧ m' ((c.tc : Thread Cert.WinRefIdeal.nD Cert.WinRefIdeal.τ).loc Cert.WinRefIdeal.main_arg6) = m ((c.tc : Thread Cert.WinBwdIdeal.nD Cert.WinBwdIdeal.τ).loc Cert.WinBwdIdeal.main_arg6)
      ∧ m' ((c.tc : Thread Cert.WinRefIdeal.nD Cert.WinRefIdeal.τ).loc Cert.WinRefIdeal.main_arg7) = m ((c.tc : Thread Cert.WinBwdIdeal.nD Cert.WinBwdIdeal.τ).loc Cert.WinBwdIdeal.main_arg7)
      ∧ m' ((c.tc : Thread Cert.WinRefIdeal.nD Cert.WinRefIdeal.τ).loc Cert.WinRefIdeal.main_arg8) = m ((c.tc : Thread Cert.WinBwdIdeal.nD Cert.WinBwdIdeal.τ).loc Cert.WinBwdIdeal.main_arg8)
      ∧ m' ((c.tc : Thread Cert.WinRefIdeal.nD Cert.WinRefIdeal.τ).loc Cert.WinRefIdeal.main_arg9) = m ((c.tc : Thread Cert.WinBwdIdeal.nD Cert.WinBwdIdeal.τ).loc Cert.WinBwdIdeal.main_arg9)
      ∧ m' ((c.tc : Thread Cert.WinRefIdeal.nD Cert.WinRefIdeal.τ).loc Cert.WinRefIdeal.main_arg10) = m ((c.tc : Thread Cert.WinBwdIdeal.nD Cert.WinBwdIdeal.τ).loc Cert.WinBwdIdeal.main_arg10)
      ∧ m' ((c.tc : Thread Cert.WinRefIdeal.nD Cert.WinRefIdeal.τ).loc Cert.WinRefIdeal.main_arg11) = m ((c.tc : Thread Cert.WinBwdIdeal.nD Cert.WinBwdIdeal.τ).loc Cert.WinBwdIdeal.main_arg11)
      ∧ m' ((c.tc : Thread Cert.WinRefIdeal.nD Cert.WinRefIdeal.τ).loc Cert.WinRefIdeal.main_arg12) = m ((c.tc : Thread Cert.WinBwdIdeal.nD Cert.WinBwdIdeal.τ).loc Cert.WinBwdIdeal.main_arg12)) →
    ∃ (v0 : (c : Dev Cert.WinBwdIdeal.nD) → Buf (Elt Ideal) ((c.tc : Thread Cert.WinBwdIdeal.nD Cert.WinBwdIdeal.τ).loc Cert.WinBwdIdeal.main_v15_0)) (v1 : (c : Dev Cert.WinBwdIdeal.nD) → Buf (Elt Ideal) ((c.tc : Thread Cert.WinBwdIdeal.nD Cert.WinBwdIdeal.τ).loc Cert.WinBwdIdeal.main_v15_1)) (v2 : (c : Dev Cert.WinBwdIdeal.nD) → Buf (Elt Ideal) ((c.tc : Thread Cert.WinBwdIdeal.nD Cert.WinBwdIdeal.τ).loc Cert.WinBwdIdeal.main_v15_2)) (v3 : (c : Dev Cert.WinBwdIdeal.nD) → Buf (Elt Ideal) ((c.tc : Thread Cert.WinBwdIdeal.nD Cert.WinBwdIdeal.τ).loc Cert.WinBwdIdeal.main_v15_3)) (v4 : (c : Dev Cert.WinBwdIdeal.nD) → Buf (Elt Ideal) ((c.tc : Thread Cert.WinBwdIdeal.nD Cert.WinBwdIdeal.τ).loc Cert.WinBwdIdeal.main_v15_4)) (v5 : (c : Dev Cert.WinBwdIdeal.nD) → Buf (Elt Ideal) ((c.tc : Thread Cert.WinBwdIdeal.nD Cert.WinBwdIdeal.τ).loc Cert.WinBwdIdeal.main_v15_5)) (v6 : (c : Dev Cert.WinBwdIdeal.nD) → Buf (Elt Ideal) ((c.tc : Thread Cert.WinBwdIdeal.nD Cert.WinBwdIdeal.τ).loc Cert.WinBwdIdeal.main_v15_6)) (v7 : (c : Dev Cert.WinBwdIdeal.nD) → Buf (Elt Ideal) ((c.tc : Thread Cert.WinBwdIdeal.nD Cert.WinBwdIdeal.τ).loc Cert.WinBwdIdeal.main_v15_7)) (v8 : (c : Dev Cert.WinBwdIdeal.nD) → Buf (Elt Ideal) ((c.tc : Thread Cert.WinBwdIdeal.nD Cert.WinBwdIdeal.τ).loc Cert.WinBwdIdeal.main_v15_8)),
      θ_run (Cert.WinBwdIdeal.defs (F := Ideal)) (onTc (τ := Cert.WinBwdIdeal.τ) (Cert.WinBwdIdeal.main (F := Ideal))) ⟨m, fun _ => 0, g⟩ (fun r => ∀ c : Dev Cert.WinBwdIdeal.nD,
          r.2.mem ((c.tc : Thread Cert.WinBwdIdeal.nD Cert.WinBwdIdeal.τ).loc Cert.WinBwdIdeal.main_v15_0) = v0 c
          ∧ r.2.mem ((c.tc : Thread Cert.WinBwdIdeal.nD Cert.WinBwdIdeal.τ).loc Cert.WinBwdIdeal.main_v15_1) = v1 c
          ∧ r.2.mem ((c.tc : Thread Cert.WinBwdIdeal.nD Cert.WinBwdIdeal.τ).loc Cert.WinBwdIdeal.main_v15_2) = v2 c
          ∧ r.2.mem ((c.tc : Thread Cert.WinBwdIdeal.nD Cert.WinBwdIdeal.τ).loc Cert.WinBwdIdeal.main_v15_3) = v3 c
          ∧ r.2.mem ((c.tc : Thread Cert.WinBwdIdeal.nD Cert.WinBwdIdeal.τ).loc Cert.WinBwdIdeal.main_v15_4) = v4 c
          ∧ r.2.mem ((c.tc : Thread Cert.WinBwdIdeal.nD Cert.WinBwdIdeal.τ).loc Cert.WinBwdIdeal.main_v15_5) = v5 c
          ∧ r.2.mem ((c.tc : Thread Cert.WinBwdIdeal.nD Cert.WinBwdIdeal.τ).loc Cert.WinBwdIdeal.main_v15_6) = v6 c
          ∧ r.2.mem ((c.tc : Thread Cert.WinBwdIdeal.nD Cert.WinBwdIdeal.τ).loc Cert.WinBwdIdeal.main_v15_7) = v7 c
          ∧ r.2.mem ((c.tc : Thread Cert.WinBwdIdeal.nD Cert.WinBwdIdeal.τ).loc Cert.WinBwdIdeal.main_v15_8) = v8 c
          ∧ r.2.mem ((c.tc : Thread Cert.WinBwdIdeal.nD Cert.WinBwdIdeal.τ).loc Cert.WinBwdIdeal.main_arg0) = m ((c.tc : Thread Cert.WinBwdIdeal.nD Cert.WinBwdIdeal.τ).loc Cert.WinBwdIdeal.main_arg0)
          ∧ r.2.mem ((c.tc : Thread Cert.WinBwdIdeal.nD Cert.WinBwdIdeal.τ).loc Cert.WinBwdIdeal.main_arg1) = m ((c.tc : Thread Cert.WinBwdIdeal.nD Cert.WinBwdIdeal.τ).loc Cert.WinBwdIdeal.main_arg1)
          ∧ r.2.mem ((c.tc : Thread Cert.WinBwdIdeal.nD Cert.WinBwdIdeal.τ).loc Cert.WinBwdIdeal.main_arg2) = m ((c.tc : Thread Cert.WinBwdIdeal.nD Cert.WinBwdIdeal.τ).loc Cert.WinBwdIdeal.main_arg2)
          ∧ r.2.mem ((c.tc : Thread Cert.WinBwdIdeal.nD Cert.WinBwdIdeal.τ).loc Cert.WinBwdIdeal.main_arg3) = m ((c.tc : Thread Cert.WinBwdIdeal.nD Cert.WinBwdIdeal.τ).loc Cert.WinBwdIdeal.main_arg3)
          ∧ r.2.mem ((c.tc : Thread Cert.WinBwdIdeal.nD Cert.WinBwdIdeal.τ).loc Cert.WinBwdIdeal.main_arg4) = m ((c.tc : Thread Cert.WinBwdIdeal.nD Cert.WinBwdIdeal.τ).loc Cert.WinBwdIdeal.main_arg4)
          ∧ r.2.mem ((c.tc : Thread Cert.WinBwdIdeal.nD Cert.WinBwdIdeal.τ).loc Cert.WinBwdIdeal.main_arg5) = m ((c.tc : Thread Cert.WinBwdIdeal.nD Cert.WinBwdIdeal.τ).loc Cert.WinBwdIdeal.main_arg5)
          ∧ r.2.mem ((c.tc : Thread Cert.WinBwdIdeal.nD Cert.WinBwdIdeal.τ).loc Cert.WinBwdIdeal.main_arg6) = m ((c.tc : Thread Cert.WinBwdIdeal.nD Cert.WinBwdIdeal.τ).loc Cert.WinBwdIdeal.main_arg6)
          ∧ r.2.mem ((c.tc : Thread Cert.WinBwdIdeal.nD Cert.WinBwdIdeal.τ).loc Cert.WinBwdIdeal.main_arg7) = m ((c.tc : Thread Cert.WinBwdIdeal.nD Cert.WinBwdIdeal.τ).loc Cert.WinBwdIdeal.main_arg7)
          ∧ r.2.mem ((c.tc : Thread Cert.WinBwdIdeal.nD Cert.WinBwdIdeal.τ).loc Cert.WinBwdIdeal.main_arg8) = m ((c.tc : Thread Cert.WinBwdIdeal.nD Cert.WinBwdIdeal.τ).loc Cert.WinBwdIdeal.main_arg8)
          ∧ r.2.mem ((c.tc : Thread Cert.WinBwdIdeal.nD Cert.WinBwdIdeal.τ).loc Cert.WinBwdIdeal.main_arg9) = m ((c.tc : Thread Cert.WinBwdIdeal.nD Cert.WinBwdIdeal.τ).loc Cert.WinBwdIdeal.main_arg9)
          ∧ r.2.mem ((c.tc : Thread Cert.WinBwdIdeal.nD Cert.WinBwdIdeal.τ).loc Cert.WinBwdIdeal.main_arg10) = m ((c.tc : Thread Cert.WinBwdIdeal.nD Cert.WinBwdIdeal.τ).loc Cert.WinBwdIdeal.main_arg10)
          ∧ r.2.mem ((c.tc : Thread Cert.WinBwdIdeal.nD Cert.WinBwdIdeal.τ).loc Cert.WinBwdIdeal.main_arg11) = m ((c.tc : Thread Cert.WinBwdIdeal.nD Cert.WinBwdIdeal.τ).loc Cert.WinBwdIdeal.main_arg11)
          ∧ r.2.mem ((c.tc : Thread Cert.WinBwdIdeal.nD Cert.WinBwdIdeal.τ).loc Cert.WinBwdIdeal.main_arg12) = m ((c.tc : Thread Cert.WinBwdIdeal.nD Cert.WinBwdIdeal.τ).loc Cert.WinBwdIdeal.main_arg12))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v26) = v0 c
          ∧ r.2.mem ((c.tc : Thread Cert.WinRefIdeal.nD Cert.WinRefIdeal.τ).loc Cert.WinRefIdeal.main_v22) = v1 c
          ∧ r.2.mem ((c.tc : Thread Cert.WinRefIdeal.nD Cert.WinRefIdeal.τ).loc Cert.WinRefIdeal.main_v50) = v2 c
          ∧ r.2.mem ((c.tc : Thread Cert.WinRefIdeal.nD Cert.WinRefIdeal.τ).loc Cert.WinRefIdeal.main_v31) = v3 c
          ∧ r.2.mem ((c.tc : Thread Cert.WinRefIdeal.nD Cert.WinRefIdeal.τ).loc Cert.WinRefIdeal.main_v37) = v4 c
          ∧ r.2.mem ((c.tc : Thread Cert.WinRefIdeal.nD Cert.WinRefIdeal.τ).loc Cert.WinRefIdeal.main_v24) = v5 c
          ∧ r.2.mem ((c.tc : Thread Cert.WinRefIdeal.nD Cert.WinRefIdeal.τ).loc Cert.WinRefIdeal.main_v74) = v6 c
          ∧ r.2.mem ((c.tc : Thread Cert.WinRefIdeal.nD Cert.WinRefIdeal.τ).loc Cert.WinRefIdeal.main_v55) = v7 c
          ∧ r.2.mem ((c.tc : Thread Cert.WinRefIdeal.nD Cert.WinRefIdeal.τ).loc Cert.WinRefIdeal.main_v61) = v8 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5)
          ∧ r.2.mem ((c.tc : Thread Cert.WinRefIdeal.nD Cert.WinRefIdeal.τ).loc Cert.WinRefIdeal.main_arg6) = m' ((c.tc : Thread Cert.WinRefIdeal.nD Cert.WinRefIdeal.τ).loc Cert.WinRefIdeal.main_arg6)
          ∧ r.2.mem ((c.tc : Thread Cert.WinRefIdeal.nD Cert.WinRefIdeal.τ).loc Cert.WinRefIdeal.main_arg7) = m' ((c.tc : Thread Cert.WinRefIdeal.nD Cert.WinRefIdeal.τ).loc Cert.WinRefIdeal.main_arg7)
          ∧ r.2.mem ((c.tc : Thread Cert.WinRefIdeal.nD Cert.WinRefIdeal.τ).loc Cert.WinRefIdeal.main_arg8) = m' ((c.tc : Thread Cert.WinRefIdeal.nD Cert.WinRefIdeal.τ).loc Cert.WinRefIdeal.main_arg8)
          ∧ r.2.mem ((c.tc : Thread Cert.WinRefIdeal.nD Cert.WinRefIdeal.τ).loc Cert.WinRefIdeal.main_arg9) = m' ((c.tc : Thread Cert.WinRefIdeal.nD Cert.WinRefIdeal.τ).loc Cert.WinRefIdeal.main_arg9)
          ∧ r.2.mem ((c.tc : Thread Cert.WinRefIdeal.nD Cert.WinRefIdeal.τ).loc Cert.WinRefIdeal.main_arg10) = m' ((c.tc : Thread Cert.WinRefIdeal.nD Cert.WinRefIdeal.τ).loc Cert.WinRefIdeal.main_arg10)
          ∧ r.2.mem ((c.tc : Thread Cert.WinRefIdeal.nD Cert.WinRefIdeal.τ).loc Cert.WinRefIdeal.main_arg11) = m' ((c.tc : Thread Cert.WinRefIdeal.nD Cert.WinRefIdeal.τ).loc Cert.WinRefIdeal.main_arg11)
          ∧ r.2.mem ((c.tc : Thread Cert.WinRefIdeal.nD Cert.WinRefIdeal.τ).loc Cert.WinRefIdeal.main_arg12) = m' ((c.tc : Thread Cert.WinRefIdeal.nD Cert.WinRefIdeal.τ).loc Cert.WinRefIdeal.main_arg12))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_LossFwd_LossFwdIdeal : Prop :=
  True

def algebraic_LossFwdIdeal_LossRefIdeal [hLossFwdIdeal : Cert.LossFwdIdeal.Facts] [hLossRefIdeal : Cert.LossRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossFwdIdeal m →
    (∀ c : Dev Cert.LossFwdIdeal.nD,
      m' ((c.tc : Thread Cert.LossRefIdeal.nD Cert.LossRefIdeal.τ).loc Cert.LossRefIdeal.main_arg0) = m ((c.tc : Thread Cert.LossFwdIdeal.nD Cert.LossFwdIdeal.τ).loc Cert.LossFwdIdeal.main_arg0)
      ∧ m' ((c.tc : Thread Cert.LossRefIdeal.nD Cert.LossRefIdeal.τ).loc Cert.LossRefIdeal.main_arg1) = m ((c.tc : Thread Cert.LossFwdIdeal.nD Cert.LossFwdIdeal.τ).loc Cert.LossFwdIdeal.main_arg1)
      ∧ m' ((c.tc : Thread Cert.LossRefIdeal.nD Cert.LossRefIdeal.τ).loc Cert.LossRefIdeal.main_arg2) = m ((c.tc : Thread Cert.LossFwdIdeal.nD Cert.LossFwdIdeal.τ).loc Cert.LossFwdIdeal.main_arg2)
      ∧ m' ((c.tc : Thread Cert.LossRefIdeal.nD Cert.LossRefIdeal.τ).loc Cert.LossRefIdeal.main_arg3) = m ((c.tc : Thread Cert.LossFwdIdeal.nD Cert.LossFwdIdeal.τ).loc Cert.LossFwdIdeal.main_arg3)
      ∧ m' ((c.tc : Thread Cert.LossRefIdeal.nD Cert.LossRefIdeal.τ).loc Cert.LossRefIdeal.main_arg4) = m ((c.tc : Thread Cert.LossFwdIdeal.nD Cert.LossFwdIdeal.τ).loc Cert.LossFwdIdeal.main_arg4)
      ∧ m' ((c.tc : Thread Cert.LossRefIdeal.nD Cert.LossRefIdeal.τ).loc Cert.LossRefIdeal.main_arg5) = m ((c.tc : Thread Cert.LossFwdIdeal.nD Cert.LossFwdIdeal.τ).loc Cert.LossFwdIdeal.main_arg5)
      ∧ m' ((c.tc : Thread Cert.LossRefIdeal.nD Cert.LossRefIdeal.τ).loc Cert.LossRefIdeal.main_arg6) = m ((c.tc : Thread Cert.LossFwdIdeal.nD Cert.LossFwdIdeal.τ).loc Cert.LossFwdIdeal.main_arg6)) →
    ∃ (v0 : (c : Dev Cert.LossFwdIdeal.nD) → Buf (Elt Ideal) ((c.tc : Thread Cert.LossFwdIdeal.nD Cert.LossFwdIdeal.τ).loc Cert.LossFwdIdeal.main_v7_0)) (v1 : (c : Dev Cert.LossFwdIdeal.nD) → Buf (Elt Ideal) ((c.tc : Thread Cert.LossFwdIdeal.nD Cert.LossFwdIdeal.τ).loc Cert.LossFwdIdeal.main_v7_1)) (v2 : (c : Dev Cert.LossFwdIdeal.nD) → Buf (Elt Ideal) ((c.tc : Thread Cert.LossFwdIdeal.nD Cert.LossFwdIdeal.τ).loc Cert.LossFwdIdeal.main_v7_2)) (v3 : (c : Dev Cert.LossFwdIdeal.nD) → Buf (Elt Ideal) ((c.tc : Thread Cert.LossFwdIdeal.nD Cert.LossFwdIdeal.τ).loc Cert.LossFwdIdeal.main_v7_3)) (v4 : (c : Dev Cert.LossFwdIdeal.nD) → Buf (Elt Ideal) ((c.tc : Thread Cert.LossFwdIdeal.nD Cert.LossFwdIdeal.τ).loc Cert.LossFwdIdeal.main_v7_4)) (v5 : (c : Dev Cert.LossFwdIdeal.nD) → Buf (Elt Ideal) ((c.tc : Thread Cert.LossFwdIdeal.nD Cert.LossFwdIdeal.τ).loc Cert.LossFwdIdeal.main_v7_5)) (v6 : (c : Dev Cert.LossFwdIdeal.nD) → Buf (Elt Ideal) ((c.tc : Thread Cert.LossFwdIdeal.nD Cert.LossFwdIdeal.τ).loc Cert.LossFwdIdeal.main_v7_6)) (v7 : (c : Dev Cert.LossFwdIdeal.nD) → Buf (Elt Ideal) ((c.tc : Thread Cert.LossFwdIdeal.nD Cert.LossFwdIdeal.τ).loc Cert.LossFwdIdeal.main_v7_7)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v7_0) = v0 c
          ∧ r.2.mem ((c.tc : Thread Cert.LossFwdIdeal.nD Cert.LossFwdIdeal.τ).loc Cert.LossFwdIdeal.main_v7_1) = v1 c
          ∧ r.2.mem ((c.tc : Thread Cert.LossFwdIdeal.nD Cert.LossFwdIdeal.τ).loc Cert.LossFwdIdeal.main_v7_2) = v2 c
          ∧ r.2.mem ((c.tc : Thread Cert.LossFwdIdeal.nD Cert.LossFwdIdeal.τ).loc Cert.LossFwdIdeal.main_v7_3) = v3 c
          ∧ r.2.mem ((c.tc : Thread Cert.LossFwdIdeal.nD Cert.LossFwdIdeal.τ).loc Cert.LossFwdIdeal.main_v7_4) = v4 c
          ∧ r.2.mem ((c.tc : Thread Cert.LossFwdIdeal.nD Cert.LossFwdIdeal.τ).loc Cert.LossFwdIdeal.main_v7_5) = v5 c
          ∧ r.2.mem ((c.tc : Thread Cert.LossFwdIdeal.nD Cert.LossFwdIdeal.τ).loc Cert.LossFwdIdeal.main_v7_6) = v6 c
          ∧ r.2.mem ((c.tc : Thread Cert.LossFwdIdeal.nD Cert.LossFwdIdeal.τ).loc Cert.LossFwdIdeal.main_v7_7) = v7 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
          ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
          ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
          ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
          ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
          ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v75) = v0 c
          ∧ r.2.mem ((c.tc : Thread Cert.LossRefIdeal.nD Cert.LossRefIdeal.τ).loc Cert.LossRefIdeal.main_v76) = v1 c
          ∧ r.2.mem ((c.tc : Thread Cert.LossRefIdeal.nD Cert.LossRefIdeal.τ).loc Cert.LossRefIdeal.main_v77) = v2 c
          ∧ r.2.mem ((c.tc : Thread Cert.LossRefIdeal.nD Cert.LossRefIdeal.τ).loc Cert.LossRefIdeal.main_v78) = v3 c
          ∧ r.2.mem ((c.tc : Thread Cert.LossRefIdeal.nD Cert.LossRefIdeal.τ).loc Cert.LossRefIdeal.main_v79) = v4 c
          ∧ r.2.mem ((c.tc : Thread Cert.LossRefIdeal.nD Cert.LossRefIdeal.τ).loc Cert.LossRefIdeal.main_v80) = v5 c
          ∧ r.2.mem ((c.tc : Thread Cert.LossRefIdeal.nD Cert.LossRefIdeal.τ).loc Cert.LossRefIdeal.main_v73) = v6 c
          ∧ r.2.mem ((c.tc : Thread Cert.LossRefIdeal.nD Cert.LossRefIdeal.τ).loc Cert.LossRefIdeal.main_v82) = v7 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)
      ∧ m' ((c.tc : Thread Cert.AdamOutRefIdeal.nD Cert.AdamOutRefIdeal.τ).loc Cert.AdamOutRefIdeal.main_arg7) = m ((c.tc : Thread Cert.AdamOutIdeal.nD Cert.AdamOutIdeal.τ).loc Cert.AdamOutIdeal.main_arg7)
      ∧ m' ((c.tc : Thread Cert.AdamOutRefIdeal.nD Cert.AdamOutRefIdeal.τ).loc Cert.AdamOutRefIdeal.main_arg8) = m ((c.tc : Thread Cert.AdamOutIdeal.nD Cert.AdamOutIdeal.τ).loc Cert.AdamOutIdeal.main_arg8)
      ∧ m' ((c.tc : Thread Cert.AdamOutRefIdeal.nD Cert.AdamOutRefIdeal.τ).loc Cert.AdamOutRefIdeal.main_arg9) = m ((c.tc : Thread Cert.AdamOutIdeal.nD Cert.AdamOutIdeal.τ).loc Cert.AdamOutIdeal.main_arg9)
      ∧ m' ((c.tc : Thread Cert.AdamOutRefIdeal.nD Cert.AdamOutRefIdeal.τ).loc Cert.AdamOutRefIdeal.main_arg10) = m ((c.tc : Thread Cert.AdamOutIdeal.nD Cert.AdamOutIdeal.τ).loc Cert.AdamOutIdeal.main_arg10)
      ∧ m' ((c.tc : Thread Cert.AdamOutRefIdeal.nD Cert.AdamOutRefIdeal.τ).loc Cert.AdamOutRefIdeal.main_arg11) = m ((c.tc : Thread Cert.AdamOutIdeal.nD Cert.AdamOutIdeal.τ).loc Cert.AdamOutIdeal.main_arg11)
      ∧ m' ((c.tc : Thread Cert.AdamOutRefIdeal.nD Cert.AdamOutRefIdeal.τ).loc Cert.AdamOutRefIdeal.main_arg12) = m ((c.tc : Thread Cert.AdamOutIdeal.nD Cert.AdamOutIdeal.τ).loc Cert.AdamOutIdeal.main_arg12)
      ∧ m' ((c.tc : Thread Cert.AdamOutRefIdeal.nD Cert.AdamOutRefIdeal.τ).loc Cert.AdamOutRefIdeal.main_arg13) = m ((c.tc : Thread Cert.AdamOutIdeal.nD Cert.AdamOutIdeal.τ).loc Cert.AdamOutIdeal.main_arg13)
      ∧ m' ((c.tc : Thread Cert.AdamOutRefIdeal.nD Cert.AdamOutRefIdeal.τ).loc Cert.AdamOutRefIdeal.main_arg14) = m ((c.tc : Thread Cert.AdamOutIdeal.nD Cert.AdamOutIdeal.τ).loc Cert.AdamOutIdeal.main_arg14)
      ∧ m' ((c.tc : Thread Cert.AdamOutRefIdeal.nD Cert.AdamOutRefIdeal.τ).loc Cert.AdamOutRefIdeal.main_arg15) = m ((c.tc : Thread Cert.AdamOutIdeal.nD Cert.AdamOutIdeal.τ).loc Cert.AdamOutIdeal.main_arg15)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)) (v4 : (c : Dev Cert.AdamOutIdeal.nD) → Buf (Elt Ideal) ((c.tc : Thread Cert.AdamOutIdeal.nD Cert.AdamOutIdeal.τ).loc Cert.AdamOutIdeal.main_v0_4)) (v5 : (c : Dev Cert.AdamOutIdeal.nD) → Buf (Elt Ideal) ((c.tc : Thread Cert.AdamOutIdeal.nD Cert.AdamOutIdeal.τ).loc Cert.AdamOutIdeal.main_v0_5)) (v6 : (c : Dev Cert.AdamOutIdeal.nD) → Buf (Elt Ideal) ((c.tc : Thread Cert.AdamOutIdeal.nD Cert.AdamOutIdeal.τ).loc Cert.AdamOutIdeal.main_v0_6)) (v7 : (c : Dev Cert.AdamOutIdeal.nD) → Buf (Elt Ideal) ((c.tc : Thread Cert.AdamOutIdeal.nD Cert.AdamOutIdeal.τ).loc Cert.AdamOutIdeal.main_v0_7)) (v8 : (c : Dev Cert.AdamOutIdeal.nD) → Buf (Elt Ideal) ((c.tc : Thread Cert.AdamOutIdeal.nD Cert.AdamOutIdeal.τ).loc Cert.AdamOutIdeal.main_v0_8)) (v9 : (c : Dev Cert.AdamOutIdeal.nD) → Buf (Elt Ideal) ((c.tc : Thread Cert.AdamOutIdeal.nD Cert.AdamOutIdeal.τ).loc Cert.AdamOutIdeal.main_v0_9)) (v10 : (c : Dev Cert.AdamOutIdeal.nD) → Buf (Elt Ideal) ((c.tc : Thread Cert.AdamOutIdeal.nD Cert.AdamOutIdeal.τ).loc Cert.AdamOutIdeal.main_v0_10)) (v11 : (c : Dev Cert.AdamOutIdeal.nD) → Buf (Elt Ideal) ((c.tc : Thread Cert.AdamOutIdeal.nD Cert.AdamOutIdeal.τ).loc Cert.AdamOutIdeal.main_v0_11)) (v12 : (c : Dev Cert.AdamOutIdeal.nD) → Buf (Elt Ideal) ((c.tc : Thread Cert.AdamOutIdeal.nD Cert.AdamOutIdeal.τ).loc Cert.AdamOutIdeal.main_v0_12)) (v13 : (c : Dev Cert.AdamOutIdeal.nD) → Buf (Elt Ideal) ((c.tc : Thread Cert.AdamOutIdeal.nD Cert.AdamOutIdeal.τ).loc Cert.AdamOutIdeal.main_v0_13)) (v14 : (c : Dev Cert.AdamOutIdeal.nD) → Buf (Elt Ideal) ((c.tc : Thread Cert.AdamOutIdeal.nD Cert.AdamOutIdeal.τ).loc Cert.AdamOutIdeal.main_v0_14)) (v15 : (c : Dev Cert.AdamOutIdeal.nD) → Buf (Elt Ideal) ((c.tc : Thread Cert.AdamOutIdeal.nD Cert.AdamOutIdeal.τ).loc Cert.AdamOutIdeal.main_v0_15)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_v0_4) = v4 c
          ∧ r.2.mem ((c.tc : Thread Cert.AdamOutIdeal.nD Cert.AdamOutIdeal.τ).loc Cert.AdamOutIdeal.main_v0_5) = v5 c
          ∧ r.2.mem ((c.tc : Thread Cert.AdamOutIdeal.nD Cert.AdamOutIdeal.τ).loc Cert.AdamOutIdeal.main_v0_6) = v6 c
          ∧ r.2.mem ((c.tc : Thread Cert.AdamOutIdeal.nD Cert.AdamOutIdeal.τ).loc Cert.AdamOutIdeal.main_v0_7) = v7 c
          ∧ r.2.mem ((c.tc : Thread Cert.AdamOutIdeal.nD Cert.AdamOutIdeal.τ).loc Cert.AdamOutIdeal.main_v0_8) = v8 c
          ∧ r.2.mem ((c.tc : Thread Cert.AdamOutIdeal.nD Cert.AdamOutIdeal.τ).loc Cert.AdamOutIdeal.main_v0_9) = v9 c
          ∧ r.2.mem ((c.tc : Thread Cert.AdamOutIdeal.nD Cert.AdamOutIdeal.τ).loc Cert.AdamOutIdeal.main_v0_10) = v10 c
          ∧ r.2.mem ((c.tc : Thread Cert.AdamOutIdeal.nD Cert.AdamOutIdeal.τ).loc Cert.AdamOutIdeal.main_v0_11) = v11 c
          ∧ r.2.mem ((c.tc : Thread Cert.AdamOutIdeal.nD Cert.AdamOutIdeal.τ).loc Cert.AdamOutIdeal.main_v0_12) = v12 c
          ∧ r.2.mem ((c.tc : Thread Cert.AdamOutIdeal.nD Cert.AdamOutIdeal.τ).loc Cert.AdamOutIdeal.main_v0_13) = v13 c
          ∧ r.2.mem ((c.tc : Thread Cert.AdamOutIdeal.nD Cert.AdamOutIdeal.τ).loc Cert.AdamOutIdeal.main_v0_14) = v14 c
          ∧ r.2.mem ((c.tc : Thread Cert.AdamOutIdeal.nD Cert.AdamOutIdeal.τ).loc Cert.AdamOutIdeal.main_v0_15) = v15 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7)
          ∧ r.2.mem ((c.tc : Thread Cert.AdamOutIdeal.nD Cert.AdamOutIdeal.τ).loc Cert.AdamOutIdeal.main_arg8) = m ((c.tc : Thread Cert.AdamOutIdeal.nD Cert.AdamOutIdeal.τ).loc Cert.AdamOutIdeal.main_arg8)
          ∧ r.2.mem ((c.tc : Thread Cert.AdamOutIdeal.nD Cert.AdamOutIdeal.τ).loc Cert.AdamOutIdeal.main_arg9) = m ((c.tc : Thread Cert.AdamOutIdeal.nD Cert.AdamOutIdeal.τ).loc Cert.AdamOutIdeal.main_arg9)
          ∧ r.2.mem ((c.tc : Thread Cert.AdamOutIdeal.nD Cert.AdamOutIdeal.τ).loc Cert.AdamOutIdeal.main_arg10) = m ((c.tc : Thread Cert.AdamOutIdeal.nD Cert.AdamOutIdeal.τ).loc Cert.AdamOutIdeal.main_arg10)
          ∧ r.2.mem ((c.tc : Thread Cert.AdamOutIdeal.nD Cert.AdamOutIdeal.τ).loc Cert.AdamOutIdeal.main_arg11) = m ((c.tc : Thread Cert.AdamOutIdeal.nD Cert.AdamOutIdeal.τ).loc Cert.AdamOutIdeal.main_arg11)
          ∧ r.2.mem ((c.tc : Thread Cert.AdamOutIdeal.nD Cert.AdamOutIdeal.τ).loc Cert.AdamOutIdeal.main_arg12) = m ((c.tc : Thread Cert.AdamOutIdeal.nD Cert.AdamOutIdeal.τ).loc Cert.AdamOutIdeal.main_arg12)
          ∧ r.2.mem ((c.tc : Thread Cert.AdamOutIdeal.nD Cert.AdamOutIdeal.τ).loc Cert.AdamOutIdeal.main_arg13) = m ((c.tc : Thread Cert.AdamOutIdeal.nD Cert.AdamOutIdeal.τ).loc Cert.AdamOutIdeal.main_arg13)
          ∧ r.2.mem ((c.tc : Thread Cert.AdamOutIdeal.nD Cert.AdamOutIdeal.τ).loc Cert.AdamOutIdeal.main_arg14) = m ((c.tc : Thread Cert.AdamOutIdeal.nD Cert.AdamOutIdeal.τ).loc Cert.AdamOutIdeal.main_arg14)
          ∧ r.2.mem ((c.tc : Thread Cert.AdamOutIdeal.nD Cert.AdamOutIdeal.τ).loc Cert.AdamOutIdeal.main_arg15) = m ((c.tc : Thread Cert.AdamOutIdeal.nD Cert.AdamOutIdeal.τ).loc Cert.AdamOutIdeal.main_arg15))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_v3) = v4 c
          ∧ r.2.mem ((c.tc : Thread Cert.AdamOutRefIdeal.nD Cert.AdamOutRefIdeal.τ).loc Cert.AdamOutRefIdeal.main_v55) = v5 c
          ∧ r.2.mem ((c.tc : Thread Cert.AdamOutRefIdeal.nD Cert.AdamOutRefIdeal.τ).loc Cert.AdamOutRefIdeal.main_v36) = v6 c
          ∧ r.2.mem ((c.tc : Thread Cert.AdamOutRefIdeal.nD Cert.AdamOutRefIdeal.τ).loc Cert.AdamOutRefIdeal.main_v42) = v7 c
          ∧ r.2.mem ((c.tc : Thread Cert.AdamOutRefIdeal.nD Cert.AdamOutRefIdeal.τ).loc Cert.AdamOutRefIdeal.main_v5) = v8 c
          ∧ r.2.mem ((c.tc : Thread Cert.AdamOutRefIdeal.nD Cert.AdamOutRefIdeal.τ).loc Cert.AdamOutRefIdeal.main_v79) = v9 c
          ∧ r.2.mem ((c.tc : Thread Cert.AdamOutRefIdeal.nD Cert.AdamOutRefIdeal.τ).loc Cert.AdamOutRefIdeal.main_v60) = v10 c
          ∧ r.2.mem ((c.tc : Thread Cert.AdamOutRefIdeal.nD Cert.AdamOutRefIdeal.τ).loc Cert.AdamOutRefIdeal.main_v66) = v11 c
          ∧ r.2.mem ((c.tc : Thread Cert.AdamOutRefIdeal.nD Cert.AdamOutRefIdeal.τ).loc Cert.AdamOutRefIdeal.main_v7) = v12 c
          ∧ r.2.mem ((c.tc : Thread Cert.AdamOutRefIdeal.nD Cert.AdamOutRefIdeal.τ).loc Cert.AdamOutRefIdeal.main_v103) = v13 c
          ∧ r.2.mem ((c.tc : Thread Cert.AdamOutRefIdeal.nD Cert.AdamOutRefIdeal.τ).loc Cert.AdamOutRefIdeal.main_v84) = v14 c
          ∧ r.2.mem ((c.tc : Thread Cert.AdamOutRefIdeal.nD Cert.AdamOutRefIdeal.τ).loc Cert.AdamOutRefIdeal.main_v90) = v15 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)
          ∧ r.2.mem ((c.tc : Thread Cert.AdamOutRefIdeal.nD Cert.AdamOutRefIdeal.τ).loc Cert.AdamOutRefIdeal.main_arg7) = m' ((c.tc : Thread Cert.AdamOutRefIdeal.nD Cert.AdamOutRefIdeal.τ).loc Cert.AdamOutRefIdeal.main_arg7)
          ∧ r.2.mem ((c.tc : Thread Cert.AdamOutRefIdeal.nD Cert.AdamOutRefIdeal.τ).loc Cert.AdamOutRefIdeal.main_arg8) = m' ((c.tc : Thread Cert.AdamOutRefIdeal.nD Cert.AdamOutRefIdeal.τ).loc Cert.AdamOutRefIdeal.main_arg8)
          ∧ r.2.mem ((c.tc : Thread Cert.AdamOutRefIdeal.nD Cert.AdamOutRefIdeal.τ).loc Cert.AdamOutRefIdeal.main_arg9) = m' ((c.tc : Thread Cert.AdamOutRefIdeal.nD Cert.AdamOutRefIdeal.τ).loc Cert.AdamOutRefIdeal.main_arg9)
          ∧ r.2.mem ((c.tc : Thread Cert.AdamOutRefIdeal.nD Cert.AdamOutRefIdeal.τ).loc Cert.AdamOutRefIdeal.main_arg10) = m' ((c.tc : Thread Cert.AdamOutRefIdeal.nD Cert.AdamOutRefIdeal.τ).loc Cert.AdamOutRefIdeal.main_arg10)
          ∧ r.2.mem ((c.tc : Thread Cert.AdamOutRefIdeal.nD Cert.AdamOutRefIdeal.τ).loc Cert.AdamOutRefIdeal.main_arg11) = m' ((c.tc : Thread Cert.AdamOutRefIdeal.nD Cert.AdamOutRefIdeal.τ).loc Cert.AdamOutRefIdeal.main_arg11)
          ∧ r.2.mem ((c.tc : Thread Cert.AdamOutRefIdeal.nD Cert.AdamOutRefIdeal.τ).loc Cert.AdamOutRefIdeal.main_arg12) = m' ((c.tc : Thread Cert.AdamOutRefIdeal.nD Cert.AdamOutRefIdeal.τ).loc Cert.AdamOutRefIdeal.main_arg12)
          ∧ r.2.mem ((c.tc : Thread Cert.AdamOutRefIdeal.nD Cert.AdamOutRefIdeal.τ).loc Cert.AdamOutRefIdeal.main_arg13) = m' ((c.tc : Thread Cert.AdamOutRefIdeal.nD Cert.AdamOutRefIdeal.τ).loc Cert.AdamOutRefIdeal.main_arg13)
          ∧ r.2.mem ((c.tc : Thread Cert.AdamOutRefIdeal.nD Cert.AdamOutRefIdeal.τ).loc Cert.AdamOutRefIdeal.main_arg14) = m' ((c.tc : Thread Cert.AdamOutRefIdeal.nD Cert.AdamOutRefIdeal.τ).loc Cert.AdamOutRefIdeal.main_arg14)
          ∧ r.2.mem ((c.tc : Thread Cert.AdamOutRefIdeal.nD Cert.AdamOutRefIdeal.τ).loc Cert.AdamOutRefIdeal.main_arg15) = m' ((c.tc : Thread Cert.AdamOutRefIdeal.nD Cert.AdamOutRefIdeal.τ).loc Cert.AdamOutRefIdeal.main_arg15))

def Claim : Prop :=
  ∃ (hInBwd : Cert.InBwd.Facts) (hInBwdIdeal : Cert.InBwdIdeal.Facts) (hInRefIdeal : Cert.InRefIdeal.Facts) (hFfnBwd : Cert.FfnBwd.Facts) (hFfnBwdIdeal : Cert.FfnBwdIdeal.Facts) (hFfnRefIdeal : Cert.FfnRefIdeal.Facts) (hWffnBwd : Cert.WffnBwd.Facts) (hWffnBwdIdeal : Cert.WffnBwdIdeal.Facts) (hWffnRefIdeal : Cert.WffnRefIdeal.Facts) (hWinBwd : Cert.WinBwd.Facts) (hWinBwdIdeal : Cert.WinBwdIdeal.Facts) (hWinRefIdeal : Cert.WinRefIdeal.Facts) (hAdamIn : Cert.AdamIn.Facts) (hAdamInIdeal : Cert.AdamInIdeal.Facts) (hAdamInRefIdeal : Cert.AdamInRefIdeal.Facts) (hLossFwd : Cert.LossFwd.Facts) (hLossFwdIdeal : Cert.LossFwdIdeal.Facts) (hLossRefIdeal : Cert.LossRefIdeal.Facts) (hAdamOut : Cert.AdamOut.Facts) (hAdamOutIdeal : Cert.AdamOutIdeal.Facts) (hAdamOutRefIdeal : Cert.AdamOutRefIdeal.Facts) (hPre_ffn_finite : Cert.Pre_ffn_finite.Facts),
    quiescent_InBwd (hInBwd := hInBwd)
    ∧ quiescent_InBwdIdeal (hInBwdIdeal := hInBwdIdeal)
    ∧ quiescent_InRefIdeal (hInRefIdeal := hInRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_WffnBwd (hWffnBwd := hWffnBwd)
    ∧ quiescent_WffnBwdIdeal (hWffnBwdIdeal := hWffnBwdIdeal)
    ∧ quiescent_WffnRefIdeal (hWffnRefIdeal := hWffnRefIdeal)
    ∧ quiescent_WinBwd (hWinBwd := hWinBwd)
    ∧ quiescent_WinBwdIdeal (hWinBwdIdeal := hWinBwdIdeal)
    ∧ quiescent_WinRefIdeal (hWinRefIdeal := hWinRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_LossFwd (hLossFwd := hLossFwd)
    ∧ quiescent_LossFwdIdeal (hLossFwdIdeal := hLossFwdIdeal)
    ∧ quiescent_LossRefIdeal (hLossRefIdeal := hLossRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_InBwd_InBwdIdeal
    ∧ algebraic_InBwdIdeal_InRefIdeal (hInBwdIdeal := hInBwdIdeal) (hInRefIdeal := hInRefIdeal)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_WffnBwd_WffnBwdIdeal
    ∧ algebraic_WffnBwdIdeal_WffnRefIdeal (hWffnBwdIdeal := hWffnBwdIdeal) (hWffnRefIdeal := hWffnRefIdeal)
    ∧ preserves_WinBwd_WinBwdIdeal
    ∧ algebraic_WinBwdIdeal_WinRefIdeal (hWinBwdIdeal := hWinBwdIdeal) (hWinRefIdeal := hWinRefIdeal)
    ∧ preserves_AdamIn_AdamInIdeal
    ∧ algebraic_AdamInIdeal_AdamInRefIdeal (hAdamInIdeal := hAdamInIdeal) (hAdamInRefIdeal := hAdamInRefIdeal)
    ∧ preserves_LossFwd_LossFwdIdeal
    ∧ algebraic_LossFwdIdeal_LossRefIdeal (hLossFwdIdeal := hLossFwdIdeal) (hLossRefIdeal := hLossRefIdeal)
    ∧ preserves_AdamOut_AdamOutIdeal
    ∧ algebraic_AdamOutIdeal_AdamOutRefIdeal (hAdamOutIdeal := hAdamOutIdeal) (hAdamOutRefIdeal := hAdamOutRefIdeal)
-- ==== Pre_ffn_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== InBwd.lean ====
abbrev S4096x1024 : Shape := ⟨2, ![4096, 1024]⟩
abbrev S1024 : Shape := ⟨1, ![1024]⟩
abbrev S1024x5632 : Shape := ⟨2, ![1024, 5632]⟩
abbrev S4096x2048 : Shape := ⟨2, ![4096, 2048]⟩
abbrev S4096x1536 : Shape := ⟨2, ![4096, 1536]⟩
abbrev S5632x1024 : Shape := ⟨2, ![5632, 1024]⟩
abbrev S1x1024 : Shape := ⟨2, ![1, 1024]⟩
abbrev S512x2048 : Shape := ⟨2, ![512, 2048]⟩
abbrev S512x1536 : Shape := ⟨2, ![512, 1536]⟩
abbrev S512x1024 : Shape := ⟨2, ![512, 1024]⟩
abbrev S2048x1024 : Shape := ⟨2, ![2048, 1024]⟩
abbrev S1536x1024 : Shape := ⟨2, ![1536, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2048, .bf16⟩
  | .hbm, ⟨4, _⟩ => ⟨S4096x1536, .bf16⟩
  | .hbm, ⟨5, _⟩ => ⟨S4096x2048, .bf16⟩
  | .hbm, ⟨6, _⟩ => ⟨S4096x1024, .f32⟩
  | .hbm, ⟨7, _⟩ => ⟨S5632x1024, .f32⟩
  | .hbm, ⟨8, _⟩ => ⟨S5632x1024, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1536, .bf16⟩
  | .local _ .vmem, ⟨3, _⟩ => ⟨S512x1536, .bf16⟩
  | .local _ .vmem, ⟨4, _⟩ => ⟨S512x2048, .bf16⟩
  | .local _ .vmem, ⟨5, _⟩ => ⟨S512x2048, .bf16⟩
  | .local _ .vmem, ⟨6, _⟩ => ⟨S5632x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InRefIdeal.lean ====
abbrev S4096x1024 : Shape := ⟨2, ![4096, 1024]⟩
abbrev S1024 : Shape := ⟨1, ![1024]⟩
abbrev S1024x5632 : Shape := ⟨2, ![1024, 5632]⟩
abbrev S4096x2048 : Shape := ⟨2, ![4096, 2048]⟩
abbrev S4096x1536 : Shape := ⟨2, ![4096, 1536]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2048, .bf16⟩
  | .hbm, ⟨4, _⟩ => ⟨S4096x1536, .bf16⟩
  | .hbm, ⟨5, _⟩ => ⟨S4096x2048, .bf16⟩
  | .hbm, ⟨6, _⟩ => ⟨S4096x1024, .f32⟩
  | .hbm, ⟨7, _⟩ => ⟨S4096x2048, .f32⟩
  | .hbm, ⟨8, _⟩ => ⟨S4096x1536, .f32⟩
  | .hbm, ⟨9, _⟩ => ⟨S4096x2048, .f32⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== FfnBwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 36
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .bf16⟩
  | .hbm, ⟨24, _⟩ => ⟨S4096x2816, .f32⟩
  | .hbm, ⟨25, _⟩ => ⟨S4096x2816, .bf16⟩
  | .hbm, ⟨26, _⟩ => ⟨S1x1024, .f32⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4096x2816, .bf16⟩
  | .hbm, ⟨33, _⟩ => ⟨S4096x2816, .bf16⟩
  | .hbm, ⟨34, _⟩ => ⟨S4096x1024, .f32⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S_, .f32⟩
  | .hbm, ⟨70, _⟩ => ⟨S4096x2816, .f32⟩
  | .hbm, ⟨71, _⟩ => ⟨S4096x2816, .f32⟩
  | .hbm, ⟨72, _⟩ => ⟨S_, .f32⟩
  | .hbm, ⟨73, _⟩ => ⟨S4096x2816, .f32⟩
  | .hbm, ⟨74, _⟩ => ⟨S4096x2816, .f32⟩
  | .hbm, ⟨75, _⟩ => ⟨S_, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S4096x1024, .f32⟩
  | .hbm, ⟨89, _⟩ => ⟨S4096x2816, .f32⟩
  | .hbm, ⟨90, _⟩ => ⟨S4096x2816, .f32⟩
  | .hbm, ⟨91, _⟩ => ⟨S4096x2816, .f32⟩
  | .hbm, ⟨92, _⟩ => ⟨S4096x2816, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S4096x1024, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x2816, .bf16⟩
  | .hbm, ⟨122, _⟩ => ⟨S4096x2816, .bf16⟩
  | .hbm, ⟨123, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_v39_2 : Ref sig .tc := ⟨.hbm, 74, rfl⟩
abbrev main_call2_cst_1 : Ref sig .tc := ⟨.hbm, 75, rfl⟩
abbrev main_call2_v6 : Ref sig .tc := ⟨.hbm, 76, rfl⟩
abbrev main_call2_v7 : Ref sig .tc := ⟨.hbm, 77, rfl⟩
abbrev main_v39_1 : Ref sig .tc := ⟨.hbm, 78, rfl⟩
abbrev main_v39_0 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_6 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_7 : Ref sig .tc := ⟨.hbm, 101, rfl⟩
abbrev main_v57 : Ref sig .tc := ⟨.hbm, 102, rfl⟩
abbrev main_v58 : Ref sig .tc := ⟨.hbm, 103, rfl⟩
abbrev main_cst_8 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_9 : Ref sig .tc := ⟨.hbm, 111, rfl⟩
abbrev main_v65 : Ref sig .tc := ⟨.hbm, 112, rfl⟩
abbrev main_v66 : Ref sig .tc := ⟨.hbm, 113, rfl⟩
abbrev main_cst_10 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩

abbrev nD : Nat := 1
abbrev τ : Topo := Topo.v7x

variable {F : FTy → Type} [FloatOps F]
-- ==== WffnBwd.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S2816x1024 : Shape := ⟨2, ![2816, 1024]⟩
abbrev S4096x256 : Shape := ⟨2, ![4096, 256]⟩
abbrev S256x1024 : Shape := ⟨2, ![256, 1024]⟩
abbrev S1024x256 : Shape := ⟨2, ![1024, 256]⟩

abbrev nBuf : Space → Nat
  | .hbm => 43
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .bf16⟩
  | .hbm, ⟨5, _⟩ => ⟨S4096x2816, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1024x4096, .f32⟩
  | .hbm, ⟨36, _⟩ => ⟨S1024x4096, .bf16⟩
  | .hbm, ⟨37, _⟩ => ⟨S1024x4096, .f32⟩
  | .hbm, ⟨38, _⟩ => ⟨S1024x4096, .bf16⟩
  | .hbm, ⟨39, _⟩ => ⟨S4096x2816, .bf16⟩
  | .hbm, ⟨40, _⟩ => ⟨S2816x1024, .bf16⟩
  | .hbm, ⟨41, _⟩ => ⟨S2816x1024, .bf16⟩
  | .hbm, ⟨42, _⟩ => ⟨S2816x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WffnRefIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .bf16⟩
  | .hbm, ⟨5, _⟩ => ⟨S4096x2816, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S1024x2816, .f32⟩
  | .hbm, ⟨41, _⟩ => ⟨S2816x1024, .f32⟩
  | .hbm, ⟨42, _⟩ => ⟨S1024x2816, .f32⟩
  | .hbm, ⟨43, _⟩ => ⟨S_, .f32⟩
  | .hbm, ⟨44, _⟩ => ⟨S2816x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S2816x1024, .f32⟩
  | .hbm, ⟨49, _⟩ => ⟨S2816x1024, .bf16⟩
  | .hbm, ⟨50, _⟩ => ⟨S2816x1024, .f32⟩
  | .hbm, ⟨51, _⟩ => ⟨S2816x1024, .bf16⟩
  | .hbm, ⟨52, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== WinBwd.lean ====
abbrev S4096x1024 : Shape := ⟨2, ![4096, 1024]⟩
abbrev S1024 : Shape := ⟨1, ![1024]⟩
abbrev S4096x2048 : Shape := ⟨2, ![4096, 2048]⟩
abbrev S4096x1536 : Shape := ⟨2, ![4096, 1536]⟩
abbrev S352x1024 : Shape := ⟨2, ![352, 1024]⟩
abbrev S4x352x1024 : Shape := ⟨3, ![4, 352, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S5632x1024 : Shape := ⟨2, ![5632, 1024]⟩
abbrev S4096x512 : Shape := ⟨2, ![4096, 512]⟩
abbrev S32x1024 : Shape := ⟨2, ![32, 1024]⟩
abbrev S4x32x1024 : Shape := ⟨3, ![4, 32, 1024]⟩
abbrev S512x1024 : Shape := ⟨2, ![512, 1024]⟩
abbrev S1024x512 : Shape := ⟨2, ![1024, 512]⟩
abbrev S1x32x1024 : Shape := ⟨3, ![1, 32, 1024]⟩

abbrev nBuf : Space → Nat
  | .hbm => 40
  | .vmem => 41
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2048, .bf16⟩
  | .hbm, ⟨3, _⟩ => ⟨S4096x1536, .bf16⟩
  | .hbm, ⟨4, _⟩ => ⟨S4096x2048, .bf16⟩
  | .hbm, ⟨5, _⟩ => ⟨S352x1024, .f32⟩
  | .hbm, ⟨6, _⟩ => ⟨S4x352x1024, .bf16⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S4x352x1024, .bf16⟩
  | .hbm, ⟨11, _⟩ => ⟨S352x1024, .f32⟩
  | .hbm, ⟨12, _⟩ => ⟨S352x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x4096, .f32⟩
  | .hbm, ⟨30, _⟩ => ⟨S1024x4096, .bf16⟩
  | .hbm, ⟨31, _⟩ => ⟨S5632x1024, .bf16⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S352x1024, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S32x1024, .f32⟩
  | .local _ .vmem, ⟨8, _⟩ => ⟨S32x1024, .f32⟩
  | .local _ .vmem, ⟨9, _⟩ => ⟨S4x32x1024, .bf16⟩
  | .local _ .vmem, ⟨10, _⟩ => ⟨S4x32x1024, .bf16⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S4x32x1024, .bf16⟩
  | .local _ .vmem, ⟨18, _⟩ => ⟨S4x32x1024, .bf16⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S512x1024, .bf16⟩
  | .local _ .vmem, ⟨24, _⟩ => ⟨S512x1024, .bf16⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S32x1024, .f32⟩
  | .local _ .vmem, ⟨32, _⟩ => ⟨S32x1024, .f32⟩
  | .local _ .vmem, ⟨33, _⟩ => ⟨S32x1024, .f32⟩
  | .local _ .vmem, ⟨34, _⟩ => ⟨S32x1024, .f32⟩
  | .local _ .vmem, ⟨35, _⟩ => ⟨S32x1024, .f32⟩
  | .local _ .vmem, ⟨36, _⟩ => ⟨S32x1024, .f32⟩
  | .local _ .vmem, ⟨37, _⟩ => ⟨S32x1024, .f32⟩
  | .local _ .vmem, ⟨38, _⟩ => ⟨S32x1024, .f32⟩
  | .local _ .vmem, ⟨39, _⟩ => ⟨S32x1024, .f32⟩
  | .local _ .vmem, ⟨40, _⟩ => ⟨S32x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev main_v15_6 : Ref sig .tc := ⟨.hbm, 37, rfl⟩
abbrev main_v15_7 : Ref sig .tc := ⟨.hbm, 38, rfl⟩
abbrev main_v15_8 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c7_i32 : BitVec 32 := 7#32
  let v6 : BitVec 1 := Scalar.cmpi .slt arg0 c7_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c7_i32_3 : BitVec 32 := 7#32
  let v10 : BitVec 1 := Scalar.cmpi .sge arg0 c7_i32_3
  let c11_i32 : BitVec 32 := 11#32
  let v11 : BitVec 1 := Scalar.cmpi .slt arg0 c11_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== WinRefIdeal.lean ====
abbrev S4096x1024 : Shape := ⟨2, ![4096, 1024]⟩
abbrev S1024 : Shape := ⟨1, ![1024]⟩
abbrev S4096x2048 : Shape := ⟨2, ![4096, 2048]⟩
abbrev S4096x1536 : Shape := ⟨2, ![4096, 1536]⟩
abbrev S352x1024 : Shape := ⟨2, ![352, 1024]⟩
abbrev S4x352x1024 : Shape := ⟨3, ![4, 352, 1024]⟩
abbrev S4096x5632 : Shape := ⟨2, ![4096, 5632]⟩
abbrev S_ : Shape := ⟨0, ![]⟩
abbrev S1024x5632 : Shape := ⟨2, ![1024, 5632]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2048, .bf16⟩
  | .hbm, ⟨3, _⟩ => ⟨S4096x1536, .bf16⟩
  | .hbm, ⟨4, _⟩ => ⟨S4096x2048, .bf16⟩
  | .hbm, ⟨5, _⟩ => ⟨S352x1024, .f32⟩
  | .hbm, ⟨6, _⟩ => ⟨S4x352x1024, .bf16⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S4x352x1024, .bf16⟩
  | .hbm, ⟨11, _⟩ => ⟨S352x1024, .f32⟩
  | .hbm, ⟨12, _⟩ => ⟨S352x1024, .f32⟩
  | .hbm, ⟨13, _⟩ => ⟨S4096x2048, .f32⟩
  | .hbm, ⟨14, _⟩ => ⟨S4096x1536, .f32⟩
  | .hbm, ⟨15, _⟩ => ⟨S4096x2048, .f32⟩
  | .hbm, ⟨16, _⟩ => ⟨S4096x5632, .f32⟩
  | .hbm, ⟨17, _⟩ => ⟨S_, .f32⟩
  | .hbm, ⟨18, _⟩ => ⟨S1024x5632, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x5632, .f32⟩
  | .hbm, ⟨36, _⟩ => ⟨S5632x1024, .f32⟩
  | .hbm, ⟨37, _⟩ => ⟨S1024x5632, .f32⟩
  | .hbm, ⟨38, _⟩ => ⟨S4x352x1024, .f32⟩
  | .hbm, ⟨39, _⟩ => ⟨S_, .f32⟩
  | .hbm, ⟨40, _⟩ => ⟨S352x1024, .f32⟩
  | .hbm, ⟨41, _⟩ => ⟨S4x352x1024, .f32⟩
  | .hbm, ⟨42, _⟩ => ⟨S_, .f32⟩
  | .hbm, ⟨43, _⟩ => ⟨S352x1024, .f32⟩
  | .hbm, ⟨44, _⟩ => ⟨S5632x1024, .f32⟩
  | .hbm, ⟨45, _⟩ => ⟨S5632x1024, .bf16⟩
  | .hbm, ⟨46, _⟩ => ⟨S_, .f32⟩
  | .hbm, ⟨47, _⟩ => ⟨S352x1024, .f32⟩
  | .hbm, ⟨48, _⟩ => ⟨S352x1024, .f32⟩
  | .hbm, ⟨49, _⟩ => ⟨S_, .f32⟩
  | .hbm, ⟨50, _⟩ => ⟨S352x1024, .f32⟩
  | .hbm, ⟨51, _⟩ => ⟨S352x1024, .f32⟩
  | .hbm, ⟨52, _⟩ => ⟨S352x1024, .f32⟩
  | .hbm, ⟨53, _⟩ => ⟨S_, .f32⟩
  | .hbm, ⟨54, _⟩ => ⟨S352x1024, .f32⟩
  | .hbm, ⟨55, _⟩ => ⟨S352x1024, .f32⟩
  | .hbm, ⟨56, _⟩ => ⟨S352x1024, .f32⟩
  | .hbm, ⟨57, _⟩ => ⟨S_, .f32⟩
  | .hbm, ⟨58, _⟩ => ⟨S352x1024, .f32⟩
  | .hbm, ⟨59, _⟩ => ⟨S352x1024, .f32⟩
  | .hbm, ⟨60, _⟩ => ⟨S352x1024, .f32⟩
  | .hbm, ⟨61, _⟩ => ⟨S_, .f32⟩
  | .hbm, ⟨62, _⟩ => ⟨S352x1024, .f32⟩
  | .hbm, ⟨63, _⟩ => ⟨S352x1024, .f32⟩
  | .hbm, ⟨64, _⟩ => ⟨S_, .f32⟩
  | .hbm, ⟨65, _⟩ => ⟨S352x1024, .f32⟩
  | .hbm, ⟨66, _⟩ => ⟨S352x1024, .f32⟩
  | .hbm, ⟨67, _⟩ => ⟨S352x1024, .f32⟩
  | .hbm, ⟨68, _⟩ => ⟨S_, .f32⟩
  | .hbm, ⟨69, _⟩ => ⟨S352x1024, .f32⟩
  | .hbm, ⟨70, _⟩ => ⟨S352x1024, .f32⟩
  | .hbm, ⟨71, _⟩ => ⟨S352x1024, .f32⟩
  | .hbm, ⟨72, _⟩ => ⟨S_, .f32⟩
  | .hbm, ⟨73, _⟩ => ⟨S352x1024, .f32⟩
  | .hbm, ⟨74, _⟩ => ⟨S352x1024, .f32⟩
  | .hbm, ⟨75, _⟩ => ⟨S352x1024, .f32⟩
  | .hbm, ⟨76, _⟩ => ⟨S_, .f32⟩
  | .hbm, ⟨77, _⟩ => ⟨S352x1024, .f32⟩
  | .hbm, ⟨78, _⟩ => ⟨S352x1024, .f32⟩
  | .hbm, ⟨79, _⟩ => ⟨S_, .f32⟩
  | .hbm, ⟨80, _⟩ => ⟨S352x1024, .f32⟩
  | .hbm, ⟨81, _⟩ => ⟨S352x1024, .f32⟩
  | .hbm, ⟨82, _⟩ => ⟨S_, .f32⟩
  | .hbm, ⟨83, _⟩ => ⟨S352x1024, .f32⟩
  | .hbm, ⟨84, _⟩ => ⟨S352x1024, .f32⟩
  | .hbm, ⟨85, _⟩ => ⟨S352x1024, .f32⟩
  | .hbm, ⟨86, _⟩ => ⟨S_, .f32⟩
  | .hbm, ⟨87, _⟩ => ⟨S352x1024, .f32⟩
  | .hbm, ⟨88, _⟩ => ⟨S352x1024, .f32⟩
  | .hbm, ⟨89, _⟩ => ⟨S352x1024, .f32⟩
  | .hbm, ⟨90, _⟩ => ⟨S_, .f32⟩
  | .hbm, ⟨91, _⟩ => ⟨S352x1024, .f32⟩
  | .hbm, ⟨92, _⟩ => ⟨S352x1024, .f32⟩
  | .hbm, ⟨93, _⟩ => ⟨S352x1024, .f32⟩
  | .hbm, ⟨94, _⟩ => ⟨S_, .f32⟩
  | .hbm, ⟨95, _⟩ => ⟨S352x1024, .f32⟩
  | .hbm, ⟨96, _⟩ => ⟨S352x1024, .f32⟩
  | .hbm, ⟨97, _⟩ => ⟨S_, .f32⟩
  | .hbm, ⟨98, _⟩ => ⟨S352x1024, .f32⟩
  | .hbm, ⟨99, _⟩ => ⟨S352x1024, .f32⟩
  | .hbm, ⟨100, _⟩ => ⟨S352x1024, .f32⟩
  | .hbm, ⟨101, _⟩ => ⟨S_, .f32⟩
  | .hbm, ⟨102, _⟩ => ⟨S352x1024, .f32⟩
  | .hbm, ⟨103, _⟩ => ⟨S352x1024, .f32⟩
  | .hbm, ⟨104, _⟩ => ⟨S352x1024, .f32⟩
  | .hbm, ⟨105, _⟩ => ⟨S_, .f32⟩
  | .hbm, ⟨106, _⟩ => ⟨S352x1024, .f32⟩
  | .hbm, ⟨107, _⟩ => ⟨S352x1024, .f32⟩
  | .hbm, ⟨108, _⟩ => ⟨S352x1024, .f32⟩
  | .hbm, ⟨109, _⟩ => ⟨S_, .f32⟩
  | .hbm, ⟨110, _⟩ => ⟨S352x1024, .f32⟩
  | .hbm, ⟨111, _⟩ => ⟨S352x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_16 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_21 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_22 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]
-- ==== AdamIn.lean ====
abbrev S704x1024 : Shape := ⟨2, ![704, 1024]⟩
abbrev S4x704x1024 : Shape := ⟨3, ![4, 704, 1024]⟩
abbrev S176x1024 : Shape := ⟨2, ![176, 1024]⟩
abbrev S4x176x1024 : Shape := ⟨3, ![4, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S4x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S4x176x1024, .bf16⟩
  | .local _ .vmem, ⟨3, _⟩ => ⟨S4x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S704x1024 : Shape := ⟨2, ![704, 1024]⟩
abbrev S4x704x1024 : Shape := ⟨3, ![4, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S4x704x1024, .bf16⟩
  | .hbm, ⟨2, _⟩ => ⟨S704x1024, .f32⟩
  | .hbm, ⟨3, _⟩ => ⟨S704x1024, .f32⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LossFwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4096 : Shape := ⟨2, ![1024, 4096]⟩
abbrev S4096x2816 : Shape := ⟨2, ![4096, 2816]⟩
abbrev S1x128 : Shape := ⟨2, ![1, 128]⟩
abbrev S512x1024 : Shape := ⟨2, ![512, 1024]⟩
abbrev S1024x512 : Shape := ⟨2, ![1024, 512]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S1x1024, .f32⟩
  | .hbm, ⟨14, _⟩ => ⟨S1024x4096, .bf16⟩
  | .hbm, ⟨15, _⟩ => ⟨S4096x2816, .bf16⟩
  | .hbm, ⟨16, _⟩ => ⟨S4096x2816, .bf16⟩
  | .hbm, ⟨17, _⟩ => ⟨S4096x2816, .bf16⟩
  | .hbm, ⟨18, _⟩ => ⟨S1x128, .f32⟩
  | .hbm, ⟨19, _⟩ => ⟨S1x1024, .f32⟩
  | .hbm, ⟨20, _⟩ => ⟨S4096x1024, .f32⟩
  | .hbm, ⟨21, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x512, .bf16⟩
  | .local _ .vmem, ⟨10, _⟩ => ⟨S1024x512, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S1x128, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1024x512, .bf16⟩
  | .local _ .vmem, ⟨22, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LossRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x4096 : Shape := ⟨2, ![1024, 4096]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S1024, .f32⟩
  | .hbm, ⟨100, _⟩ => ⟨S4096x1024, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S1024x4096, .f32⟩
  | .hbm, ⟨118, _⟩ => ⟨S1024x4096, .bf16⟩
  | .hbm, ⟨119, _⟩ => ⟨S4096x2816, .bf16⟩
  | .hbm, ⟨120, _⟩ => ⟨S4096x2816, .bf16⟩
  | .hbm, ⟨121, _⟩ => ⟨S4096x2816, .bf16⟩
  | .hbm, ⟨122, _⟩ => ⟨S1x128, .f32⟩
  | .hbm, ⟨123, _⟩ => ⟨S1x1024, .f32⟩
  | .hbm, ⟨124, _⟩ => ⟨S1024x4096, .f32⟩
  | .hbm, ⟨125, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_cst_7 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_cst_9 : Ref sig .tc := ⟨.hbm, 79, rfl⟩
abbrev main_v46 : Ref sig .tc := ⟨.hbm, 80, rfl⟩
abbrev main_cst_10 : Ref sig .tc := ⟨.hbm, 81, rfl⟩
abbrev main_v47 : Ref sig .tc := ⟨.hbm, 82, rfl⟩
abbrev main_cst_11 : Ref sig .tc := ⟨.hbm, 83, rfl⟩
abbrev main_cst_12 : Ref sig .tc := ⟨.hbm, 84, rfl⟩
abbrev main_v48 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_14 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_15 : Ref sig .tc := ⟨.hbm, 98, rfl⟩
abbrev main_v59 : Ref sig .tc := ⟨.hbm, 99, rfl⟩
abbrev main_v60 : Ref sig .tc := ⟨.hbm, 100, rfl⟩
abbrev main_cst_16 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_17 : Ref sig .tc := ⟨.hbm, 107, rfl⟩
abbrev main_v66 : Ref sig .tc := ⟨.hbm, 108, rfl⟩
abbrev main_v67 : Ref sig .tc := ⟨.hbm, 109, rfl⟩
abbrev main_cst_18 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩

abbrev nD : Nat := 1
abbrev τ : Topo := Topo.v7x

variable {F : FTy → Type} [FloatOps F]
-- ==== AdamOut.lean ====
abbrev S128x1024 : Shape := ⟨2, ![128, 1024]⟩
abbrev S512x128 : Shape := ⟨2, ![512, 128]⟩
abbrev S352x1024 : Shape := ⟨2, ![352, 1024]⟩
abbrev S4x128x1024 : Shape := ⟨3, ![4, 128, 1024]⟩
abbrev S4x512x128 : Shape := ⟨3, ![4, 512, 128]⟩
abbrev S4x352x1024 : Shape := ⟨3, ![4, 352, 1024]⟩
abbrev S64x1024 : Shape := ⟨2, ![64, 1024]⟩
abbrev S256x128 : Shape := ⟨2, ![256, 128]⟩
abbrev S176x1024 : Shape := ⟨2, ![176, 1024]⟩
abbrev S4x64x1024 : Shape := ⟨3, ![4, 64, 1024]⟩
abbrev S4x256x128 : Shape := ⟨3, ![4, 256, 128]⟩
abbrev S4x176x1024 : Shape := ⟨3, ![4, 176, 1024]⟩
abbrev S1x64x1024 : Shape := ⟨3, ![1, 64, 1024]⟩
abbrev S1x256x128 : Shape := ⟨3, ![1, 256, 128]⟩
abbrev S1x176x1024 : Shape := ⟨3, ![1, 176, 1024]⟩

abbrev nBuf : Space → Nat
  | .hbm => 32
  | .vmem => 64
  | .smem => 0
  | _ => 0

abbrev bufTy : (tb : Table) → Fin (tcTables nBuf tb) → BufTy
  | .hbm, ⟨0, _⟩ => ⟨S128x1024, .f32⟩
  | .hbm, ⟨1, _⟩ => ⟨S512x128, .f32⟩
  | .hbm, ⟨2, _⟩ => ⟨S512x128, .f32⟩
  | .hbm, ⟨3, _⟩ => ⟨S352x1024, .f32⟩
  | .hbm, ⟨4, _⟩ => ⟨S4x128x1024, .bf16⟩
  | .hbm, ⟨5, _⟩ => ⟨S4x512x128, .bf16⟩
  | .hbm, ⟨6, _⟩ => ⟨S4x512x128, .bf16⟩
  | .hbm, ⟨7, _⟩ => ⟨S4x352x1024, .bf16⟩
  | .hbm, ⟨8, _⟩ => ⟨S128x1024, .f32⟩
  | .hbm, ⟨9, _⟩ => ⟨S512x128, .f32⟩
  | .hbm, ⟨10, _⟩ => ⟨S512x128, .f32⟩
  | .hbm, ⟨11, _⟩ => ⟨S352x1024, .f32⟩
  | .hbm, ⟨12, _⟩ => ⟨S128x1024, .f32⟩
  | .hbm, ⟨13, _⟩ => ⟨S512x128, .f32⟩
  | .hbm, ⟨14, _⟩ => ⟨S512x128, .f32⟩
  | .hbm, ⟨15, _⟩ => ⟨S352x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S352x1024, .f32⟩
  | .local _ .vmem, ⟨0, _⟩ => ⟨S64x1024, .f32⟩
  | .local _ .vmem, ⟨1, _⟩ => ⟨S64x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S176x1024, .f32⟩
  | .local _ .vmem, ⟨7, _⟩ => ⟨S176x1024, .f32⟩
  | .local _ .vmem, ⟨8, _⟩ => ⟨S4x64x1024, .bf16⟩
  | .local _ .vmem, ⟨9, _⟩ => ⟨S4x64x1024, .bf16⟩
  | .local _ .vmem, ⟨10, _⟩ => ⟨S4x256x128, .bf16⟩
  | .local _ .vmem, ⟨11, _⟩ => ⟨S4x256x128, .bf16⟩
  | .local _ .vmem, ⟨12, _⟩ => ⟨S4x256x128, .bf16⟩
  | .local _ .vmem, ⟨13, _⟩ => ⟨S4x256x128, .bf16⟩
  | .local _ .vmem, ⟨14, _⟩ => ⟨S4x176x1024, .bf16⟩
  | .local _ .vmem, ⟨15, _⟩ => ⟨S4x176x1024, .bf16⟩
  | .local _ .vmem, ⟨16, _⟩ => ⟨S64x1024, .f32⟩
  | .local _ .vmem, ⟨17, _⟩ => ⟨S64x1024, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S176x1024, .f32⟩
  | .local _ .vmem, ⟨23, _⟩ => ⟨S176x1024, .f32⟩
  | .local _ .vmem, ⟨24, _⟩ => ⟨S64x1024, .f32⟩
  | .local _ .vmem, ⟨25, _⟩ => ⟨S64x1024, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S176x1024, .f32⟩
  | .local _ .vmem, ⟨31, _⟩ => ⟨S176x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S256x128, .f32⟩
  | .local _ .vmem, ⟨41, _⟩ => ⟨S256x128, .f32⟩
  | .local _ .vmem, ⟨42, _⟩ => ⟨S256x128, .f32⟩
  | .local _ .vmem, ⟨43, _⟩ => ⟨S256x128, .f32⟩
  | .local _ .vmem, ⟨44, _⟩ => ⟨S256x128, .f32⟩
  | .local _ .vmem, ⟨45, _⟩ => ⟨S256x128, .f32⟩
  | .local _ .vmem, ⟨46, _⟩ => ⟨S256x128, .f32⟩
  | .local _ .vmem, ⟨47, _⟩ => ⟨S256x128, .f32⟩
  | .local _ .vmem, ⟨48, _⟩ => ⟨S256x128, .f32⟩
  | .local _ .vmem, ⟨49, _⟩ => ⟨S256x128, .f32⟩
  | .local _ .vmem, ⟨50, _⟩ => ⟨S256x128, .f32⟩
  | .local _ .vmem, ⟨51, _⟩ => ⟨S256x128, .f32⟩
  | .local _ .vmem, ⟨52, _⟩ => ⟨S256x128, .f32⟩
  | .local _ .vmem, ⟨53, _⟩ => ⟨S256x128, .f32⟩
  | .local _ .vmem, ⟨54, _⟩ => ⟨S256x128, .f32⟩
  | .local _ .vmem, ⟨55, _⟩ => ⟨S256x128, .f32⟩
  | .local _ .vmem, ⟨56, _⟩ => ⟨S176x1024, .f32⟩
  | .local _ .vmem, ⟨57, _⟩ => ⟨S176x1024, .f32⟩
  | .local _ .vmem, ⟨58, _⟩ => ⟨S176x1024, .f32⟩
  | .local _ .vmem, ⟨59, _⟩ => ⟨S176x1024, .f32⟩
  | .local _ .vmem, ⟨60, _⟩ => ⟨S176x1024, .f32⟩
  | .local _ .vmem, ⟨61, _⟩ => ⟨S176x1024, .f32⟩
  | .local _ .vmem, ⟨62, _⟩ => ⟨S176x1024, .f32⟩
  | .local _ .vmem, ⟨63, _⟩ => ⟨S176x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev main_v0_12 : Ref sig .tc := ⟨.hbm, 28, rfl⟩
abbrev main_v0_13 : Ref sig .tc := ⟨.hbm, 29, rfl⟩
abbrev main_v0_14 : Ref sig .tc := ⟨.hbm, 30, rfl⟩
abbrev main_v0_15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S176x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S176x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S176x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S176x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== AdamOutRefIdeal.lean ====
abbrev S128x1024 : Shape := ⟨2, ![128, 1024]⟩
abbrev S512x128 : Shape := ⟨2, ![512, 128]⟩
abbrev S352x1024 : Shape := ⟨2, ![352, 1024]⟩
abbrev S4x128x1024 : Shape := ⟨3, ![4, 128, 1024]⟩
abbrev S4x512x128 : Shape := ⟨3, ![4, 512, 128]⟩
abbrev S4x352x1024 : Shape := ⟨3, ![4, 352, 1024]⟩
abbrev S_ : Shape := ⟨0, ![]⟩

abbrev nBuf : Space → Nat
  | .hbm => 160
  | .vmem => 0
  | .smem => 0
  | _ => 0

abbrev hbmTy0_0 (i : Nat) : BufTy := match i % 128 with
  | 0 => ⟨S128x1024, .f32⟩
  | 1 => ⟨S512x128, .f32⟩
  | 2 => ⟨S512x128, .f32⟩
  | 3 => ⟨S352x1024, .f32⟩
  | 4 => ⟨S4x128x1024, .bf16⟩
  | 5 => ⟨S4x512x128, .bf16⟩
  | 6 => ⟨S4x512x128, .bf16⟩
  | 7 => ⟨S4x352x1024, .bf16⟩
  | 8 => ⟨S128x1024, .f32⟩
  | 9 => ⟨S512x128, .f32⟩
  | 10 => ⟨S512x128, .f32⟩
  | 11 => ⟨S352x1024, .f32⟩
  | 12 => ⟨S128x1024, .f32⟩
  | 13 => ⟨S512x128, .f32⟩
  | 14 => ⟨S512x128, .f32⟩
  | 15 => ⟨S352x1024, .f32⟩
  | 16 => ⟨S4x128x1024, .f32⟩
  | 17 => ⟨S_, .f32⟩
  | 18 => ⟨S128x1024, .f32⟩
  | 19 => ⟨S4x512x128, .f32⟩
  | 20 => ⟨S_, .f32⟩
  | 21 => ⟨S512x128, .f32⟩
  | 22 => ⟨S4x512x128, .f32⟩
  | 23 => ⟨S_, .f32⟩
  | 24 => ⟨S512x128, .f32⟩
  | 25 => ⟨S4x352x1024, .f32⟩
  | 26 => ⟨S_, .f32⟩
  | 27 => ⟨S352x1024, .f32⟩
  | 28 => ⟨S_, .f32⟩
  | 29 => ⟨S128x1024, .f32⟩
  | 30 => ⟨S128x1024, .f32⟩
  | 31 => ⟨S_, .f32⟩
  | 32 => ⟨S128x1024, .f32⟩
  | 33 => ⟨S128x1024, .f32⟩
  | 34 => ⟨S128x1024, .f32⟩
  | 35 => ⟨S_, .f32⟩
  | 36 => ⟨S128x1024, .f32⟩
  | 37 => ⟨S128x1024, .f32⟩
  | 38 => ⟨S128x1024, .f32⟩
  | 39 => ⟨S_, .f32⟩
  | 40 => ⟨S128x1024, .f32⟩
  | 41 => ⟨S128x1024, .f32⟩
  | 42 => ⟨S128x1024, .f32⟩
  | 43 => ⟨S_, .f32⟩
  | 44 => ⟨S128x1024, .f32⟩
  | 45 => ⟨S128x1024, .f32⟩
  | 46 => ⟨S_, .f32⟩
  | 47 => ⟨S128x1024, .f32⟩
  | 48 => ⟨S128x1024, .f32⟩
  | 49 => ⟨S128x1024, .f32⟩
  | 50 => ⟨S_, .f32⟩
  | 51 => ⟨S128x1024, .f32⟩
  | 52 => ⟨S128x1024, .f32⟩
  | 53 => ⟨S128x1024, .f32⟩
  | 54 => ⟨S_, .f32⟩
  | 55 => ⟨S128x1024, .f32⟩
  | 56 => ⟨S128x1024, .f32⟩
  | 57 => ⟨S128x1024, .f32⟩
  | 58 => ⟨S_, .f32⟩
  | 59 => ⟨S128x1024, .f32⟩
  | 60 => ⟨S128x1024, .f32⟩
  | 61 => ⟨S_, .f32⟩
  | 62 => ⟨S512x128, .f32⟩
  | 63 => ⟨S512x128, .f32⟩
  | 64 => ⟨S_, .f32⟩
  | 65 => ⟨S512x128, .f32⟩
  | 66 => ⟨S512x128, .f32⟩
  | 67 => ⟨S512x128, .f32⟩
  | 68 => ⟨S_, .f32⟩
  | 69 => ⟨S512x128, .f32⟩
  | 70 => ⟨S512x128, .f32⟩
  | 71 => ⟨S512x128, .f32⟩
  | 72 => ⟨S_, .f32⟩
  | 73 => ⟨S512x128, .f32⟩
  | 74 => ⟨S512x128, .f32⟩
  | 75 => ⟨S512x128, .f32⟩
  | 76 => ⟨S_, .f32⟩
  | 77 => ⟨S512x128, .f32⟩
  | 78 => ⟨S512x128, .f32⟩
  | 79 => ⟨S_, .f32⟩
  | 80 => ⟨S512x128, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S_, .f32⟩
  | 88 => ⟨S512x128, .f32⟩
  | 89 => ⟨S512x128, .f32⟩
  | 90 => ⟨S512x128, .f32⟩
  | 91 => ⟨S_, .f32⟩
  | 92 => ⟨S512x128, .f32⟩
  | 93 => ⟨S512x128, .f32⟩
  | 94 => ⟨S_, .f32⟩
  | 95 => ⟨S512x128, .f32⟩
  | 96 => ⟨S512x128, .f32⟩
  | 97 => ⟨S_, .f32⟩
  | 98 => ⟨S512x128, .f32⟩
  | 99 => ⟨S512x128, .f32⟩
  | 100 => ⟨S512x128, .f32⟩
  | 101 => ⟨S_, .f32⟩
  | 102 => ⟨S512x128, .f32⟩
  | 103 => ⟨S512x128, .f32⟩
  | 104 => ⟨S512x128, .f32⟩
  | 105 => ⟨S_, .f32⟩
  | 106 => ⟨S512x128, .f32⟩
  | 107 => ⟨S512x128, .f32⟩
  | 108 => ⟨S512x128, .f32⟩
  | 109 => ⟨S_, .f32⟩
  | 110 => ⟨S512x128, .f32⟩
  | 111 => ⟨S512x128, .f32⟩
  | 112 => ⟨S_, .f32⟩
  | 113 => ⟨S512x128, .f32⟩
  | 114 => ⟨S512x128, .f32⟩
  | 115 => ⟨S512x128, .f32⟩
  | 116 => ⟨S_, .f32⟩
  | 117 => ⟨S512x128, .f32⟩
  | 118 => ⟨S512x128, .f32⟩
  | 119 => ⟨S512x128, .f32⟩
  | 120 => ⟨S_, .f32⟩
  | 121 => ⟨S512x128, .f32⟩
  | 122 => ⟨S512x128, .f32⟩
  | 123 => ⟨S512x128, .f32⟩
  | 124 => ⟨S_, .f32⟩
  | 125 => ⟨S512x128, .f32⟩
  | 126 => ⟨S512x128, .f32⟩
  | 127 => ⟨S_, .f32⟩
  | _ => ⟨S128x1024, .f32⟩

abbrev hbmTy0_1 (i : Nat) : BufTy := match i % 128 with
  | 0 => ⟨S352x1024, .f32⟩
  | 1 => ⟨S352x1024, .f32⟩
  | 2 => ⟨S_, .f32⟩
  | 3 => ⟨S352x1024, .f32⟩
  | 4 => ⟨S352x1024, .f32⟩
  | 5 => ⟨S352x1024, .f32⟩
  | 6 => ⟨S_, .f32⟩
  | 7 => ⟨S352x1024, .f32⟩
  | 8 => ⟨S352x1024, .f32⟩
  | 9 => ⟨S352x1024, .f32⟩
  | 10 => ⟨S_, .f32⟩
  | 11 => ⟨S352x1024, .f32⟩
  | 12 => ⟨S352x1024, .f32⟩
  | 13 => ⟨S352x1024, .f32⟩
  | 14 => ⟨S_, .f32⟩
  | 15 => ⟨S352x1024, .f32⟩
  | 16 => ⟨S352x1024, .f32⟩
  | 17 => ⟨S_, .f32⟩
  | 18 => ⟨S352x1024, .f32⟩
  | 19 => ⟨S352x1024, .f32⟩
  | 20 => ⟨S352x1024, .f32⟩
  | 21 => ⟨S_, .f32⟩
  | 22 => ⟨S352x1024, .f32⟩
  | 23 => ⟨S352x1024, .f32⟩
  | 24 => ⟨S352x1024, .f32⟩
  | 25 => ⟨S_, .f32⟩
  | 26 => ⟨S352x1024, .f32⟩
  | 27 => ⟨S352x1024, .f32⟩
  | 28 => ⟨S352x1024, .f32⟩
  | 29 => ⟨S_, .f32⟩
  | 30 => ⟨S352x1024, .f32⟩
  | 31 => ⟨S352x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_7 : Ref sig .tc := ⟨.hbm, 43, rfl⟩
abbrev main_v19 : Ref sig .tc := ⟨.hbm, 44, rfl⟩
abbrev main_v20 : Ref sig .tc := ⟨.hbm, 45, rfl⟩
abbrev main_cst_8 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_9 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_10 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_v30 : Ref sig .tc := ⟨.hbm, 59, rfl⟩
abbrev main_v31 : Ref sig .tc := ⟨.hbm, 60, rfl⟩
abbrev main_cst_12 : Ref sig .tc := ⟨.hbm, 61, rfl⟩
abbrev main_v32 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_15 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_16 : Ref sig .tc := ⟨.hbm, 76, rfl⟩
abbrev main_v43 : Ref sig .tc := ⟨.hbm, 77, rfl⟩
abbrev main_v44 : Ref sig .tc := ⟨.hbm, 78, rfl⟩
abbrev main_cst_17 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_18 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_19 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_20 : Ref sig .tc := ⟨.hbm, 91, rfl⟩
abbrev main_v54 : Ref sig .tc := ⟨.hbm, 92, rfl⟩
abbrev main_v55 : Ref sig .tc := ⟨.hbm, 93, rfl⟩
abbrev main_cst_21 : Ref sig .tc := ⟨.hbm, 94, rfl⟩
abbrev main_v56 : Ref sig .tc := ⟨.hbm, 95, rfl⟩
abbrev main_v57 : Ref sig .tc := ⟨.hbm, 96, rfl⟩
abbrev main_cst_22 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_23 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_24 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_25 : Ref sig .tc := ⟨.hbm, 109, rfl⟩
abbrev main_v67 : Ref sig .tc := ⟨.hbm, 110, rfl⟩
abbrev main_v68 : Ref sig .tc := ⟨.hbm, 111, rfl⟩
abbrev main_cst_26 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_27 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_28 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_29 : Ref sig .tc := ⟨.hbm, 124, rfl⟩
abbrev main_v78 : Ref sig .tc := ⟨.hbm, 125, rfl⟩
abbrev main_v79 : Ref sig .tc := ⟨.hbm, 126, rfl⟩
abbrev main_cst_30 : Ref sig .tc := ⟨.hbm, 127, rfl⟩
abbrev main_v80 : Ref sig .tc := ⟨.hbm, 128, rfl⟩
abbrev main_v81 : Ref sig .tc := ⟨.hbm, 129, rfl⟩
abbrev main_cst_31 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_32 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_33 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_34 : Ref sig .tc := ⟨.hbm, 142, rfl⟩
abbrev main_v91 : Ref sig .tc := ⟨.hbm, 143, rfl⟩
abbrev main_v92 : Ref sig .tc := ⟨.hbm, 144, rfl⟩
abbrev main_cst_35 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_36 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_37 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_38 : Ref sig .tc := ⟨.hbm, 157, rfl⟩
abbrev main_v102 : Ref sig .tc := ⟨.hbm, 158, rfl⟩
abbrev main_v103 : Ref sig .tc := ⟨.hbm, 159, rfl⟩

abbrev nD : Nat := 1
abbrev τ : Topo := Topo.v7x

variable {F : FTy → Type} [FloatOps F]
-- ==== Proof.Norm.lean ====
/-
The root-mean-square norm and its derivative, over the extended reals: the scale of one row, and the two ways of
writing the gradient of the row. Nothing here is about a program.
-/
module

public import Idealize.ShloMosaic.Lib.Pipeline.ValueKit

@[expose] public section

noncomputable section

open Idealize.ShloMosaic

namespace Athena.Norm

/-- The constants of the norm: the row's length, the small term under the root, and minus one half. -/
theorem len_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A row's mean square plus the small term. -/
def ms (x : Fin 1024 → EReal) : EReal :=
  Ideal.div (∑ k, x k * x k) (Ideal.ofBits .f32 0x44800000#32) + Ideal.ofBits .f32 0x358637BD#32

/-- A row's scale: one over the root of that. -/
def scale (x : Fin 1024 → EReal) : EReal := Ideal.rsqrt (ms x)

/-- The gradient of a row as the kernel writes it, `w` being the incoming gradient times the gain. -/
def grad (x w : Fin 1024 → EReal) (j : Fin 1024) : EReal :=
  scale x * (w j - x j * scale x * Ideal.div (∑ k, w k * (x k * scale x)) (Ideal.ofBits .f32 0x44800000#32))

/-- What the mean square receives in the chain rule. -/
def back (x w : Fin 1024 → EReal) : EReal :=
  Ideal.div ((∑ k, x k * w k) * (Ideal.ofBits .f32 0xBF000000#32 * Ideal.div (scale x) (ms x))) (Ideal.ofBits .f32 0x44800000#32)

theorem mul_self_nonneg (a : EReal) : 0 ≤ a * a := by
  induction a using EReal.rec with
  | bot => simp
  | top => simp
  | coe r => rw [← EReal.coe_mul]; exact EReal.coe_nonneg.mpr (_root_.mul_self_nonneg r)

/-- Multiplication by a real number that isn't negative goes through a sum. -/
theorem coe_mul_sum {ι : Type*} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The scale is zero, or a positive real whose square is one over the mean square, a positive real. -/
theorem scale_cases (x : Fin 1024 → EReal) :
    (ms x = ⊤ ∧ scale x = 0) ∨
      (∃ r : ℝ, 0 < r ∧ scale x = (r : EReal) ∧ ms x = (((r * r)⁻¹ : ℝ) : EReal)) := by
  obtain ⟨e, he, hE⟩ := eps_pos
  have hS : 0 ≤ ∑ k, x k * x k := Finset.sum_nonneg fun k _ => mul_self_nonneg _
  have hm : ms x = (∑ k, x k * x k) * ((1 / 1024 : ℝ) : EReal) + (e : EReal) := by
    rw [ms, hE, len_eq, Ideal.div_coe (by norm_num)]
  unfold scale
  rw [hm]
  generalize (∑ k, x k * x k) = S at hS
  induction S using EReal.rec with
  | bot => simp at hS
  | top =>
    left
    rw [EReal.top_mul_coe_of_pos (by norm_num), EReal.top_add_coe]
    exact ⟨rfl, rfl⟩
  | coe s =>
    right
    have hs : 0 ≤ s := EReal.coe_nonneg.mp hS
    have hp : 0 < s * (1 / 1024) + e := by positivity
    refine ⟨(Real.sqrt (s * (1 / 1024) + e))⁻¹, by positivity, ?_, ?_⟩
    · rw [← EReal.coe_mul, ← EReal.coe_add, Ideal.rsqrt_coe, if_neg (not_lt.mpr hp.le), if_neg hp.ne']
    · rw [← EReal.coe_mul, ← EReal.coe_add, ← mul_inv, inv_inv, Real.mul_self_sqrt hp.le]

theorem add_self (a : EReal) : a + a = ((2 : ℝ) : EReal) * a := by
  induction a using EReal.rec with
  | bot => rw [EReal.coe_mul_bot_of_pos (by norm_num)]; rfl
  | top => rw [EReal.coe_mul_top_of_pos (by norm_num)]; rfl
  | coe r => rw [← EReal.coe_mul, ← EReal.coe_add]; congr 1; ring

/-- **The gradient of the norm's row**: the kernel's form is the chain rule's, for every row and every incoming gradient. -/
theorem grad_eq (x w : Fin 1024 → EReal) (j : Fin 1024) :
    grad x w j = w j * scale x + (back x w * x j + x j * back x w) := by
  rcases scale_cases x with ⟨hm, hr⟩ | ⟨r, hr, hs, hm⟩
  · have hb : back x w = 0 := by
      unfold back
      rw [hm, hr, len_eq, Ideal.div_coe (by norm_num), Ideal.div, if_neg EReal.top_ne_zero]
      simp
    rw [grad, hr, hb]; simp
  · have hback : back x w = ((-(1 / 2) * (r * r * r) * (1 / 1024) : ℝ) : EReal) * ∑ k, x k * w k := by
      unfold back
      have h0 : (r * r)⁻¹ ≠ 0 := by positivity
      rw [hm, hs, len_eq, half_eq, Ideal.div_coe (by norm_num), Ideal.div_coe h0, ← EReal.coe_mul, ← EReal.coe_mul,
        mul_assoc, ← EReal.coe_mul, mul_comm]
      congr 2
      field_simp
    have hsum : (∑ k, w k * (x k * (r : EReal))) = (r : EReal) * ∑ k, x k * w k := by
      rw [coe_mul_sum _ _ hr.le]
      exact Finset.sum_congr rfl fun k _ => by rw [mul_comm (x k) (w k), mul_comm (r : EReal), mul_assoc]
    have hneg : ∀ a b : EReal, (r : EReal) * (a - b) = (r : EReal) * a - (r : EReal) * b := by
      intro a b
      rw [sub_eq_add_neg, EReal.left_distrib_of_nonneg_of_ne_top (EReal.coe_nonneg.mpr hr.le) (EReal.coe_ne_top r),
        mul_neg, ← sub_eq_add_neg]
    rw [grad, hs, hsum, len_eq, Ideal.div_coe (by norm_num), hneg, hback, mul_comm (w j)]
    generalize (∑ k, x k * w k) = S
    rw [mul_comm _ (x j), add_self, sub_eq_add_neg]
    congr 1
    rw [show (r : EReal) * (x j * (r : EReal) * ((r : EReal) * S * ((1 / 1024 : ℝ) : EReal)))
        = (((r * r * r * (1 / 1024) : ℝ) : EReal)) * (x j * S) by
      simp only [EReal.coe_mul]; ac_rfl]
    rw [show ((2 : ℝ) : EReal) * (x j * (((-(1 / 2) * (r * r * r) * (1 / 1024) : ℝ) : EReal) * S))
        = ((2 * (-(1 / 2) * (r * r * r) * (1 / 1024)) : ℝ) : EReal) * (x j * S) by
      rw [EReal.coe_mul 2]; generalize ((-(1 / 2) * (r * r * r) * (1 / 1024) : ℝ) : EReal) = Q; ac_rfl]
    rw [← neg_mul, ← EReal.coe_neg]
    congr 2
    ring

end Athena.Norm

end
-- ==== Proof.InMath.lean ====
/-
The gradient through the first norm and the input projection, as the reference's chain rule writes it: its results at an
element, in the words of `Athena.Norm`.
-/
module

public import proofs.«01_k».proof.Proof.Gen.InRefIdeal.Read
public import proofs.«01_k».proof.Proof.Norm

@[expose] public section

set_option maxRecDepth 16384

noncomputable section

open Idealize.ShloMosaic Idealize.ShloMosaic.TcCoe Idealize.SL.Sem

namespace Cert.InRefIdeal.Math

open Cert.InRefIdeal Cert.InRefIdeal.Gen Cert.InRefIdeal.Read

variable (x0 : FVec Ideal S4096x1024 .f32) (x1 : FVec Ideal S1024 .f32) (x2 : FVec Ideal S1024x5632 .f32)
  (x3 : FVec Ideal S4096x2048 .bf16) (x4 : FVec Ideal S4096x1536 .bf16) (x5 : FVec Ideal S4096x2048 .bf16)
  (x6 : FVec Ideal S4096x1024 .f32)

/-- A sum over the projection's columns is the sum over its three parts' columns. -/
theorem sum_parts (f : Fin 5632 → EReal) :
    ∑ k, f k = (∑ k : Fin 2048, f ⟨k, by omega⟩) + (∑ k : Fin 1536, f ⟨2048 + k, by omega⟩)
      + ∑ k : Fin 2048, f ⟨3584 + k, by omega⟩ := by
  rw [Fin.sum_univ_add (a := 3584) (b := 2048) f, Fin.sum_univ_add (a := 2048) (b := 1536)]
  rfl

/-- The gradient that the normed row receives: a row of the three parts side by side against a row of the weight. -/
theorem dh_at (i : Fin 4096) (j : Fin 1024) :
    val_main_v21 (F := Ideal) x2 x3 x4 x5 (ix2 i j)
      = (∑ k : Fin 2048, x3 (ix2 i k) * x2 (ix2 j ⟨k, by omega⟩))
        + (∑ k : Fin 1536, x4 (ix2 i k) * x2 (ix2 j ⟨2048 + k, by omega⟩))
        + ∑ k : Fin 2048, x5 (ix2 i k) * x2 (ix2 j ⟨3584 + k, by omega⟩) := by
  pointwise [val_main_v21, val_main_v3, val_main_v2, val_main_v1, val_main_v0]
  rw [sum_parts]
  congr 1

/-- The gradient of x at an element: the residual's part plus the norm's. -/
theorem dx_at (i : Fin 4096) (j : Fin 1024) :
    val_main_v42 (F := Ideal) x0 x1 x2 x3 x4 x5 x6 (ix2 i j)
      = x6 (ix2 i j) + Athena.Norm.grad (fun k => x0 (ix2 i k))
          (fun k => val_main_v21 (F := Ideal) x2 x3 x4 x5 (ix2 i k) * x1 (ix1 k)) j := by
  pointwise [val_main_v42, val_main_v41, val_main_v40, val_main_v39, val_main_v38, val_main_v37, val_main_v36,
    val_main_v35, val_main_v34, val_main_v33, val_main_v32, val_main_v31, val_main_v30, val_main_v29, val_main_v28,
    val_main_v26, val_main_v25, val_main_v19, val_main_v18, val_main_v17, val_main_v16, val_main_v15, val_main_v14,
    val_main_v13, val_main_v12, val_main_v11, val_main_v10, val_main_v9, val_main_v8, val_main_v7, val_main_v6,
    val_main_v5, val_main_v4, val_main_cst, val_main_cst_0, val_main_cst_1, val_main_cst_2, val_main_cst_5,
    val_main_cst_6, val_main_cst_7]
  rw [Athena.Norm.grad_eq]
  simp only [Fin.sum_univ_one]
  unfold Athena.Norm.back Athena.Norm.scale Athena.Norm.ms
  rw [add_comm (Ideal.div _ _ * _), ← add_assoc, ← add_assoc, add_assoc, add_assoc]

/-- The gain's gradient at an element: the sum over the rows. -/
theorem dg_at (i : Fin 1) (j : Fin 1024) :
    val_main_v43 (F := Ideal) x0 x2 x3 x4 x5 (ix2 i j)
      = ∑ t : Fin 4096, val_main_v21 (F := Ideal) x2 x3 x4 x5 (ix2 t j)
          * (x0 (ix2 t j) * Athena.Norm.scale fun k => x0 (ix2 t k)) := by
  pointwise [val_main_v43, val_main_v27, val_main_v24, val_main_v23, val_main_v22, val_main_v16, val_main_v15,
    val_main_v14, val_main_v13, val_main_v12, val_main_v11, val_main_v10, val_main_v9, val_main_v8, val_main_v7,
    val_main_v6, val_main_v5, val_main_v4, val_main_cst, val_main_cst_0, val_main_cst_1, val_main_cst_2,
    val_main_cst_3, val_main_cst_4]
  simp only [Fin.sum_univ_one]
  exact Finset.sum_congr rfl fun t _ => mul_comm _ _

end Cert.InRefIdeal.Math

end
-- ==== Proof.InValue.lean ====
/-
The kernel of the gradient through the first norm and the input projection: what one block of 512 rows holds, what the
two result arrays hold, and that this is the reference's chain rule.
-/
module

public import proofs.«01_k».proof.Proof.Gen.InBwdIdeal.Value
public import proofs.«01_k».proof.Proof.InMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InBwdIdeal.Value

open Cert.InBwdIdeal Cert.InBwdIdeal.Gen
open Cert.InRefIdeal.Read (val_main_v21 val_main_v42 val_main_v43)

variable (m : (ℓ : Loc nD τ sig) → Buf (Elt Ideal) ℓ)

/-- The windows' blocks: the rows' arrays walk by 512 rows, the weight, the gain and its gradient stay. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] :=
  (by decide +kernel : ∀ t : Fin grid0.N, _)

/-- The three loads of the weight and the product of one block of rows with them. -/
abbrev dhBlk (c : Dev nD) (t : Fin cfg0.N) : FVec Ideal S512x1024 .f32 :=
  k0_pay4 (iblk m c 0 t) (View.ld (iblk m c 3 t) (Rect.unit ![0, 0] ![2048, 1024] inb_S5632x1024_S2048x1024_0_0))
    (iblk m c 1 t) (View.ld (iblk m c 3 t) (Rect.unit ![2048, 0] ![1536, 1024] inb_S5632x1024_S1536x1024_2048_0))
    (iblk m c 2 t) (View.ld (iblk m c 3 t) (Rect.unit ![3584, 0] ![2048, 1024] inb_S5632x1024_S2048x1024_3584_0))

/-- Row r of block t is row 512 t + r of the array. -/
abbrev row (t : Fin cfg0.N) (r : Fin 512) : Fin 4096 := ⟨t.val * 512 + r, by have := lt_of_lt_of_eq t.isLt N_0; omega⟩

/-- The gradient that a block's normed rows receive is the reference's. -/
theorem dh_blk (c : Dev nD) (t : Fin cfg0.N) (r : Fin 512) (q : Fin 1024) :
    dhBlk m c t (ix2 r q) = val_main_v21 (F := Ideal) (m ((c : Thread nD τ).loc main_arg2))
      (m ((c : Thread nD τ).loc main_arg3)) (m ((c : Thread nD τ).loc main_arg4)) (m ((c : Thread nD τ).loc main_arg5))
      (ix2 (row t r) q) := by
  rw [Cert.InRefIdeal.Math.dh_at]
  unfold dhBlk
  pointwise [k0_pay4]
  blk_point [iblk, V, idx t]

/-- One row of the block's gradient of x, in the norm's words. -/
theorem pay2_at (D X dx : FVec Ideal S512x1024 .f32) (g : FVec Ideal S1x1024 .f32) (r : Fin 512) (q : Fin 1024) :
    k0_pay2 D (k0_pay5 X) (k0_pay6 X) g dx (ix2 r q)
      = dx (ix2 r q) + Athena.Norm.grad (fun k => X (ix2 r k)) (fun k => D (ix2 r k) * g (ix2 0 k)) q := by
  unfold Athena.Norm.grad Athena.Norm.scale Athena.Norm.ms
  pointwise [k0_pay2, k0_pay5, k0_pay6]

theorem iblk4_at (c : Dev nD) (t : Fin cfg0.N) (r : Fin 512) (q : Fin 1024) :
    (show FVec Ideal S512x1024 .f32 from iblk m c 4 t) (ix2 r q) = m ((c : Thread nD τ).loc main_arg0) (ix2 (row t r) q) := by
  blk_ext [iblk, V, idx t]

theorem iblk5_at (c : Dev nD) (t : Fin cfg0.N) (r : Fin 512) (q : Fin 1024) :
    (show FVec Ideal S512x1024 .f32 from iblk m c 5 t) (ix2 r q) = m ((c : Thread nD τ).loc main_arg6) (ix2 (row t r) q) := by
  blk_ext [iblk, V, idx t]

theorem iblk6_at (c : Dev nD) (t : Fin cfg0.N) (q : Fin 1024) :
    (show FVec Ideal S1x1024 .f32 from iblk m c 6 t) (ix2 0 q) = m ((c : Thread nD τ).loc main_arg1) (ix1 q) := by
  blk_point [iblk, V, idx t]

/-- What a point stores of the gradient of x is the reference's. -/
theorem point7 (c : Dev nD) (t : Fin cfg0.N) (r : Fin 512) (q : Fin 1024) :
    k0_pay2 (dhBlk m c t) (k0_pay5 (iblk m c 4 t)) (k0_pay6 (iblk m c 4 t)) (iblk m c 6 t) (iblk m c 5 t) (ix2 r q)
      = val_main_v42 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 (row t r) q) := by
  rw [Cert.InRefIdeal.Math.dx_at]
  refine (pay2_at _ (iblk m c 4 t) (iblk m c 5 t) (iblk m c 6 t) r q).trans ?_
  refine congrArg₂ (· + ·) (iblk5_at m c t r q) (congrFun (congrArg₂ Athena.Norm.grad ?_ ?_) q)
  · exact funext fun k => iblk4_at m c t r k
  · exact funext fun k => congrArg₂ (· * ·) (dh_blk m c t r k) (iblk6_at m c t k)

/-- **The gradient of x**: the array after the run is the reference's. -/
theorem final7 (c : Dev nD) : (dats m 0 c).arrAt 7 (cfgs 0).N
    = val_main_v42 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t _ y => ?_
  blk_simp
  rw [after0_7]
  have key := point7 m c t (y 0) (y 1)
  by_cases h0 : t.val % 8 = 0
  · rw [outsAt0_A m c t h0]; frame_out
    refine Eq.trans (congrArg _ ?_) (key.trans (congrArg _ ?_))
    · blk_ext [idx t]
    · blk_ext [idx t]
  · rw [outsAt0_B m c t h0]; frame_out
    refine Eq.trans (congrArg _ ?_) (key.trans (congrArg _ ?_))
    · blk_ext [idx t]
    · blk_ext [idx t]

/-- One block's part of the gain's gradient. -/
theorem pay8_at (c : Dev nD) (t : Fin cfg0.N) (a : FVec Ideal S1x1024 .f32) (j : S1x1024.Idx) :
    k0_pay1 a (k0_pay8 (iblk m c 0 t) (View.ld (iblk m c 3 t) (Rect.unit ![0, 0] ![2048, 1024] inb_S5632x1024_S2048x1024_0_0))
      (iblk m c 1 t) (View.ld (iblk m c 3 t) (Rect.unit ![2048, 0] ![1536, 1024] inb_S5632x1024_S1536x1024_2048_0))
      (iblk m c 2 t) (View.ld (iblk m c 3 t) (Rect.unit ![3584, 0] ![2048, 1024] inb_S5632x1024_S2048x1024_3584_0))
      (iblk m c 4 t)) j
      = a j + ∑ r : Fin 512, dhBlk m c t (ix2 r (j 1)) * ((show FVec Ideal S512x1024 .f32 from iblk m c 4 t) (ix2 r (j 1))
          * Athena.Norm.scale fun k => (show FVec Ideal S512x1024 .f32 from iblk m c 4 t) (ix2 r k)) := by
  unfold Athena.Norm.scale Athena.Norm.ms dhBlk
  pointwise [k0_pay1, k0_pay8, k0_pay6, k0_pay5]

theorem pay3_at (j : S1x1024.Idx) : k0_pay7 (F := Ideal) (k0_pay3 (F := Ideal)) j = 0 := by
  pointwise [k0_pay7, k0_pay3]

theorem pay7_eq (a : FVec Ideal S1x1024 .f32) (j : S1x1024.Idx) : k0_pay7 a j = a j := by
  pointwise [k0_pay7]

/-- **The gain's gradient**: the row after the run is the reference's. -/
theorem final8 (c : Dev nD) : (dats m 0 c).arrAt 8 (cfgs 0).N
    = val_main_v43 (F := Ideal) (m ((c : Thread nD τ).loc main_arg0))
          (m ((c : Thread nD τ).loc main_arg2)) (m ((c : Thread nD τ).loc main_arg3)) (m ((c : Thread nD τ).loc main_arg4))
          (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0)
    (fun t j => ∑ r : Fin 512, dhBlk m c t (ix2 r (j 1)) * ((show FVec Ideal S512x1024 .f32 from iblk m c 4 t) (ix2 r (j 1))
          * Athena.Norm.scale fun k => (show FVec Ideal S512x1024 .f32 from iblk m c 4 t) (ix2 r k)))
    (fun t h j => by
      rw [outsAt0_A m c t h]; frame_out
      exact (pay8_at m c t _ j).trans (congrArg (· + _) (pay3_at j)))
    (fun t h j => by
      rw [outsAt0_B m c t h]; frame_out
      exact (pay8_at m c t _ j).trans (congrArg (· + _) (pay7_eq _ j)))
    (le_of_eq N_0) t0_7 rfl j, zero_add]
  have href := Cert.InRefIdeal.Math.dg_at (m ((c : Thread nD τ).loc main_arg0))
          (m ((c : Thread nD τ).loc main_arg2)) (m ((c : Thread nD τ).loc main_arg3)) (m ((c : Thread nD τ).loc main_arg4))
          (m ((c : Thread nD τ).loc main_arg5)) (j 0) (j 1)
  refine Eq.trans ?_ (href.symm.trans (congrArg _ ?_))
  · refine Fin.sum_mul_add_congr fun t r hl => ?_
    refine congrArg₂ (· * ·) (dh_blk m c t r (j 1)) (congrArg₂ (· * ·) (iblk4_at m c t r (j 1))
      (congrArg Athena.Norm.scale (funext fun k => iblk4_at m c t r k)))
  · blk_ext

end Cert.InBwdIdeal.Value

end
-- ==== Proof.InClaim.lean ====
/-
The claims about the gradient through the first norm and the input projection.
-/
module

public import proofs.«01_k».proof.Defs
public import proofs.«01_k».proof.Proof.Gen.InBwd.Frame
public import proofs.«01_k».proof.Proof.InValue
public import Idealize.ShloMosaic.Lib.Claim

@[expose] public section

noncomputable section

namespace Cert.InClaim

open Idealize.ShloMosaic Idealize.SL.Sem

theorem frame_p : Cert.quiescent_InBwd (hInBwd := Cert.InBwd.Gen.facts) := fun m ρ _ => Cert.InBwd.Gen.frame m ρ

theorem frame_pi : Cert.quiescent_InBwdIdeal (hInBwdIdeal := Cert.InBwdIdeal.Gen.facts) :=
  fun m ρ _ => Cert.InBwdIdeal.Gen.frame m ρ

theorem frame_ri : Cert.quiescent_InRefIdeal (hInRefIdeal := Cert.InRefIdeal.Gen.facts) :=
  fun m ρ _ => (θ_run _ _ _).mono (fun r h => ⟨fun c => (h c).2.2, sem_eq_zero_of_no_sems (by decide) r.2⟩)
    (Cert.InRefIdeal.Value.run (F := Ideal) m ρ)

theorem algebraic : Cert.algebraic_InBwdIdeal_InRefIdeal (hInBwdIdeal := Cert.InBwdIdeal.Gen.facts)
    (hInRefIdeal := Cert.InRefIdeal.Gen.facts) := by
  intro m g m' g' _ hagree
  refine ⟨_, _, Cert.InBwdIdeal.Value.run_blocks m g,
    (θ_run _ _ _).mono (fun r h c => ?_) (Cert.InRefIdeal.Value.run m' g')⟩
  obtain ⟨h0, h1, hargs⟩ := h c
  obtain ⟨a0, a1, a2, a3, a4, a5, a6⟩ := hagree c
  refine ⟨h0.trans ?_, h1.trans ?_, hargs⟩
  · rw [Cert.InRefIdeal.Read.val_main_v42_eq, a0, a1, a2, a3, a4, a5, a6]
    exact (Cert.InBwdIdeal.Value.final7 m c).symm
  · refine (Cert.InRefIdeal.Read.val_main_v43_eq _ _ _ _ _).trans ?_
    rw [a0, a2, a3, a4, a5]
    exact (Cert.InBwdIdeal.Value.final8 m c).symm

end Cert.InClaim

end
-- ==== Proof.Finite.lean ====
/-
Finite extended reals: sums and products of them, the norm's scale of a finite row, and what a precondition that all
absolute values are below infinity says.
-/
module

public import Idealize.ShloMosaic.Lib.ReduceAll
public import proofs.«01_k».proof.Proof.Norm

@[expose] public section

noncomputable section

open Idealize.ShloMosaic

namespace Athena

/-- An extended real that is a real number. -/
def Finite (x : EReal) : Prop := ∃ r : ℝ, x = (r : EReal)

namespace Finite

theorem coe (r : ℝ) : Finite (r : EReal) := ⟨r, rfl⟩

theorem zero : Finite 0 := ⟨0, rfl⟩

theorem add {x y : EReal} (hx : Finite x) (hy : Finite y) : Finite (x + y) := by
  obtain ⟨a, rfl⟩ := hx
  obtain ⟨b, rfl⟩ := hy
  exact ⟨a + b, (EReal.coe_add a b).symm⟩

theorem mul {x y : EReal} (hx : Finite x) (hy : Finite y) : Finite (x * y) := by
  obtain ⟨a, rfl⟩ := hx
  obtain ⟨b, rfl⟩ := hy
  exact ⟨a * b, (EReal.coe_mul a b).symm⟩

theorem sum {ι : Type*} (s : Finset ι) (f : ι → EReal) (h : ∀ k, Finite (f k)) : Finite (∑ k ∈ s, f k) := by
  classical
  induction s using Finset.induction_on with
  | empty => simpa using zero
  | insert a s ha ih => rw [Finset.sum_insert ha]; exact add (h a) ih

/-- The scale of any row is a real number. -/
theorem scale (x : Fin 1024 → EReal) : Finite (Norm.scale x) := by
  rcases Norm.scale_cases x with ⟨_, h⟩ | ⟨r, _, h, _⟩
  · rw [h]; exact zero
  · exact ⟨r, h⟩

end Finite

/-- The bits of infinity are infinity. -/
theorem inf_eq : Ideal.ofBits .f32 0x7F800000#32 = ⊤ := by
  simp [Ideal.ofBits, Ideal.ieee]

/-- A number whose absolute value is below infinity is a real number. -/
theorem finite_of_cmp {x y : EReal} (hy : y = ⊤) (h : Ideal.cmp .olt (max x (-x)) y = 1#1) : Finite x := by
  subst hy
  induction x using EReal.rec with
  | bot => simp [Ideal.cmp] at h
  | top => simp [Ideal.cmp] at h
  | coe r => exact ⟨r, rfl⟩

end Athena

end
-- ==== Proof.Gate.lean ====
/-
The gate's curve and its derivative over the extended reals: the logistic function written with the hyperbolic tangent,
and the two ways of writing the gradient through `silu`.
-/
module

public import proofs.«01_k».proof.Proof.Finite

@[expose] public section

noncomputable section

open Idealize.ShloMosaic

namespace Athena.Gate

/-- One half, as the kernels write it. -/
theorem half_eq : Ideal.ofBits .f32 0x3F000000#32 = ((1 / 2 : ℝ) : EReal) := by
  simp [Ideal.ofBits, Ideal.ieee, -EReal.coe_mul]; norm_num

/-- The logistic function as the kernels write it. -/
def sg (g : EReal) : EReal :=
  Ideal.ofBits .f32 0x3F000000#32 * Ideal.tanh (Ideal.ofBits .f32 0x3F000000#32 * g) + Ideal.ofBits .f32 0x3F000000#32

theorem real_eq (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  field_simp
  nlinarith [h2]

/-- It is the logistic function. -/
theorem sg_eq (g : EReal) : sg g = Ideal.logistic g := by
  unfold sg
  rw [half_eq]
  induction g using EReal.rec with
  | bot =>
    rw [EReal.coe_mul_bot_of_pos (by norm_num), Ideal.logistic_bot]
    show ((1 / 2 : ℝ) : EReal) * (-1) + ((1 / 2 : ℝ) : EReal) = 0
    rw [show (-1 : EReal) = ((-1 : ℝ) : EReal) by simp, ← EReal.coe_mul, ← EReal.coe_add]
    norm_num
  | top =>
    rw [EReal.coe_mul_top_of_pos (by norm_num), Ideal.logistic_top]
    show ((1 / 2 : ℝ) : EReal) * 1 + ((1 / 2 : ℝ) : EReal) = 1
    rw [mul_one, ← EReal.coe_add]
    norm_num
  | coe r =>
    rw [← EReal.coe_mul, Ideal.logistic_coe]
    show ((1 / 2 : ℝ) : EReal) * ((Real.tanh (1 / 2 * r) : ℝ) : EReal) + ((1 / 2 : ℝ) : EReal) = _
    rw [← EReal.coe_mul, ← EReal.coe_add, real_eq]

theorem logistic_finite (g : EReal) : Finite (Ideal.logistic g) := by
  induction g using EReal.rec with
  | bot => rw [Ideal.logistic_bot]; exact Finite.zero
  | top => rw [Ideal.logistic_top]; exact ⟨1, rfl⟩
  | coe r => rw [Ideal.logistic_coe]; exact Finite.coe _

/-- The gradient through `silu`: the kernel's factored form is the chain rule's sum, for finite values. -/
theorem silu_grad {c g : EReal} (hc : Finite c) (hg : Finite g) :
    c * (sg g * (1 + g * (1 - sg g)))
      = c * Ideal.logistic g + g * c * (Ideal.logistic g * (1 - Ideal.logistic g)) := by
  rw [sg_eq]
  obtain ⟨s, hs⟩ := logistic_finite g
  obtain ⟨c, rfl⟩ := hc
  obtain ⟨g, rfl⟩ := hg
  rw [hs, show (1 : EReal) = ((1 : ℝ) : EReal) from rfl]
  norm_cast
  ring

end Athena.Gate

end
-- ==== Proof.FfnMath.lean ====
/-
The gradient through the feed-forward block, as the reference's chain rule writes it: its results at an element, in the
words of `Athena.Norm` and of the logistic function.
-/
module

public import proofs.«01_k».proof.Proof.Gen.FfnRefIdeal.Read
public import proofs.«01_k».proof.Proof.Gate

@[expose] public section

set_option maxRecDepth 16384
noncomputable section
open Idealize.ShloMosaic Idealize.ShloMosaic.TcCoe Idealize.SL.Sem
namespace Cert.FfnRefIdeal.Math
open Cert.FfnRefIdeal Cert.FfnRefIdeal.Gen Cert.FfnRefIdeal.Read
variable (x0 : FVec Ideal S4096x1024 .f32) (x1 : FVec Ideal S1024 .f32) (x2 x3 : FVec Ideal S1024x2816 .f32)
  (x4 : FVec Ideal S2816x1024 .f32) (x5 : FVec Ideal S4096x1024 .f32)

/-- The gate's value: a normed row against a column of the weight. -/
theorem gate_at (i : Fin 4096) (k : Fin 2816) :
    val_main_v13 (F := Ideal) x0 x1 x2 (ix2 i k)
      = ∑ j : Fin 1024, x0 (ix2 i j) * Athena.Norm.scale (fun j => x0 (ix2 i j)) * x1 (ix1 j) * x2 (ix2 j k) := by
  unfold Athena.Norm.scale Athena.Norm.ms
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- What the gated product receives. -/
theorem dact_at (i : Fin 4096) (k : Fin 2816) :
    val_main_v18 (F := Ideal) x4 x5 (ix2 i k) = ∑ j : Fin 1024, x5 (ix2 i j) * x4 (ix2 k j) := by
  pointwise [val_main_v18]

/-- The gate's gradient, by the chain rule. -/
theorem dgate_at (i : Fin 4096) (k : Fin 2816) :
    val_main_v73 (F := Ideal) x0 x1 x2 x3 x4 x5 (ix2 i k)
      = val_main_v18 (F := Ideal) x4 x5 (ix2 i k) * val_main_v14 (F := Ideal) x0 x1 x3 (ix2 i k)
          * Ideal.logistic (val_main_v13 (F := Ideal) x0 x1 x2 (ix2 i k))
        + val_main_v13 (F := Ideal) x0 x1 x2 (ix2 i k)
          * (val_main_v18 (F := Ideal) x4 x5 (ix2 i k) * val_main_v14 (F := Ideal) x0 x1 x3 (ix2 i k))
          * (Ideal.logistic (val_main_v13 (F := Ideal) x0 x1 x2 (ix2 i k))
            * (1 - Ideal.logistic (val_main_v13 (F := Ideal) x0 x1 x2 (ix2 i k)))) := by
  unfold Ideal.logistic
  pointwise [val_main_v73, val_main_v21, val_main_call1_v0, val_main_call1_v1, val_main_call1_v2, val_main_v20,
    val_main_v15_2, val_main_v15_1, val_main_call0_v7, val_main_call0_v6, val_main_call0_v4, val_main_call0_v3,
    val_main_call0_v2, val_main_call0_v1, val_main_call0_v0, val_main_call0_cst, val_main_call0_cst_0, val_main_call0_cst_1]

/-- The gradient of the gated value. -/
theorem dup_at (i : Fin 4096) (k : Fin 2816) :
    val_main_v74 (F := Ideal) x0 x1 x2 x4 x5 (ix2 i k)
      = val_main_v13 (F := Ideal) x0 x1 x2 (ix2 i k) * Ideal.logistic (val_main_v13 (F := Ideal) x0 x1 x2 (ix2 i k))
        * val_main_v18 (F := Ideal) x4 x5 (ix2 i k) := by
  unfold Ideal.logistic
  pointwise [val_main_v74, val_main_v19, val_main_v15_0,
    val_main_v15_2, val_main_v15_1, val_main_call0_v7, val_main_call0_v6, val_main_call0_v4, val_main_call0_v3,
    val_main_call0_v2, val_main_call0_v1, val_main_call0_v0, val_main_call0_cst, val_main_call0_cst_0, val_main_call0_cst_1]

/-- The gradient that the normed row receives. -/
theorem dh_at (i : Fin 4096) (j : Fin 1024) :
    val_main_v51 (F := Ideal) x0 x1 x2 x3 x4 x5 (ix2 i j)
      = (∑ k : Fin 2816, val_main_v74 (F := Ideal) x0 x1 x2 x4 x5 (ix2 i k) * x3 (ix2 j k))
        + ∑ k : Fin 2816, val_main_v73 (F := Ideal) x0 x1 x2 x3 x4 x5 (ix2 i k) * x2 (ix2 j k) := by
  have h1 : val_main_v46 (F := Ideal) x0 x1 x2 x4 x5 = val_main_v19 (F := Ideal) x0 x1 x2 x4 x5 := by
    have : val_main_v44 (F := Ideal) x5 = x5 := by
      funext y; pointwise [val_main_v44]
    unfold val_main_v46 val_main_v45
    rw [this]; rfl
  have h2 : val_main_v49 (F := Ideal) x0 x1 x2 x3 x4 x5 = val_main_v21 (F := Ideal) x0 x1 x2 x3 x4 x5 := by
    have : val_main_v44 (F := Ideal) x5 = x5 := by
      funext y; pointwise [val_main_v44]
    unfold val_main_v49 val_main_call3_v2 val_main_call3_v1 val_main_call3_v0 val_main_v47 val_main_v45
    rw [this]; rfl
  unfold val_main_v51 val_main_v50 val_main_v48
  rw [h1, h2]
  pointwise [val_main_v73, val_main_v74]

/-- The gradient of x at an element: the residual's part plus the norm's. -/
theorem dx_at (i : Fin 4096) (j : Fin 1024) :
    val_main_v72 (F := Ideal) x0 x1 x2 x3 x4 x5 (ix2 i j)
      = x5 (ix2 i j) + Athena.Norm.grad (fun k => x0 (ix2 i k))
          (fun k => val_main_v51 (F := Ideal) x0 x1 x2 x3 x4 x5 (ix2 i k) * x1 (ix1 k)) j := by
  pointwise [val_main_v72, val_main_v71, val_main_v70, val_main_v69, val_main_v68, val_main_v67, val_main_v66,
    val_main_v65, val_main_v64, val_main_v63, val_main_v62, val_main_v61, val_main_v60, val_main_v59, val_main_v58,
    val_main_v56, val_main_v55, val_main_v35, val_main_v32, val_main_v31, val_main_v30, val_main_v29, val_main_v28,
    val_main_v27, val_main_v26, val_main_v25, val_main_v24, val_main_v23, val_main_v22, val_main_cst_2,
    val_main_cst_3, val_main_cst_4, val_main_cst_5, val_main_cst_8, val_main_cst_9, val_main_cst_10]
  rw [Athena.Norm.grad_eq]
  simp only [Fin.sum_univ_one]
  unfold Athena.Norm.back Athena.Norm.scale Athena.Norm.ms
  rw [add_comm (Ideal.div _ _ * _), ← add_assoc, ← add_assoc, add_assoc, add_assoc]

/-- The gain's gradient at an element: the sum over the rows. -/
theorem dg_at (i : Fin 1) (j : Fin 1024) :
    val_main_v75 (F := Ideal) x0 x1 x2 x3 x4 x5 (ix2 i j)
      = ∑ t : Fin 4096, val_main_v51 (F := Ideal) x0 x1 x2 x3 x4 x5 (ix2 t j)
          * (x0 (ix2 t j) * Athena.Norm.scale fun k => x0 (ix2 t k)) := by
  pointwise [val_main_v75, val_main_v57, val_main_v54, val_main_v53, val_main_v52, val_main_v34, val_main_v33,
    val_main_v29, val_main_v28, val_main_v27, val_main_v26, val_main_v25, val_main_v24, val_main_v23, val_main_v22,
    val_main_cst_2, val_main_cst_3, val_main_cst_4, val_main_cst_6, val_main_cst_7]
  simp only [Fin.sum_univ_one]
  exact Finset.sum_congr rfl fun t _ => mul_comm _ _

theorem gate_finite (h0 : ∀ i, Athena.Finite (x0 i)) (h1 : ∀ i, Athena.Finite (x1 i)) (h2 : ∀ i, Athena.Finite (x2 i))
    (i : Fin 4096) (k : Fin 2816) : Athena.Finite (val_main_v13 (F := Ideal) x0 x1 x2 (ix2 i k)) := by
  rw [gate_at]
  exact Athena.Finite.sum _ _ fun j => (((h0 _).mul (Athena.Finite.scale _)).mul (h1 _)).mul (h2 _)

theorem dact_finite (h4 : ∀ i, Athena.Finite (x4 i)) (h5 : ∀ i, Athena.Finite (x5 i))
    (i : Fin 4096) (k : Fin 2816) : Athena.Finite (val_main_v18 (F := Ideal) x4 x5 (ix2 i k)) := by
  rw [dact_at]
  exact Athena.Finite.sum _ _ fun j => (h5 _).mul (h4 _)

/-- `up` is the product that `gate` is, of the other weight. -/
theorem up_eq : val_main_v14 (F := Ideal) x0 x1 x3 = val_main_v13 (F := Ideal) x0 x1 x3 := rfl

end Cert.FfnRefIdeal.Math
end
-- ==== Proof.FfnValue.lean ====
/-
The kernel of the gradient through the feed-forward block: what one block of 512 rows holds, what the four result arrays
hold, and that this is the reference's chain rule, for finite arguments.
-/
module

public import proofs.«01_k».proof.Proof.Gen.FfnBwdIdeal.Value
public import proofs.«01_k».proof.Proof.FfnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnBwdIdeal.Value

open Cert.FfnBwdIdeal Cert.FfnBwdIdeal.Gen
open Cert.FfnRefIdeal.Read (val_main_v13 val_main_v14 val_main_v18 val_main_v51 val_main_v72 val_main_v73 val_main_v74 val_main_v75)

variable (m : (ℓ : Loc nD τ sig) → Buf (Elt Ideal) ℓ)

/-- The arguments of a device: x, the gain, the three weights and the incoming gradient. -/
abbrev ax (c : Dev nD) : FVec Ideal S4096x1024 .f32 := m ((c : Thread nD τ).loc main_arg0)
abbrev ag (c : Dev nD) : FVec Ideal S1024 .f32 := m ((c : Thread nD τ).loc main_arg1)
abbrev awg (c : Dev nD) : FVec Ideal S1024x2816 .f32 := m ((c : Thread nD τ).loc main_arg2)
abbrev awu (c : Dev nD) : FVec Ideal S1024x2816 .f32 := m ((c : Thread nD τ).loc main_arg3)
abbrev awd (c : Dev nD) : FVec Ideal S2816x1024 .f32 := m ((c : Thread nD τ).loc main_arg4)
abbrev act (c : Dev nD) : FVec Ideal S4096x1024 .f32 := m ((c : Thread nD τ).loc main_arg5)

/-- All of a device's arguments are finite. -/
def AllFinite (c : Dev nD) : Prop :=
  (∀ i, Athena.Finite (ax m c i)) ∧ (∀ i, Athena.Finite (ag m c i)) ∧ (∀ i, Athena.Finite (awg m c i))
    ∧ (∀ i, Athena.Finite (awu m c i)) ∧ (∀ i, Athena.Finite (awd m c i)) ∧ ∀ i, Athena.Finite (act m c i)

/-- The windows' blocks: the rows' arrays walk by 512 rows, the weights, the gain and its gradient stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![t.val, 0] ∧ win0_11.index t = ![0, 0] :=
  (by decide +kernel : ∀ t : Fin grid0.N, _)

/-- Row r of block t is row 512 t + r of the array. -/
abbrev row (t : Fin cfg0.N) (r : Fin 512) : Fin 4096 := ⟨t.val * 512 + r, by have := lt_of_lt_of_eq t.isLt N_0; omega⟩

theorem iblk0_at (c : Dev nD) (t : Fin cfg0.N) (r : Fin 512) (q : Fin 1024) :
    (show FVec Ideal S512x1024 .f32 from iblk m c 0 t) (ix2 r q) = act m c (ix2 (row t r) q) := by
  blk_ext [iblk, V, idx t]

theorem iblk1_at (c : Dev nD) (t : Fin cfg0.N) (r : Fin 512) (q : Fin 1024) :
    (show FVec Ideal S512x1024 .f32 from iblk m c 1 t) (ix2 r q) = ax m c (ix2 (row t r) q) := by
  blk_ext [iblk, V, idx t]

theorem V14 (c : Dev nD) : (show FVec Ideal S4096x2816 .bf16 from V m c main_v14)
    = truncf .bf16 (val_main_v13 (F := Ideal) (ax m c) (ag m c) (awg m c)) Cert.FfnRefIdeal.Gen.facts.bitsLt_bf16_f32 := by
  entry_read
  rfl

theorem V16 (c : Dev nD) : (show FVec Ideal S4096x2816 .bf16 from V m c main_v16)
    = truncf .bf16 (val_main_v14 (F := Ideal) (ax m c) (ag m c) (awu m c)) Cert.FfnRefIdeal.Gen.facts.bitsLt_bf16_f32 := by
  entry_read
  rfl

theorem iblk2_at (c : Dev nD) (t : Fin cfg0.N) (r : Fin 512) (q : Fin 2816) :
    (show FVec Ideal S512x2816 .bf16 from iblk m c 2 t) (ix2 r q)
      = val_main_v13 (F := Ideal) (ax m c) (ag m c) (awg m c) (ix2 (row t r) q) := by
  refine Eq.trans ?_ (congrFun (V14 m c) (ix2 (row t r) q))
  blk_ext [iblk, idx t]

theorem iblk3_at (c : Dev nD) (t : Fin cfg0.N) (r : Fin 512) (q : Fin 2816) :
    (show FVec Ideal S512x2816 .bf16 from iblk m c 3 t) (ix2 r q)
      = val_main_v14 (F := Ideal) (ax m c) (ag m c) (awu m c) (ix2 (row t r) q) := by
  refine Eq.trans ?_ (congrFun (V16 m c) (ix2 (row t r) q))
  blk_ext [iblk, idx t]

theorem iblk4_at (c : Dev nD) (t : Fin cfg0.N) (q : Fin 1024) :
    (show FVec Ideal S1x1024 .f32 from iblk m c 4 t) (ix2 0 q) = ag m c (ix1 q) := by
  blk_point [iblk, V, idx t]

theorem iblk5_at (c : Dev nD) (t : Fin cfg0.N) (k : Fin 2816) (q : Fin 1024) :
    (show FVec Ideal S2816x1024 .bf16 from iblk m c 5 t) (ix2 k q) = awg m c (ix2 q k) := by
  blk_point [iblk, V, idx t]

theorem iblk6_at (c : Dev nD) (t : Fin cfg0.N) (k : Fin 2816) (q : Fin 1024) :
    (show FVec Ideal S2816x1024 .bf16 from iblk m c 6 t) (ix2 k q) = awu m c (ix2 q k) := by
  blk_point [iblk, V, idx t]

theorem iblk7_at (c : Dev nD) (t : Fin cfg0.N) (k : Fin 2816) (q : Fin 1024) :
    (show FVec Ideal S2816x1024 .bf16 from iblk m c 7 t) (ix2 k q) = awd m c (ix2 k q) := by
  blk_point [iblk, V, idx t]

/-- What the gated product's rows receive, at a block. -/
theorem dact_blk (c : Dev nD) (t : Fin cfg0.N) (r : Fin 512) (k : Fin 2816) :
    k0_pay2 (iblk m c 0 t) (iblk m c 7 t) (ix2 r k) = val_main_v18 (F := Ideal) (awd m c) (act m c) (ix2 (row t r) k) := by
  rw [Cert.FfnRefIdeal.Math.dact_at]
  have h : k0_pay2 (iblk m c 0 t) (iblk m c 7 t) (ix2 r k)
      = ∑ q : Fin 1024, (show FVec Ideal S512x1024 .f32 from iblk m c 0 t) (ix2 r q)
          * (show FVec Ideal S2816x1024 .bf16 from iblk m c 7 t) (ix2 k q) := by
    pointwise [k0_pay2]
  rw [h]
  exact Finset.sum_congr rfl fun q _ => congrArg₂ (· * ·) (iblk0_at m c t r q) (iblk7_at m c t k q)

/-- The gate's gradient at an element, as the body writes it. -/
theorem pay5_at (a : FVec Ideal S512x1024 .f32) (w : FVec Ideal S2816x1024 .bf16) (g u : FVec Ideal S512x2816 .bf16)
    (r : Fin 512) (k : Fin 2816) :
    (show EReal from k0_pay5 (F := Ideal) a w g u (ix2 r k)) = (show EReal from k0_pay2 (F := Ideal) a w (ix2 r k)) * (show EReal from u (ix2 r k))
      * (Athena.Gate.sg (g (ix2 r k)) * (1 + (show EReal from g (ix2 r k)) * (1 - Athena.Gate.sg (g (ix2 r k))))) := by
  unfold Athena.Gate.sg
  pointwise [k0_pay5, k0_pay4, k0_pay3]

/-- The gated value's gradient at an element, as the body writes it. -/
theorem pay6_at (a : FVec Ideal S512x1024 .f32) (w : FVec Ideal S2816x1024 .bf16) (g : FVec Ideal S512x2816 .bf16)
    (r : Fin 512) (k : Fin 2816) :
    (show EReal from k0_pay6 (F := Ideal) a w g (ix2 r k))
      = (show EReal from k0_pay2 (F := Ideal) a w (ix2 r k)) * ((show EReal from g (ix2 r k)) * Athena.Gate.sg (g (ix2 r k))) := by
  unfold Athena.Gate.sg
  pointwise [k0_pay6, k0_pay4, k0_pay3]

/-- A block of the gate's gradient is the reference's. -/
theorem dgate_blk (c : Dev nD) (hf : AllFinite m c) (t : Fin cfg0.N) (r : Fin 512) (k : Fin 2816) :
    k0_pay5 (iblk m c 0 t) (iblk m c 7 t) (iblk m c 2 t) (iblk m c 3 t) (ix2 r k)
      = val_main_v73 (F := Ideal) (ax m c) (ag m c) (awg m c) (awu m c) (awd m c) (act m c) (ix2 (row t r) k) := by
  obtain ⟨h0, h1, h2, h3, h4, h5⟩ := hf
  refine (pay5_at (iblk m c 0 t) (iblk m c 7 t) (iblk m c 2 t) (iblk m c 3 t) r k).trans ?_
  rw [Cert.FfnRefIdeal.Math.dgate_at]
  refine Eq.trans (congrArg₂ (fun (d u : EReal) => d * u * _) (dact_blk m c t r k) (iblk3_at m c t r k)) ?_
  refine Eq.trans (congrArg (fun g : EReal => (val_main_v18 (F := Ideal) (awd m c) (act m c) (ix2 (row t r) k) : EReal)
    * (val_main_v14 (F := Ideal) (ax m c) (ag m c) (awu m c) (ix2 (row t r) k) : EReal)
    * (Athena.Gate.sg g * (1 + g * (1 - Athena.Gate.sg g)))) (iblk2_at m c t r k)) ?_
  exact Athena.Gate.silu_grad ((Cert.FfnRefIdeal.Math.dact_finite _ _ h4 h5 _ _).mul
    (Cert.FfnRefIdeal.Math.gate_finite _ _ _ h0 h1 h3 _ _)) (Cert.FfnRefIdeal.Math.gate_finite _ _ _ h0 h1 h2 _ _)

/-- A block of the gated value's gradient is the reference's. -/
theorem dup_blk (c : Dev nD) (t : Fin cfg0.N) (r : Fin 512) (k : Fin 2816) :
    k0_pay6 (iblk m c 0 t) (iblk m c 7 t) (iblk m c 2 t) (ix2 r k)
      = val_main_v74 (F := Ideal) (ax m c) (ag m c) (awg m c) (awd m c) (act m c) (ix2 (row t r) k) := by
  refine (pay6_at (iblk m c 0 t) (iblk m c 7 t) (iblk m c 2 t) r k).trans ?_
  rw [Cert.FfnRefIdeal.Math.dup_at]
  refine Eq.trans (congrArg₂ (fun d g : EReal => d * (g * Athena.Gate.sg g)) (dact_blk m c t r k) (iblk2_at m c t r k)) ?_
  show (_ : EReal) * (_ * Athena.Gate.sg _) = _
  rw [Athena.Gate.sg_eq, mul_comm]

/-- The block's gradient of the normed rows. -/
abbrev dhBlk (c : Dev nD) (t : Fin cfg0.N) : FVec Ideal S512x1024 .f32 :=
  k0_pay7 (k0_pay5 (iblk m c 0 t) (iblk m c 7 t) (iblk m c 2 t) (iblk m c 3 t))
    (k0_pay6 (iblk m c 0 t) (iblk m c 7 t) (iblk m c 2 t)) (iblk m c 5 t) (iblk m c 6 t)

theorem dh_blk (c : Dev nD) (hf : AllFinite m c) (t : Fin cfg0.N) (r : Fin 512) (q : Fin 1024) :
    dhBlk m c t (ix2 r q)
      = val_main_v51 (F := Ideal) (ax m c) (ag m c) (awg m c) (awu m c) (awd m c) (act m c) (ix2 (row t r) q) := by
  rw [Cert.FfnRefIdeal.Math.dh_at, add_comm]
  have h : ∀ (a b : FVec Ideal S512x2816 .bf16) (w u : FVec Ideal S2816x1024 .bf16), k0_pay7 a b w u (ix2 r q)
      = (∑ k : Fin 2816, a (ix2 r k) * w (ix2 k q)) + ∑ k : Fin 2816, b (ix2 r k) * u (ix2 k q) := fun a b w u => by
    pointwise [k0_pay7]
  refine (h _ _ (iblk m c 5 t) (iblk m c 6 t)).trans ?_
  refine congrArg₂ (· + ·) (Finset.sum_congr rfl fun k _ => ?_) (Finset.sum_congr rfl fun k _ => ?_)
  · exact congrArg₂ (· * ·) (dgate_blk m c hf t r k) (iblk5_at m c t k q)
  · exact congrArg₂ (· * ·) (dup_blk m c t r k) (iblk6_at m c t k q)

/-- One row of the block's gradient of x, in the norm's words. -/
theorem pay11_at (dx X : FVec Ideal S512x1024 .f32) (a b : FVec Ideal S512x2816 .bf16) (w u : FVec Ideal S2816x1024 .bf16)
    (g : FVec Ideal S1x1024 .f32) (r : Fin 512) (q : Fin 1024) :
    k0_pay11 dx a b w u X g (ix2 r q)
      = dx (ix2 r q) + Athena.Norm.grad (fun k => X (ix2 r k)) (fun k => k0_pay7 a b w u (ix2 r k) * g (ix2 0 k)) q := by
  unfold Athena.Norm.grad Athena.Norm.scale Athena.Norm.ms
  pointwise [k0_pay11, k0_pay9, k0_pay8]

/-- What a point stores of the gradient of x is the reference's. -/
theorem point10 (c : Dev nD) (hf : AllFinite m c) (t : Fin cfg0.N) (r : Fin 512) (q : Fin 1024) :
    k0_pay11 (iblk m c 0 t) (k0_pay5 (iblk m c 0 t) (iblk m c 7 t) (iblk m c 2 t) (iblk m c 3 t))
        (k0_pay6 (iblk m c 0 t) (iblk m c 7 t) (iblk m c 2 t)) (iblk m c 5 t) (iblk m c 6 t) (iblk m c 1 t) (iblk m c 4 t)
        (ix2 r q)
      = val_main_v72 (F := Ideal) (ax m c) (ag m c) (awg m c) (awu m c) (awd m c) (act m c) (ix2 (row t r) q) := by
  rw [Cert.FfnRefIdeal.Math.dx_at]
  refine (pay11_at (iblk m c 0 t) (iblk m c 1 t) _ _ (iblk m c 5 t) (iblk m c 6 t) (iblk m c 4 t) r q).trans ?_
  refine congrArg₂ (· + ·) (iblk0_at m c t r q) (congrFun (congrArg₂ Athena.Norm.grad ?_ ?_) q)
  · exact funext fun k => iblk1_at m c t r k
  · exact funext fun k => congrArg₂ (· * ·) (dh_blk m c hf t r k) (iblk4_at m c t k)

/-- **The gate's gradient**: the array after the run is the reference's. -/
theorem final8 (c : Dev nD) (hf : AllFinite m c) : (dats m 0 c).arrAt 8 (cfgs 0).N
    = val_main_v73 (F := Ideal) (ax m c) (ag m c) (awg m c) (awu m c) (awd m c) (act m c) := by
  refine (dats m 0 c).arrAt_eq_of_covers 8 _ (by decide +kernel) fun t _ y => ?_
  blk_simp
  rw [after0_8]
  have key := dgate_blk m c hf t (y 0) (y 1)
  by_cases h0 : t.val % 8 = 0
  · rw [outsAt0_A m c t h0]; frame_out
    exact (congrArg _ (by blk_ext [idx t])).trans (key.trans (congrArg _ (by blk_ext [idx t])))
  · rw [outsAt0_B m c t h0]; frame_out
    exact (congrArg _ (by blk_ext [idx t])).trans (key.trans (congrArg _ (by blk_ext [idx t])))

/-- **The gated value's gradient**: the array after the run is the reference's. -/
theorem final9 (c : Dev nD) : (dats m 0 c).arrAt 9 (cfgs 0).N
    = val_main_v74 (F := Ideal) (ax m c) (ag m c) (awg m c) (awd m c) (act m c) := by
  refine (dats m 0 c).arrAt_eq_of_covers 9 _ (by decide +kernel) fun t _ y => ?_
  blk_simp
  rw [after0_9]
  have key := dup_blk m c t (y 0) (y 1)
  by_cases h0 : t.val % 8 = 0
  · rw [outsAt0_A m c t h0]; frame_out
    exact (congrArg _ (by blk_ext [idx t])).trans (key.trans (congrArg _ (by blk_ext [idx t])))
  · rw [outsAt0_B m c t h0]; frame_out
    exact (congrArg _ (by blk_ext [idx t])).trans (key.trans (congrArg _ (by blk_ext [idx t])))

/-- **The gradient of x**: the array after the run is the reference's. -/
theorem final10 (c : Dev nD) (hf : AllFinite m c) : (dats m 0 c).arrAt 10 (cfgs 0).N
    = val_main_v72 (F := Ideal) (ax m c) (ag m c) (awg m c) (awu m c) (awd m c) (act m c) := by
  refine (dats m 0 c).arrAt_eq_of_covers 10 _ (by decide +kernel) fun t _ y => ?_
  blk_simp
  rw [after0_10]
  have key := point10 m c hf t (y 0) (y 1)
  by_cases h0 : t.val % 8 = 0
  · rw [outsAt0_A m c t h0]; frame_out
    exact (congrArg _ (by blk_ext [idx t])).trans (key.trans (congrArg _ (by blk_ext [idx t])))
  · rw [outsAt0_B m c t h0]; frame_out
    exact (congrArg _ (by blk_ext [idx t])).trans (key.trans (congrArg _ (by blk_ext [idx t])))

/-- One block's part of the gain's gradient, over what the row held. -/
theorem pay10_at (X : FVec Ideal S512x1024 .f32) (a b : FVec Ideal S512x2816 .bf16) (w u : FVec Ideal S2816x1024 .bf16)
    (g : FVec Ideal S1x1024 .f32) (j : S1x1024.Idx) :
    k0_pay10 a b w u X g j = g j + ∑ r : Fin 512, k0_pay7 a b w u (ix2 r (j 1))
      * (X (ix2 r (j 1)) * Athena.Norm.scale fun k => X (ix2 r k)) := by
  unfold Athena.Norm.scale Athena.Norm.ms
  pointwise [k0_pay10, k0_pay9, k0_pay8]

theorem pay1_at (j : S1x1024.Idx) : (k0_pay1 (F := Ideal) j : EReal) = 0 := by
  pointwise [k0_pay1]

/-- **The gain's gradient**: the row after the run is the reference's. -/
theorem final11 (c : Dev nD) (hf : AllFinite m c) : (dats m 0 c).arrAt 11 (cfgs 0).N
    = val_main_v75 (F := Ideal) (ax m c) (ag m c) (awg m c) (awu m c) (awd m c) (act m c) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0)
    (fun t j => ∑ r : Fin 512, dhBlk m c t (ix2 r (j 1)) * ((show FVec Ideal S512x1024 .f32 from iblk m c 1 t) (ix2 r (j 1))
          * Athena.Norm.scale fun k => (show FVec Ideal S512x1024 .f32 from iblk m c 1 t) (ix2 r k)))
    (fun t h j => by
      rw [outsAt0_A m c t h]; frame_out
      exact (pay10_at (iblk m c 1 t) _ _ (iblk m c 5 t) (iblk m c 6 t) _ j).trans (congrArg (· + _) (pay1_at j)))
    (fun t h j => by
      rw [outsAt0_B m c t h]; frame_out
      exact pay10_at (iblk m c 1 t) _ _ (iblk m c 5 t) (iblk m c 6 t) _ j)
    (le_of_eq N_0) t0_7 rfl j, zero_add]
  have href := Cert.FfnRefIdeal.Math.dg_at (ax m c) (ag m c) (awg m c) (awu m c) (awd m c) (act m c) (j 0) (j 1)
  refine Eq.trans ?_ (href.symm.trans (congrArg _ ?_))
  · refine Fin.sum_mul_add_congr fun t r hl => ?_
    refine congrArg₂ (· * ·) (dh_blk m c hf t r (j 1)) (congrArg₂ (· * ·) (iblk1_at m c t r (j 1))
      (congrArg Athena.Norm.scale (funext fun k => iblk1_at m c t r k)))
  · blk_ext

end Cert.FfnBwdIdeal.Value

end
-- ==== Proof.FfnClaim.lean ====
/-
The claims about the gradient through the feed-forward block.
-/
module

public import proofs.«01_k».proof.Defs
public import proofs.«01_k».proof.Proof.Gen.FfnBwd.Frame
public import proofs.«01_k».proof.Proof.Gen.Pre_ffn_finite
public import proofs.«01_k».proof.Proof.FfnValue
public import Idealize.ShloMosaic.Lib.Claim

@[expose] public section

noncomputable section

namespace Cert.FfnClaim

open Idealize.ShloMosaic Idealize.SL.Sem

theorem frame_p : Cert.quiescent_FfnBwd (hFfnBwd := Cert.FfnBwd.Gen.facts) := fun m ρ _ => Cert.FfnBwd.Gen.frame m ρ

theorem frame_pi : Cert.quiescent_FfnBwdIdeal (hFfnBwdIdeal := Cert.FfnBwdIdeal.Gen.facts) :=
  fun m ρ _ => Cert.FfnBwdIdeal.Gen.frame m ρ

theorem frame_pi_pre : Cert.quiescent_FfnBwdIdeal_pre_ffn_finite (hPre_ffn_finite := Cert.Pre_ffn_finite.Gen.facts)
    (hFfnBwdIdeal := Cert.FfnBwdIdeal.Gen.facts) :=
  fun m ρ _ => Cert.FfnBwdIdeal.Gen.frame m ρ

theorem frame_ri : Cert.quiescent_FfnRefIdeal (hFfnRefIdeal := Cert.FfnRefIdeal.Gen.facts) :=
  fun m ρ _ => (θ_run _ _ _).mono (fun r h => ⟨fun c => (h c).2.2.2.2, sem_eq_zero_of_no_sems (by decide) r.2⟩)
    (Cert.FfnRefIdeal.Value.run (F := Ideal) m ρ)

theorem frame_ri_pre : Cert.quiescent_FfnRefIdeal_pre_ffn_finite (hPre_ffn_finite := Cert.Pre_ffn_finite.Gen.facts)
    (hFfnRefIdeal := Cert.FfnRefIdeal.Gen.facts) :=
  fun m ρ _ => (θ_run _ _ _).mono (fun r h => ⟨fun c => (h c).2.2.2.2, sem_eq_zero_of_no_sems (by decide) r.2⟩)
    (Cert.FfnRefIdeal.Value.run (F := Ideal) m ρ)

section
open Cert.Pre_ffn_finite

instance : Subsingleton S_.Idx := ⟨fun a b => funext fun k => k.elim0⟩

/-- What the precondition says of one array: if all its absolute values are below infinity, its elements are reals. -/
theorem finite_of_all {s u t : Shape} [Subsingleton t.Idx] {axes : List (Fin s.rank)} (x y : FVec Ideal s .f32) (hy : ∀ i, y i = ⊤)
    (init : u.Idx → BitVec 1) (h : s.ReducesTo axes t) (hu : 0 < u.numel) (j : t.Idx)
    (e : Host.reduce IntOp.andi (cmpf .olt (Host.absf x) y) init h hu j = 1#1) (i : s.Idx) : Athena.Finite (x i) :=
  Athena.finite_of_cmp (hy i) (Host.reduce_andi_all _ init h hu j e i)

/-- The precondition makes every argument finite. -/
theorem finite_of_pre (x0 : FVec Ideal S4096x1024 .f32) (x1 : FVec Ideal S1024 .f32) (x2 x3 : FVec Ideal S1024x2816 .f32)
    (x4 : FVec Ideal S2816x1024 .f32) (x5 : FVec Ideal S4096x1024 .f32)
    (h : Cert.Pre_ffn_finite.fn x0 x1 x2 x3 x4 x5 = fun _ => 1#1) :
    (∀ i, Athena.Finite (x0 i)) ∧ (∀ i, Athena.Finite (x1 i)) ∧ (∀ i, Athena.Finite (x2 i)) ∧ (∀ i, Athena.Finite (x3 i))
      ∧ (∀ i, Athena.Finite (x4 i)) ∧ ∀ i, Athena.Finite (x5 i) := by
  have e := congrFun h (fun k => k.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨finite_of_all _ _ (fun _ => Athena.inf_eq) _ _ _ _ e0, finite_of_all _ _ (fun _ => Athena.inf_eq) _ _ _ _ e1,
    finite_of_all _ _ (fun _ => Athena.inf_eq) _ _ _ _ e2, finite_of_all _ _ (fun _ => Athena.inf_eq) _ _ _ _ e3,
    finite_of_all _ _ (fun _ => Athena.inf_eq) _ _ _ _ e4, finite_of_all _ _ (fun _ => Athena.inf_eq) _ _ _ _ e5⟩

end

theorem algebraic : Cert.algebraic_FfnBwdIdeal_FfnRefIdeal_pre_ffn_finite
    (hPre_ffn_finite := Cert.Pre_ffn_finite.Gen.facts) (hFfnBwdIdeal := Cert.FfnBwdIdeal.Gen.facts)
    (hFfnRefIdeal := Cert.FfnRefIdeal.Gen.facts) := by
  intro m g m' g' hpre hagree
  refine ⟨_, _, _, _, Cert.FfnBwdIdeal.Value.run_blocks m g,
    (θ_run _ _ _).mono (fun r h c => ?_) (Cert.FfnRefIdeal.Value.run m' g')⟩
  have hf : Cert.FfnBwdIdeal.Value.AllFinite m c := finite_of_pre _ _ _ _ _ _ (hpre c)
  obtain ⟨h0, h1, h2, h3, hargs⟩ := h c
  obtain ⟨a0, a1, a2, a3, a4, a5⟩ := hagree c
  refine ⟨h0.trans ?_, h1.trans ?_, h2.trans ?_, h3.trans ?_, hargs⟩
  · rw [Cert.FfnRefIdeal.Read.val_main_v73_eq, a0, a1, a2, a3, a4, a5]
    exact (Cert.FfnBwdIdeal.Value.final8 m c hf).symm
  · refine (Cert.FfnRefIdeal.Read.val_main_v74_eq _ _ _ _ _).trans ?_
    rw [a0, a1, a2, a4, a5]
    exact (Cert.FfnBwdIdeal.Value.final9 m c).symm
  · rw [Cert.FfnRefIdeal.Read.val_main_v72_eq, a0, a1, a2, a3, a4, a5]
    exact (Cert.FfnBwdIdeal.Value.final10 m c hf).symm
  · rw [Cert.FfnRefIdeal.Read.val_main_v75_eq, a0, a1, a2, a3, a4, a5]
    exact (Cert.FfnBwdIdeal.Value.final11 m c hf).symm

end Cert.FfnClaim

end
-- ==== Proof.WffnValue.lean ====
/-
The kernel of the feed-forward weights' gradients: what one block of 256 rows holds, what the three result arrays hold,
and that this is the derivative of the three products.
-/
module

public import proofs.«01_k».proof.Proof.Gen.WffnBwdIdeal.Value
public import proofs.«01_k».proof.Proof.Gen.WffnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WffnRefIdeal.Math
open Cert.WffnRefIdeal Cert.WffnRefIdeal.Gen Cert.WffnRefIdeal.Read

/-- The gradient of the gate's weight at an element, transposed: a column of the incoming rows against one of the normed rows. -/
theorem dwg_at (x0 : FVec Ideal S4096x1024 .f32) (x1 : FVec Ideal S1024 .f32) (x4 : FVec Ideal S4096x2816 .bf16)
    (n : Fin 2816) (k : Fin 1024) : (show EReal from val_main_v30 (F := Ideal) x0 x1 x4 (ix2 n k))
      = ∑ t : Fin 4096, (show EReal from x4 (ix2 t n)) * val_main_v12 (F := Ideal) x0 x1 (ix2 t k) := by
  pointwise [val_main_v30, val_main_v29, val_main_v24, val_main_v23, val_main_v19]

/-- `up`'s weight receives the same of its own incoming rows. -/
theorem dwu_eq (x0 : FVec Ideal S4096x1024 .f32) (x1 : FVec Ideal S1024 .f32) (x5 : FVec Ideal S4096x2816 .bf16) :
    val_main_v32 (F := Ideal) x0 x1 x5 = val_main_v30 (F := Ideal) x0 x1 x5 := rfl

/-- The gradient of the last weight at an element. -/
theorem dwd_at (x0 : FVec Ideal S4096x1024 .f32) (x1 : FVec Ideal S1024 .f32) (x2 x3 : FVec Ideal S1024x2816 .f32)
    (x6 : FVec Ideal S4096x1024 .f32) (n : Fin 2816) (k : Fin 1024) :
    (show EReal from val_main_v33 (F := Ideal) x0 x1 x2 x3 x6 (ix2 n k))
      = ∑ t : Fin 4096, x6 (ix2 t k) * val_main_v16 (F := Ideal) x0 x1 x2 x3 (ix2 t n) := by
  pointwise [val_main_v33, val_main_v28, val_main_v27]

end Cert.WffnRefIdeal.Math

namespace Cert.WffnBwdIdeal.Value

open Cert.WffnBwdIdeal Cert.WffnBwdIdeal.Gen
open Cert.WffnRefIdeal.Read (val_main_v12 val_main_v16 val_main_v30 val_main_v32 val_main_v33)

variable (m : (ℓ : Loc nD τ sig) → Buf (Elt Ideal) ℓ)

/-- The arguments of a device: x, the gain, two weights, the rows that gate and up receive, and the block's gradient. -/
abbrev ax (c : Dev nD) : FVec Ideal S4096x1024 .f32 := m ((c : Thread nD τ).loc main_arg0)
abbrev ag (c : Dev nD) : FVec Ideal S1024 .f32 := m ((c : Thread nD τ).loc main_arg1)
abbrev awg (c : Dev nD) : FVec Ideal S1024x2816 .f32 := m ((c : Thread nD τ).loc main_arg2)
abbrev awu (c : Dev nD) : FVec Ideal S1024x2816 .f32 := m ((c : Thread nD τ).loc main_arg3)
abbrev adg (c : Dev nD) : FVec Ideal S4096x2816 .bf16 := m ((c : Thread nD τ).loc main_arg4)
abbrev adu (c : Dev nD) : FVec Ideal S4096x2816 .bf16 := m ((c : Thread nD τ).loc main_arg5)
abbrev act (c : Dev nD) : FVec Ideal S4096x1024 .f32 := m ((c : Thread nD τ).loc main_arg6)

/-- The windows' blocks: the two transposed arrays stay, the others walk by 256 columns, the results by 256 rows. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![t.val, 0]
    ∧ win0_6.index t = ![t.val, 0] ∧ win0_7.index t = ![t.val, 0] :=
  (by decide +kernel : ∀ t : Fin grid0.N, _)

/-- Column q of block t is column 256 t + q of the array. -/
abbrev col (t : Fin cfg0.N) (q : Fin 256) : Fin 2816 := ⟨t.val * 256 + q, by have := lt_of_lt_of_eq t.isLt N_0; omega⟩

theorem V18 (c : Dev nD) : (show FVec Ideal S1024x4096 .bf16 from V m c main_v18)
    = truncf .bf16 (transpose S1024x4096 [1, 0] (val_main_v12 (F := Ideal) (ax m c) (ag m c))
        Cert.WffnBwdIdeal.Gen.facts.transposes_S4096x1024_S1024x4096_1_0) Cert.WffnBwdIdeal.Gen.facts.bitsLt_bf16_f32 := by
  entry_read
  rfl

theorem V20 (c : Dev nD) : (show FVec Ideal S1024x4096 .bf16 from V m c main_v20)
    = truncf .bf16 (transpose S1024x4096 [1, 0] (act m c)
        Cert.WffnBwdIdeal.Gen.facts.transposes_S4096x1024_S1024x4096_1_0) Cert.WffnBwdIdeal.Gen.facts.bitsLt_bf16_f32 := by
  entry_read
  rfl

theorem V21 (c : Dev nD) : (show FVec Ideal S4096x2816 .bf16 from V m c main_v21)
    = truncf .bf16 (val_main_v16 (F := Ideal) (ax m c) (ag m c) (awg m c) (awu m c))
        Cert.WffnBwdIdeal.Gen.facts.bitsLt_bf16_f32 := by
  entry_read
  rfl

theorem iblk0_at (c : Dev nD) (t : Fin cfg0.N) (k : Fin 1024) (r : Fin 4096) :
    (show EReal from (show FVec Ideal S1024x4096 .bf16 from iblk m c 0 t) (ix2 k r))
      = val_main_v12 (F := Ideal) (ax m c) (ag m c) (ix2 r k) := by
  refine Eq.trans (b := (show FVec Ideal S1024x4096 .bf16 from V m c main_v18) (ix2 k r)) ?_ ?_
  · blk_ext [iblk, idx t]
  · rw [V18]
    generalize val_main_v12 (F := Ideal) (ax m c) (ag m c) = f
    pointwise []

theorem iblk1_at (c : Dev nD) (t : Fin cfg0.N) (k : Fin 1024) (r : Fin 4096) :
    (show EReal from (show FVec Ideal S1024x4096 .bf16 from iblk m c 1 t) (ix2 k r)) = act m c (ix2 r k) := by
  refine Eq.trans (b := (show FVec Ideal S1024x4096 .bf16 from V m c main_v20) (ix2 k r)) ?_ ?_
  · blk_ext [iblk, idx t]
  · rw [V20]
    generalize act m c = f
    pointwise []

theorem iblk2_at (c : Dev nD) (t : Fin cfg0.N) (r : Fin 4096) (q : Fin 256) :
    (show FVec Ideal S4096x256 .bf16 from iblk m c 2 t) (ix2 r q) = adg m c (ix2 r (col t q)) := by
  blk_ext [iblk, V, idx t]

theorem iblk3_at (c : Dev nD) (t : Fin cfg0.N) (r : Fin 4096) (q : Fin 256) :
    (show FVec Ideal S4096x256 .bf16 from iblk m c 3 t) (ix2 r q) = adu m c (ix2 r (col t q)) := by
  blk_ext [iblk, V, idx t]

theorem iblk4_at (c : Dev nD) (t : Fin cfg0.N) (r : Fin 4096) (q : Fin 256) :
    (show FVec Ideal S4096x256 .bf16 from iblk m c 4 t) (ix2 r q)
      = val_main_v16 (F := Ideal) (ax m c) (ag m c) (awg m c) (awu m c) (ix2 r (col t q)) := by
  refine Eq.trans ?_ (congrFun (V21 m c) (ix2 r (col t q)))
  blk_ext [iblk, idx t]

/-- One block of a product's transpose at an element. -/
theorem pay2_at (a : FVec Ideal S1024x4096 .bf16) (b : FVec Ideal S4096x256 .bf16) (q : Fin 256) (k : Fin 1024) :
    (show EReal from k0_pay2 (F := Ideal) a b (ix2 q k)) = ∑ r : Fin 4096, a (ix2 k r) * b (ix2 r q) := by
  pointwise [k0_pay2, k0_pay1]

theorem pay3_at (a : FVec Ideal S1024x4096 .bf16) (b : FVec Ideal S4096x256 .bf16) (q : Fin 256) (k : Fin 1024) :
    (show EReal from k0_pay3 (F := Ideal) a b (ix2 q k)) = ∑ r : Fin 4096, a (ix2 k r) * b (ix2 r q) := by
  pointwise [k0_pay3, k0_pay1]

theorem pay4_at (a : FVec Ideal S1024x4096 .bf16) (b : FVec Ideal S4096x256 .bf16) (q : Fin 256) (k : Fin 1024) :
    (show EReal from k0_pay4 (F := Ideal) a b (ix2 q k)) = ∑ r : Fin 4096, a (ix2 k r) * b (ix2 r q) := by
  pointwise [k0_pay4]

/-- A block of the gate's weight's gradient is the reference's. -/
theorem point5 (c : Dev nD) (t : Fin cfg0.N) (q : Fin 256) (k : Fin 1024) :
    k0_pay2 (iblk m c 0 t) (iblk m c 2 t) (ix2 q k) = val_main_v30 (F := Ideal) (ax m c) (ag m c) (adg m c) (ix2 (col t q) k) := by
  refine (pay2_at (iblk m c 0 t) (iblk m c 2 t) q k).trans (Eq.trans ?_ (Cert.WffnRefIdeal.Math.dwg_at _ _ _ _ _).symm)
  refine Finset.sum_congr rfl fun r _ => (mul_comm _ _).trans ?_
  exact congrArg₂ (fun a b : EReal => a * b) (iblk2_at m c t r q) (iblk0_at m c t k r)

theorem point6 (c : Dev nD) (t : Fin cfg0.N) (q : Fin 256) (k : Fin 1024) :
    k0_pay3 (iblk m c 0 t) (iblk m c 3 t) (ix2 q k) = val_main_v32 (F := Ideal) (ax m c) (ag m c) (adu m c) (ix2 (col t q) k) := by
  rw [Cert.WffnRefIdeal.Math.dwu_eq]
  refine (pay3_at (iblk m c 0 t) (iblk m c 3 t) q k).trans (Eq.trans ?_ (Cert.WffnRefIdeal.Math.dwg_at _ _ _ _ _).symm)
  refine Finset.sum_congr rfl fun r _ => (mul_comm _ _).trans ?_
  exact congrArg₂ (fun a b : EReal => a * b) (iblk3_at m c t r q) (iblk0_at m c t k r)

theorem point7 (c : Dev nD) (t : Fin cfg0.N) (q : Fin 256) (k : Fin 1024) :
    k0_pay4 (iblk m c 1 t) (iblk m c 4 t) (ix2 q k)
      = val_main_v33 (F := Ideal) (ax m c) (ag m c) (awg m c) (awu m c) (act m c) (ix2 (col t q) k) := by
  refine (pay4_at (iblk m c 1 t) (iblk m c 4 t) q k).trans (Eq.trans ?_ (Cert.WffnRefIdeal.Math.dwd_at _ _ _ _ _ _ _).symm)
  refine Finset.sum_congr rfl fun r _ => ?_
  exact congrArg₂ (fun a b : EReal => a * b) (iblk1_at m c t k r) (iblk4_at m c t r q)

/-- **The gradient of the gate's weight**: the array after the run is the reference's. -/
theorem final5 (c : Dev nD) : (dats m 0 c).arrAt 5 (cfgs 0).N = val_main_v30 (F := Ideal) (ax m c) (ag m c) (adg m c) := by
  refine (dats m 0 c).arrAt_eq_of_covers 5 _ (by decide +kernel) fun t _ y => ?_
  blk_simp
  rw [after0_5]
  have key := point5 m c t (y 0) (y 1)
  frame_out
  exact (congrArg _ (by blk_ext [idx t])).trans (key.trans (congrArg _ (by blk_ext [idx t])))

/-- **The gradient of up's weight**: the array after the run is the reference's. -/
theorem final6 (c : Dev nD) : (dats m 0 c).arrAt 6 (cfgs 0).N = val_main_v32 (F := Ideal) (ax m c) (ag m c) (adu m c) := by
  refine (dats m 0 c).arrAt_eq_of_covers 6 _ (by decide +kernel) fun t _ y => ?_
  blk_simp
  rw [after0_6]
  have key := point6 m c t (y 0) (y 1)
  frame_out
  exact (congrArg _ (by blk_ext [idx t])).trans (key.trans (congrArg _ (by blk_ext [idx t])))

/-- **The gradient of the last weight**: the array after the run is the reference's. -/
theorem final7 (c : Dev nD) : (dats m 0 c).arrAt 7 (cfgs 0).N
    = val_main_v33 (F := Ideal) (ax m c) (ag m c) (awg m c) (awu m c) (act m c) := by
  refine (dats m 0 c).arrAt_eq_of_covers 7 _ (by decide +kernel) fun t _ y => ?_
  blk_simp
  rw [after0_7]
  have key := point7 m c t (y 0) (y 1)
  frame_out
  exact (congrArg _ (by blk_ext [idx t])).trans (key.trans (congrArg _ (by blk_ext [idx t])))

end Cert.WffnBwdIdeal.Value

end
-- ==== Proof.WffnClaim.lean ====
/-
The claims about the gradients of the feed-forward layer's three weights.
-/
module

public import proofs.«01_k».proof.Defs
public import proofs.«01_k».proof.Proof.Gen.WffnBwd.Frame
public import proofs.«01_k».proof.Proof.WffnValue
public import Idealize.ShloMosaic.Lib.Claim

@[expose] public section

noncomputable section

namespace Cert.WffnClaim

open Idealize.ShloMosaic Idealize.SL.Sem

theorem frame_p : Cert.quiescent_WffnBwd (hWffnBwd := Cert.WffnBwd.Gen.facts) := fun m ρ _ => Cert.WffnBwd.Gen.frame m ρ

theorem frame_pi : Cert.quiescent_WffnBwdIdeal (hWffnBwdIdeal := Cert.WffnBwdIdeal.Gen.facts) :=
  fun m ρ _ => Cert.WffnBwdIdeal.Gen.frame m ρ

theorem frame_ri : Cert.quiescent_WffnRefIdeal (hWffnRefIdeal := Cert.WffnRefIdeal.Gen.facts) :=
  fun m ρ _ => (θ_run _ _ _).mono (fun r h => ⟨fun c => (h c).2.2.2, sem_eq_zero_of_no_sems (by decide) r.2⟩)
    (Cert.WffnRefIdeal.Value.run (F := Ideal) m ρ)

theorem algebraic : Cert.algebraic_WffnBwdIdeal_WffnRefIdeal (hWffnBwdIdeal := Cert.WffnBwdIdeal.Gen.facts)
    (hWffnRefIdeal := Cert.WffnRefIdeal.Gen.facts) := by
  intro m g m' g' _ hagree
  refine ⟨_, _, _, Cert.WffnBwdIdeal.Value.run_blocks m g,
    (θ_run _ _ _).mono (fun r h c => ?_) (Cert.WffnRefIdeal.Value.run m' g')⟩
  obtain ⟨h0, h1, h2, hargs⟩ := h c
  obtain ⟨a0, a1, a2, a3, a4, a5, a6⟩ := hagree c
  refine ⟨h0.trans ?_, h1.trans ?_, h2.trans ?_, hargs⟩
  · refine (Cert.WffnRefIdeal.Read.val_main_v30_eq _ _ _).trans ?_
    rw [a0, a1, a4]
    exact (Cert.WffnBwdIdeal.Value.final5 m c).symm
  · refine (Cert.WffnRefIdeal.Read.val_main_v32_eq _ _ _).trans ?_
    rw [a0, a1, a5]
    exact (Cert.WffnBwdIdeal.Value.final6 m c).symm
  · refine (Cert.WffnRefIdeal.Read.val_main_v33_eq _ _ _ _ _).trans ?_
    rw [a0, a1, a2, a3, a6]
    exact (Cert.WffnBwdIdeal.Value.final7 m c).symm

end Cert.WffnClaim

end
-- ==== Proof.Adam.lean ====
/-
One step of AdamW at one weight, over the extended reals: the two moments and the weight's change.
-/
module

public import Idealize.ShloMosaic.Lib.Pipeline.ValueKit

@[expose] public section

noncomputable section

open Idealize.ShloMosaic

namespace Athena.Adam

/-- The first moment after the step: 0.9 of the old one and 0.1 of the gradient. -/
def newM (g m : EReal) : EReal := Ideal.ofBits .f32 0x3F666666#32 * m + Ideal.ofBits .f32 0x3DCCCCCD#32 * g

/-- The second moment after the step: 0.999 of the old one and 0.001 of the gradient's square. -/
def newV (g v : EReal) : EReal := Ideal.ofBits .f32 0x3F7FBE77#32 * v + Ideal.ofBits .f32 0x3A83126F#32 * (g * g)

/-- The weight's change: the corrected moments' quotient and the decay, times the learning rate. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Athena.Adam

end
-- ==== Proof.WinMath.lean ====
/-
The gradient of the input projection's weight and AdamW of two weights, as the reference writes them, at an element.
-/
module

public import proofs.«01_k».proof.Proof.Gen.WinRefIdeal.Read
public import proofs.«01_k».proof.Proof.Adam

@[expose] public section

set_option maxRecDepth 16384
noncomputable section
open Idealize.ShloMosaic Idealize.ShloMosaic.TcCoe Idealize.SL.Sem
namespace Cert.WinRefIdeal.Math
open Cert.WinRefIdeal Cert.WinRefIdeal.Gen Cert.WinRefIdeal.Read
variable (x5 x7 x8 : FVec Ideal S352x1024 .f32) (x6 : FVec Ideal S4x352x1024 .bf16)

/-- The gradient: the sum of the four parts. -/
theorem g_at (r : Fin 352) (q : Fin 1024) :
    val_main_v22 (F := Ideal) x6 (ix2 r q)
      = (show EReal from x6 (ix3 0 r q)) + (show EReal from x6 (ix3 1 r q)) + (show EReal from x6 (ix3 2 r q))
        + (show EReal from x6 (ix3 3 r q)) := by
  have h : val_main_v22 (F := Ideal) x6 (ix2 r q) = ∑ k : Fin 4, (show EReal from x6 (ix3 k r q)) := by
    pointwise [val_main_v22, val_main_v21, val_main_cst_3]
  rw [h, Fin.sum_univ_four]

theorem m_at (i : S352x1024.Idx) :
    val_main_v31 (F := Ideal) x6 x7 i = Athena.Adam.newM (val_main_v22 (F := Ideal) x6 i) (x7 i) := by
  unfold Athena.Adam.newM
  pointwise [val_main_v31, val_main_v30, val_main_v29, val_main_v28, val_main_v27, val_main_cst_5, val_main_cst_6]

theorem v_at (i : S352x1024.Idx) :
    val_main_v37 (F := Ideal) x6 x8 i = Athena.Adam.newV (val_main_v22 (F := Ideal) x6 i) (x8 i) := by
  unfold Athena.Adam.newV
  pointwise [val_main_v37, val_main_v36, val_main_v35, val_main_v34, val_main_v33, val_main_v32, val_main_cst_7, val_main_cst_8]

theorem delta_at (i : S352x1024.Idx) :
    val_main_v50 (F := Ideal) x5 x6 x7 x8 i = Athena.Adam.delta (x5 i) (val_main_v22 (F := Ideal) x6 i) (x7 i) (x8 i) := by
  unfold Athena.Adam.delta
  rw [← m_at, ← v_at]
  pointwise [val_main_v50, val_main_v49, val_main_v48, val_main_v47, val_main_v46, val_main_v45, val_main_v44, val_main_v43,
    val_main_v42, val_main_v41, val_main_v40, val_main_v39, val_main_v38, val_main_cst_9, val_main_cst_10, val_main_cst_11,
    val_main_cst_12, val_main_cst_13]

/-- The second weight's results are the first's, of its own arrays. -/
theorem second (x9 x11 x12 : FVec Ideal S352x1024 .f32) (x10 : FVec Ideal S4x352x1024 .bf16) :
    val_main_v24 (F := Ideal) x10 = val_main_v22 (F := Ideal) x10
      ∧ val_main_v55 (F := Ideal) x10 x11 = val_main_v31 (F := Ideal) x10 x11
      ∧ val_main_v61 (F := Ideal) x10 x12 = val_main_v37 (F := Ideal) x10 x12
      ∧ val_main_v74 (F := Ideal) x9 x10 x11 x12 = val_main_v50 (F := Ideal) x9 x10 x11 x12 :=
  ⟨rfl, rfl, rfl, rfl⟩

variable (x0 : FVec Ideal S4096x1024 .f32) (x1 : FVec Ideal S1024 .f32) (x2 x4 : FVec Ideal S4096x2048 .bf16)
  (x3 : FVec Ideal S4096x1536 .bf16)

/-- The gradient of the projection's weight at an element, transposed. -/
theorem dw_at (n : Fin 5632) (k : Fin 1024) :
    (show EReal from val_main_v26 (F := Ideal) x0 x1 x2 x3 x4 (ix2 n k))
      = ∑ t : Fin 4096, val_main_v3 (F := Ideal) x2 x3 x4 (ix2 t n) * val_main_v17 (F := Ideal) x0 x1 (ix2 t k) := by
  pointwise [val_main_v26, val_main_v25, val_main_v20, val_main_v19]

/-- The first 2048 columns of the projection's gradient are the first part's. -/
theorem cat_a (t : Fin 4096) (n : Fin 5632) (q : Fin 2048) (h : n.val = q.val) :
    val_main_v3 (F := Ideal) x2 x3 x4 (ix2 t n) = (show EReal from x2 (ix2 t q)) := by
  rw [show n = (⟨q.val, by have := q.isLt; omega⟩ : Fin 5632) from Fin.ext h]
  pointwise [val_main_v3, val_main_v0, val_main_v1, val_main_v2]

/-- The next 1536 are the second part's. -/
theorem cat_b (t : Fin 4096) (n : Fin 5632) (q : Fin 1536) (h : n.val = 2048 + q.val) :
    val_main_v3 (F := Ideal) x2 x3 x4 (ix2 t n) = (show EReal from x3 (ix2 t q)) := by
  rw [show n = (⟨2048 + q.val, by have := q.isLt; omega⟩ : Fin 5632) from Fin.ext h]
  pointwise [val_main_v3, val_main_v0, val_main_v1, val_main_v2]

/-- The last 2048 are the third part's. -/
theorem cat_c (t : Fin 4096) (n : Fin 5632) (q : Fin 2048) (h : n.val = 3584 + q.val) :
    val_main_v3 (F := Ideal) x2 x3 x4 (ix2 t n) = (show EReal from x4 (ix2 t q)) := by
  rw [show n = (⟨3584 + q.val, by have := q.isLt; omega⟩ : Fin 5632) from Fin.ext h]
  pointwise [val_main_v3, val_main_v0, val_main_v1, val_main_v2]
  rw [dif_neg (by omega), dif_neg (by omega)]
  exact congrArg (fun z => x4 (ix2 t z)) (Fin.ext (by show 3584 + q.val - 2048 - 1536 = q.val; omega))

end Cert.WinRefIdeal.Math
end
-- ==== Proof.WinValue.lean ====
/-
What the call that finds the gradient of the input projection's weight leaves, block by block, and that it is the reference's.
-/
module

public import proofs.«01_k».proof.Proof.Gen.WinBwdIdeal.Value
public import proofs.«01_k».proof.Proof.WinMath

@[expose] public section

set_option maxRecDepth 16384
noncomputable section
open Idealize.ShloMosaic Idealize.ShloMosaic.TcCoe Idealize.SL.Sem
namespace Cert.WinBwdIdeal.Value
open Cert.WinBwdIdeal Cert.WinBwdIdeal.Gen Cert.WinRefIdeal.Read
variable (m : (ℓ : Loc nD τ sig) → Buf (Elt Ideal) ℓ)

abbrev ax (c : Dev nD) : FVec Ideal S4096x1024 .f32 := m ((c : Thread nD τ).loc main_arg0)
abbrev ag (c : Dev nD) : FVec Ideal S1024 .f32 := m ((c : Thread nD τ).loc main_arg1)
abbrev ah (c : Dev nD) : FVec Ideal S4096x2048 .bf16 := m ((c : Thread nD τ).loc main_arg2)
abbrev ac (c : Dev nD) : FVec Ideal S4096x1536 .bf16 := m ((c : Thread nD τ).loc main_arg3)
abbrev agt (c : Dev nD) : FVec Ideal S4096x2048 .bf16 := m ((c : Thread nD τ).loc main_arg4)
abbrev aw (c : Dev nD) : FVec Ideal S352x1024 .f32 := m ((c : Thread nD τ).loc main_arg5)
abbrev ap (c : Dev nD) : FVec Ideal S4x352x1024 .bf16 := m ((c : Thread nD τ).loc main_arg6)
abbrev am (c : Dev nD) : FVec Ideal S352x1024 .f32 := m ((c : Thread nD τ).loc main_arg7)
abbrev av (c : Dev nD) : FVec Ideal S352x1024 .f32 := m ((c : Thread nD τ).loc main_arg8)
abbrev bw (c : Dev nD) : FVec Ideal S352x1024 .f32 := m ((c : Thread nD τ).loc main_arg9)
abbrev bp (c : Dev nD) : FVec Ideal S4x352x1024 .bf16 := m ((c : Thread nD τ).loc main_arg10)
abbrev bm (c : Dev nD) : FVec Ideal S352x1024 .f32 := m ((c : Thread nD τ).loc main_arg11)
abbrev bv (c : Dev nD) : FVec Ideal S352x1024 .f32 := m ((c : Thread nD τ).loc main_arg12)

/-- The windows' blocks: the transposed array stays; the three parts walk by 512 columns, each in its own stretch of
points; the two weights' arrays walk by 32 rows. -/
theorem idx : ∀ t : Fin cfg0.N, win0_0.index t = ![0, 0]
    ∧ win0_1.index t = ![0, min t.val 3] ∧ win0_2.index t = ![0, min (t.val - 4) 2]
    ∧ win0_3.index t = ![0, min (t.val - 7) 3]
    ∧ win0_4.index t = ![t.val, 0] ∧ win0_5.index t = ![0, t.val, 0] ∧ win0_6.index t = ![t.val, 0] ∧ win0_7.index t = ![t.val, 0]
    ∧ win0_8.index t = ![t.val, 0] ∧ win0_9.index t = ![0, t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] :=
  (by decide +kernel : ∀ t : Fin grid0.N, _)

/-- Row r of block t of the two weights' arrays. -/
abbrev row (t : Fin cfg0.N) (r : Fin 32) : Fin 352 := ⟨t.val * 32 + r, by have := lt_of_lt_of_eq t.isLt N_0; omega⟩

/-- Row q of block t of the gradient. -/
abbrev nrow (t : Fin cfg0.N) (q : Fin 512) : Fin 5632 := ⟨t.val * 512 + q, by have := lt_of_lt_of_eq t.isLt N_0; omega⟩

theorem V14 (c : Dev nD) : (show FVec Ideal S1024x4096 .bf16 from V m c main_v14)
    = truncf .bf16 (transpose S1024x4096 [1, 0] (val_main_v17 (F := Ideal) (ax m c) (ag m c))
        Cert.WinBwdIdeal.Gen.facts.transposes_S4096x1024_S1024x4096_1_0) Cert.WinBwdIdeal.Gen.facts.bitsLt_bf16_f32 := by
  entry_read
  rfl

theorem iblk0_at (c : Dev nD) (t : Fin cfg0.N) (k : Fin 1024) (r : Fin 4096) :
    (show EReal from (show FVec Ideal S1024x4096 .bf16 from iblk m c 0 t) (ix2 k r))
      = val_main_v17 (F := Ideal) (ax m c) (ag m c) (ix2 r k) := by
  refine Eq.trans (b := (show FVec Ideal S1024x4096 .bf16 from V m c main_v14) (ix2 k r)) ?_ ?_
  · blk_ext [iblk, idx t]
  · rw [V14]
    generalize val_main_v17 (F := Ideal) (ax m c) (ag m c) = f
    pointwise []

theorem iblk1_at (c : Dev nD) (t : Fin cfg0.N) (h : t.val < 4) (r : Fin 4096) (q : Fin 512) :
    (show FVec Ideal S4096x512 .bf16 from iblk m c 1 t) (ix2 r q) = ah m c (ix2 r ⟨t.val * 512 + q, by omega⟩) := by
  have e : min t.val 3 = t.val := by omega
  blk_ext [iblk, V, idx t, e]

theorem iblk2_at (c : Dev nD) (t : Fin cfg0.N) (h : 4 ≤ t.val) (h' : t.val ≤ 6) (r : Fin 4096) (q : Fin 512) :
    (show FVec Ideal S4096x512 .bf16 from iblk m c 2 t) (ix2 r q) = ac m c (ix2 r ⟨(t.val - 4) * 512 + q, by omega⟩) := by
  have e : min (t.val - 4) 2 = t.val - 4 := by omega
  blk_ext [iblk, V, idx t, e]

theorem iblk3_at (c : Dev nD) (t : Fin cfg0.N) (h : 7 ≤ t.val) (r : Fin 4096) (q : Fin 512) :
    (show FVec Ideal S4096x512 .bf16 from iblk m c 3 t) (ix2 r q)
      = agt m c (ix2 r ⟨(t.val - 7) * 512 + q, by have := lt_of_lt_of_eq t.isLt N_0; omega⟩) := by
  have e : min (t.val - 7) 3 = t.val - 7 := by have := lt_of_lt_of_eq t.isLt N_0; omega
  blk_ext [iblk, V, idx t, e]

theorem iblk4_at (c : Dev nD) (t : Fin cfg0.N) (r : Fin 32) (q : Fin 1024) :
    (show FVec Ideal S32x1024 .f32 from iblk m c 4 t) (ix2 r q) = aw m c (ix2 (row t r) q) := by
  blk_ext [iblk, V, idx t]

theorem iblk5_at (c : Dev nD) (t : Fin cfg0.N) (k : Fin 4) (r : Fin 32) (q : Fin 1024) :
    (show FVec Ideal S4x32x1024 .bf16 from iblk m c 5 t) (ix3 k r q) = ap m c (ix3 k (row t r) q) := by
  blk_ext [iblk, V, idx t]

theorem iblk6_at (c : Dev nD) (t : Fin cfg0.N) (r : Fin 32) (q : Fin 1024) :
    (show FVec Ideal S32x1024 .f32 from iblk m c 6 t) (ix2 r q) = am m c (ix2 (row t r) q) := by
  blk_ext [iblk, V, idx t]

theorem iblk7_at (c : Dev nD) (t : Fin cfg0.N) (r : Fin 32) (q : Fin 1024) :
    (show FVec Ideal S32x1024 .f32 from iblk m c 7 t) (ix2 r q) = av m c (ix2 (row t r) q) := by
  blk_ext [iblk, V, idx t]

theorem iblk8_at (c : Dev nD) (t : Fin cfg0.N) (r : Fin 32) (q : Fin 1024) :
    (show FVec Ideal S32x1024 .f32 from iblk m c 8 t) (ix2 r q) = bw m c (ix2 (row t r) q) := by
  blk_ext [iblk, V, idx t]

theorem iblk9_at (c : Dev nD) (t : Fin cfg0.N) (k : Fin 4) (r : Fin 32) (q : Fin 1024) :
    (show FVec Ideal S4x32x1024 .bf16 from iblk m c 9 t) (ix3 k r q) = bp m c (ix3 k (row t r) q) := by
  blk_ext [iblk, V, idx t]

theorem iblk10_at (c : Dev nD) (t : Fin cfg0.N) (r : Fin 32) (q : Fin 1024) :
    (show FVec Ideal S32x1024 .f32 from iblk m c 10 t) (ix2 r q) = bm m c (ix2 (row t r) q) := by
  blk_ext [iblk, V, idx t]

theorem iblk11_at (c : Dev nD) (t : Fin cfg0.N) (r : Fin 32) (q : Fin 1024) :
    (show FVec Ideal S32x1024 .f32 from iblk m c 11 t) (ix2 r q) = bv m c (ix2 (row t r) q) := by
  blk_ext [iblk, V, idx t]

/-- One block of a product's transpose at an element. -/
theorem pay2_at (a : FVec Ideal S1024x4096 .bf16) (b : FVec Ideal S4096x512 .bf16) (q : Fin 512) (k : Fin 1024) :
    (show EReal from k0_pay2 (F := Ideal) a b (ix2 q k)) = ∑ r : Fin 4096, a (ix2 k r) * b (ix2 r q) := by
  pointwise [k0_pay2]

theorem pay3_at (a : FVec Ideal S1024x4096 .bf16) (b : FVec Ideal S4096x512 .bf16) (q : Fin 512) (k : Fin 1024) :
    (show EReal from k0_pay3 (F := Ideal) a b (ix2 q k)) = ∑ r : Fin 4096, a (ix2 k r) * b (ix2 r q) := by
  pointwise [k0_pay3]

theorem pay4_at (a : FVec Ideal S1024x4096 .bf16) (b : FVec Ideal S4096x512 .bf16) (q : Fin 512) (k : Fin 1024) :
    (show EReal from k0_pay4 (F := Ideal) a b (ix2 q k)) = ∑ r : Fin 4096, a (ix2 k r) * b (ix2 r q) := by
  pointwise [k0_pay4]

/-- A block of the gradient in the first stretch is the reference's. -/
theorem point12a (c : Dev nD) (t : Fin cfg0.N) (h : t.val < 4) (q : Fin 512) (k : Fin 1024) :
    k0_pay2 (iblk m c 0 t) (iblk m c 1 t) (ix2 q k)
      = val_main_v26 (F := Ideal) (ax m c) (ag m c) (ah m c) (ac m c) (agt m c) (ix2 (nrow t q) k) := by
  refine (pay2_at (iblk m c 0 t) (iblk m c 1 t) q k).trans (Eq.trans ?_ (Cert.WinRefIdeal.Math.dw_at _ _ _ _ _ _ _).symm)
  refine Finset.sum_congr rfl fun r _ => (mul_comm _ _).trans ?_
  exact congrArg₂ (fun a b : EReal => a * b)
    ((iblk1_at m c t h r q).trans (Cert.WinRefIdeal.Math.cat_a _ _ _ _ _ _ rfl).symm) (iblk0_at m c t k r)

theorem point12b (c : Dev nD) (t : Fin cfg0.N) (h : 4 ≤ t.val) (h' : t.val ≤ 6) (q : Fin 512) (k : Fin 1024) :
    k0_pay3 (iblk m c 0 t) (iblk m c 2 t) (ix2 q k)
      = val_main_v26 (F := Ideal) (ax m c) (ag m c) (ah m c) (ac m c) (agt m c) (ix2 (nrow t q) k) := by
  refine (pay3_at (iblk m c 0 t) (iblk m c 2 t) q k).trans (Eq.trans ?_ (Cert.WinRefIdeal.Math.dw_at _ _ _ _ _ _ _).symm)
  refine Finset.sum_congr rfl fun r _ => (mul_comm _ _).trans ?_
  exact congrArg₂ (fun a b : EReal => a * b)
    ((iblk2_at m c t h h' r q).trans (Cert.WinRefIdeal.Math.cat_b _ _ _ _ _ _ (by show t.val * 512 + q.val = 2048 + ((t.val - 4) * 512 + q.val); omega)).symm)
    (iblk0_at m c t k r)

theorem point12c (c : Dev nD) (t : Fin cfg0.N) (h : 7 ≤ t.val) (q : Fin 512) (k : Fin 1024) :
    k0_pay4 (iblk m c 0 t) (iblk m c 3 t) (ix2 q k)
      = val_main_v26 (F := Ideal) (ax m c) (ag m c) (ah m c) (ac m c) (agt m c) (ix2 (nrow t q) k) := by
  refine (pay4_at (iblk m c 0 t) (iblk m c 3 t) q k).trans (Eq.trans ?_ (Cert.WinRefIdeal.Math.dw_at _ _ _ _ _ _ _).symm)
  refine Finset.sum_congr rfl fun r _ => (mul_comm _ _).trans ?_
  exact congrArg₂ (fun a b : EReal => a * b)
    ((iblk3_at m c t h r q).trans (Cert.WinRefIdeal.Math.cat_c _ _ _ _ _ _ (by show t.val * 512 + q.val = 3584 + ((t.val - 7) * 512 + q.val); omega)).symm)
    (iblk0_at m c t k r)

/-- **The gradient of the projection's weight**: the array after the run is the reference's. -/
theorem final12 (c : Dev nD) : (dats m 0 c).arrAt 12 (cfgs 0).N
    = val_main_v26 (F := Ideal) (ax m c) (ag m c) (ah m c) (ac m c) (agt m c) := by
  refine (dats m 0 c).arrAt_eq_of_covers 12 _ (by decide +kernel) fun t _ y => ?_
  have ht := lt_of_lt_of_eq t.isLt N_0
  blk_simp
  rw [after0_12]
  by_cases h0 : t.val < 4
  · have key := point12a m c t h0 (y 0) (y 1)
    rw [outsAt0_A m c t h0 (by omega) (by omega)]
    frame_out
    exact (congrArg _ (by blk_ext [idx t])).trans (key.trans (congrArg _ (by blk_ext [idx t])))
  by_cases h1 : t.val ≤ 6
  · have key := point12b m c t (by omega) h1 (y 0) (y 1)
    rw [outsAt0_B m c t h0 (by omega) (by omega)]
    frame_out
    exact (congrArg _ (by blk_ext [idx t])).trans (key.trans (congrArg _ (by blk_ext [idx t])))
  · have key := point12c m c t (by omega) (y 0) (y 1)
    rw [outsAt0_C m c t h0 (by omega) (by omega)]
    frame_out
    exact (congrArg _ (by blk_ext [idx t])).trans (key.trans (congrArg _ (by blk_ext [idx t])))

/-- The four parts of a block, one by one. -/
abbrev ld0 (p : FVec Ideal S4x32x1024 .bf16) : Vec Ideal S1x32x1024 .bf16 :=
  View.ld (S := S4x32x1024) (e' := .bf16) (Val := Elt Ideal) p (Rect.unit ![0, 0, 0] S1x32x1024.size inb_S4x32x1024_S1x32x1024_0_0_0)

abbrev ld1 (p : FVec Ideal S4x32x1024 .bf16) : Vec Ideal S1x32x1024 .bf16 :=
  View.ld (S := S4x32x1024) (e' := .bf16) (Val := Elt Ideal) p (Rect.unit ![1, 0, 0] S1x32x1024.size inb_S4x32x1024_S1x32x1024_1_0_0)

abbrev ld2 (p : FVec Ideal S4x32x1024 .bf16) : Vec Ideal S1x32x1024 .bf16 :=
  View.ld (S := S4x32x1024) (e' := .bf16) (Val := Elt Ideal) p (Rect.unit ![2, 0, 0] S1x32x1024.size inb_S4x32x1024_S1x32x1024_2_0_0)

abbrev ld3 (p : FVec Ideal S4x32x1024 .bf16) : Vec Ideal S1x32x1024 .bf16 :=
  View.ld (S := S4x32x1024) (e' := .bf16) (Val := Elt Ideal) p (Rect.unit ![3, 0, 0] S1x32x1024.size inb_S4x32x1024_S1x32x1024_3_0_0)

/-- The four parts' sum over a block. -/
abbrev sum4 (p : FVec Ideal S4x32x1024 .bf16) : FVec Ideal S32x1024 .f32 :=
  k0_pay5 (F := Ideal) (ld0 p) (ld1 p) (ld2 p) (ld3 p)

theorem sum4_at (p : FVec Ideal S4x32x1024 .bf16) (r : Fin 32) (q : Fin 1024) :
    sum4 p (ix2 r q) = (show EReal from p (ix3 0 r q)) + (show EReal from p (ix3 1 r q)) + (show EReal from p (ix3 2 r q))
      + (show EReal from p (ix3 3 r q)) := by
  pointwise [sum4, ld0, ld1, ld2, ld3, k0_pay5]

theorem pay6_at (g mm : FVec Ideal S32x1024 .f32) (i : S32x1024.Idx) :
    k0_pay6 (F := Ideal) g mm i = Athena.Adam.newM (g i) (mm i) := by
  unfold Athena.Adam.newM
  pointwise [k0_pay6]

theorem pay7_at (g v : FVec Ideal S32x1024 .f32) (i : S32x1024.Idx) :
    k0_pay7 (F := Ideal) g v i = Athena.Adam.newV (g i) (v i) := by
  unfold Athena.Adam.newV
  pointwise [k0_pay7]

theorem pay8_at (g w mm v : FVec Ideal S32x1024 .f32) (i : S32x1024.Idx) :
    k0_pay8 (F := Ideal) g w mm v i = Athena.Adam.delta (w i) (g i) (mm i) (v i) := by
  unfold Athena.Adam.delta
  rw [← pay6_at, ← pay7_at]
  pointwise [k0_pay8]

section First
variable (c : Dev nD) (t : Fin cfg0.N) (r : Fin 32) (q : Fin 1024)

/-- A block of the first weight's gradient is the reference's. -/
theorem point13 : sum4 (iblk m c 5 t) (ix2 r q) = val_main_v22 (F := Ideal) (ap m c) (ix2 (row t r) q) := by
  refine (sum4_at _ r q).trans (Eq.trans ?_ (Cert.WinRefIdeal.Math.g_at _ _ _).symm)
  exact congrArg₂ (fun a b : EReal => a + b) (congrArg₂ (fun a b : EReal => a + b) (congrArg₂ (fun a b : EReal => a + b)
    (iblk5_at m c t 0 r q) (iblk5_at m c t 1 r q)) (iblk5_at m c t 2 r q)) (iblk5_at m c t 3 r q)

theorem point14 : k0_pay8 (F := Ideal) (sum4 (iblk m c 5 t)) (iblk m c 4 t) (iblk m c 6 t) (iblk m c 7 t) (ix2 r q)
    = val_main_v50 (F := Ideal) (aw m c) (ap m c) (am m c) (av m c) (ix2 (row t r) q) := by
  refine (pay8_at _ _ _ _ _).trans (Eq.trans ?_ (Cert.WinRefIdeal.Math.delta_at _ _ _ _ _).symm)
  refine Eq.trans (congrArg (fun a => Athena.Adam.delta a _ _ _) (iblk4_at m c t r q)) ?_
  refine Eq.trans (congrArg (fun a => Athena.Adam.delta _ a _ _) (point13 m c t r q)) ?_
  refine Eq.trans (congrArg (fun a => Athena.Adam.delta _ _ a _) (iblk6_at m c t r q)) ?_
  exact congrArg (fun a => Athena.Adam.delta _ _ _ a) (iblk7_at m c t r q)

theorem point15 : k0_pay6 (F := Ideal) (sum4 (iblk m c 5 t)) (iblk m c 6 t) (ix2 r q)
    = val_main_v31 (F := Ideal) (ap m c) (am m c) (ix2 (row t r) q) := by
  refine (pay6_at _ _ _).trans (Eq.trans ?_ (Cert.WinRefIdeal.Math.m_at _ _ _).symm)
  exact congrArg₂ (fun a b : EReal => Athena.Adam.newM a b) (point13 m c t r q) (iblk6_at m c t r q)

theorem point16 : k0_pay7 (F := Ideal) (sum4 (iblk m c 5 t)) (iblk m c 7 t) (ix2 r q)
    = val_main_v37 (F := Ideal) (ap m c) (av m c) (ix2 (row t r) q) := by
  refine (pay7_at _ _ _).trans (Eq.trans ?_ (Cert.WinRefIdeal.Math.v_at _ _ _).symm)
  exact congrArg₂ (fun a b : EReal => Athena.Adam.newV a b) (point13 m c t r q) (iblk7_at m c t r q)

end First

end Cert.WinBwdIdeal.Value

end
-- ==== Proof.WinFirst.lean ====
/-
The first weight's AdamW in the call that finds the gradient of the input projection's weight.
-/
module

public import proofs.«01_k».proof.Proof.WinValue

@[expose] public section

set_option maxRecDepth 16384
noncomputable section
open Idealize.ShloMosaic Idealize.ShloMosaic.TcCoe Idealize.SL.Sem
namespace Cert.WinBwdIdeal.Value
open Cert.WinBwdIdeal Cert.WinBwdIdeal.Gen Cert.WinRefIdeal.Read
variable (m : (ℓ : Loc nD τ sig) → Buf (Elt Ideal) ℓ)

/-- **The gradient of the first weight**: the array after the run is the reference's. -/
theorem final13 (c : Dev nD) : (dats m 0 c).arrAt 13 (cfgs 0).N = val_main_v22 (F := Ideal) (ap m c) := by
  refine (dats m 0 c).arrAt_eq_of_covers 13 _ (by decide +kernel) fun t _ y => ?_
  have ht := lt_of_lt_of_eq t.isLt N_0
  have key := point13 m c t (y 0) (y 1)
  blk_simp
  rw [after0_13]
  by_cases h0 : t.val < 4
  · rw [outsAt0_A m c t h0 (by omega) (by omega)]
    frame_out
    exact (congrArg (sum4 (iblk m c 5 t)) (by blk_ext [idx t])).trans (key.trans (congrArg _ (by blk_ext [idx t])))
  by_cases h1 : t.val ≤ 6
  · rw [outsAt0_B m c t h0 (by omega) (by omega)]
    frame_out
    exact (congrArg (sum4 (iblk m c 5 t)) (by blk_ext [idx t])).trans (key.trans (congrArg _ (by blk_ext [idx t])))
  · rw [outsAt0_C m c t h0 (by omega) (by omega)]
    frame_out
    exact (congrArg (sum4 (iblk m c 5 t)) (by blk_ext [idx t])).trans (key.trans (congrArg _ (by blk_ext [idx t])))

/-- **The change of the first weight**: the array after the run is the reference's. -/
theorem final14 (c : Dev nD) : (dats m 0 c).arrAt 14 (cfgs 0).N = val_main_v50 (F := Ideal) (aw m c) (ap m c) (am m c) (av m c) := by
  refine (dats m 0 c).arrAt_eq_of_covers 14 _ (by decide +kernel) fun t _ y => ?_
  have ht := lt_of_lt_of_eq t.isLt N_0
  have key := point14 m c t (y 0) (y 1)
  blk_simp
  rw [after0_14]
  by_cases h0 : t.val < 4
  · rw [outsAt0_A m c t h0 (by omega) (by omega)]
    frame_out
    exact (congrArg (k0_pay8 (F := Ideal) (sum4 (iblk m c 5 t)) (iblk m c 4 t) (iblk m c 6 t) (iblk m c 7 t)) (by blk_ext [idx t])).trans (key.trans (congrArg _ (by blk_ext [idx t])))
  by_cases h1 : t.val ≤ 6
  · rw [outsAt0_B m c t h0 (by omega) (by omega)]
    frame_out
    exact (congrArg (k0_pay8 (F := Ideal) (sum4 (iblk m c 5 t)) (iblk m c 4 t) (iblk m c 6 t) (iblk m c 7 t)) (by blk_ext [idx t])).trans (key.trans (congrArg _ (by blk_ext [idx t])))
  · rw [outsAt0_C m c t h0 (by omega) (by omega)]
    frame_out
    exact (congrArg (k0_pay8 (F := Ideal) (sum4 (iblk m c 5 t)) (iblk m c 4 t) (iblk m c 6 t) (iblk m c 7 t)) (by blk_ext [idx t])).trans (key.trans (congrArg _ (by blk_ext [idx t])))

/-- **The first moment of the first weight**: the array after the run is the reference's. -/
theorem final15 (c : Dev nD) : (dats m 0 c).arrAt 15 (cfgs 0).N = val_main_v31 (F := Ideal) (ap m c) (am m c) := by
  refine (dats m 0 c).arrAt_eq_of_covers 15 _ (by decide +kernel) fun t _ y => ?_
  have ht := lt_of_lt_of_eq t.isLt N_0
  have key := point15 m c t (y 0) (y 1)
  blk_simp
  rw [after0_15]
  by_cases h0 : t.val < 4
  · rw [outsAt0_A m c t h0 (by omega) (by omega)]
    frame_out
    exact (congrArg (k0_pay6 (F := Ideal) (sum4 (iblk m c 5 t)) (iblk m c 6 t)) (by blk_ext [idx t])).trans (key.trans (congrArg _ (by blk_ext [idx t])))
  by_cases h1 : t.val ≤ 6
  · rw [outsAt0_B m c t h0 (by omega) (by omega)]
    frame_out
    exact (congrArg (k0_pay6 (F := Ideal) (sum4 (iblk m c 5 t)) (iblk m c 6 t)) (by blk_ext [idx t])).trans (key.trans (congrArg _ (by blk_ext [idx t])))
  · rw [outsAt0_C m c t h0 (by omega) (by omega)]
    frame_out
    exact (congrArg (k0_pay6 (F := Ideal) (sum4 (iblk m c 5 t)) (iblk m c 6 t)) (by blk_ext [idx t])).trans (key.trans (congrArg _ (by blk_ext [idx t])))

/-- **The second moment of the first weight**: the array after the run is the reference's. -/
theorem final16 (c : Dev nD) : (dats m 0 c).arrAt 16 (cfgs 0).N = val_main_v37 (F := Ideal) (ap m c) (av m c) := by
  refine (dats m 0 c).arrAt_eq_of_covers 16 _ (by decide +kernel) fun t _ y => ?_
  have ht := lt_of_lt_of_eq t.isLt N_0
  have key := point16 m c t (y 0) (y 1)
  blk_simp
  rw [after0_16]
  by_cases h0 : t.val < 4
  · rw [outsAt0_A m c t h0 (by omega) (by omega)]
    frame_out
    exact (congrArg (k0_pay7 (F := Ideal) (sum4 (iblk m c 5 t)) (iblk m c 7 t)) (by blk_ext [idx t])).trans (key.trans (congrArg _ (by blk_ext [idx t])))
  by_cases h1 : t.val ≤ 6
  · rw [outsAt0_B m c t h0 (by omega) (by omega)]
    frame_out
    exact (congrArg (k0_pay7 (F := Ideal) (sum4 (iblk m c 5 t)) (iblk m c 7 t)) (by blk_ext [idx t])).trans (key.trans (congrArg _ (by blk_ext [idx t])))
  · rw [outsAt0_C m c t h0 (by omega) (by omega)]
    frame_out
    exact (congrArg (k0_pay7 (F := Ideal) (sum4 (iblk m c 5 t)) (iblk m c 7 t)) (by blk_ext [idx t])).trans (key.trans (congrArg _ (by blk_ext [idx t])))

end Cert.WinBwdIdeal.Value

end
-- ==== Proof.WinSecond.lean ====
/-
The second weight's AdamW in the call that finds the gradient of the input projection's weight.
-/
module

public import proofs.«01_k».proof.Proof.WinFirst

@[expose] public section

set_option maxRecDepth 16384
noncomputable section
open Idealize.ShloMosaic Idealize.ShloMosaic.TcCoe Idealize.SL.Sem
namespace Cert.WinBwdIdeal.Value
open Cert.WinBwdIdeal Cert.WinBwdIdeal.Gen Cert.WinRefIdeal.Read
variable (m : (ℓ : Loc nD τ sig) → Buf (Elt Ideal) ℓ)

section Second
variable (c : Dev nD) (t : Fin cfg0.N) (r : Fin 32) (q : Fin 1024)

/-- A block of the second weight's gradient is the reference's. -/
theorem point17 : sum4 (iblk m c 9 t) (ix2 r q) = val_main_v24 (F := Ideal) (bp m c) (ix2 (row t r) q) := by
  refine (sum4_at _ r q).trans (Eq.trans ?_ (Cert.WinRefIdeal.Math.g_at _ _ _).symm)
  exact congrArg₂ (fun a b : EReal => a + b) (congrArg₂ (fun a b : EReal => a + b) (congrArg₂ (fun a b : EReal => a + b)
    (iblk9_at m c t 0 r q) (iblk9_at m c t 1 r q)) (iblk9_at m c t 2 r q)) (iblk9_at m c t 3 r q)

theorem point18 : k0_pay8 (F := Ideal) (sum4 (iblk m c 9 t)) (iblk m c 8 t) (iblk m c 10 t) (iblk m c 11 t) (ix2 r q)
    = val_main_v74 (F := Ideal) (bw m c) (bp m c) (bm m c) (bv m c) (ix2 (row t r) q) := by
  refine (pay8_at _ _ _ _ _).trans (Eq.trans ?_ (Cert.WinRefIdeal.Math.delta_at _ _ _ _ _).symm)
  refine Eq.trans (congrArg (fun a => Athena.Adam.delta a _ _ _) (iblk8_at m c t r q)) ?_
  refine Eq.trans (congrArg (fun a => Athena.Adam.delta _ a _ _) (point17 m c t r q)) ?_
  refine Eq.trans (congrArg (fun a => Athena.Adam.delta _ _ a _) (iblk10_at m c t r q)) ?_
  exact congrArg (fun a => Athena.Adam.delta _ _ _ a) (iblk11_at m c t r q)

theorem point19 : k0_pay6 (F := Ideal) (sum4 (iblk m c 9 t)) (iblk m c 10 t) (ix2 r q)
    = val_main_v55 (F := Ideal) (bp m c) (bm m c) (ix2 (row t r) q) := by
  refine (pay6_at _ _ _).trans (Eq.trans ?_ (Cert.WinRefIdeal.Math.m_at _ _ _).symm)
  exact congrArg₂ (fun a b : EReal => Athena.Adam.newM a b) (point17 m c t r q) (iblk10_at m c t r q)

theorem point20 : k0_pay7 (F := Ideal) (sum4 (iblk m c 9 t)) (iblk m c 11 t) (ix2 r q)
    = val_main_v61 (F := Ideal) (bp m c) (bv m c) (ix2 (row t r) q) := by
  refine (pay7_at _ _ _).trans (Eq.trans ?_ (Cert.WinRefIdeal.Math.v_at _ _ _).symm)
  exact congrArg₂ (fun a b : EReal => Athena.Adam.newV a b) (point17 m c t r q) (iblk11_at m c t r q)

end Second

/-- The second weight's stages are the first's. -/
theorem same17 (p : FVec Ideal S4x32x1024 .bf16) :
    k0_pay10 (F := Ideal) (k0_pay9 (ld0 p)) (ld1 p) (ld2 p) (ld3 p) = sum4 p := rfl
theorem same18 (p : FVec Ideal S4x32x1024 .bf16) (w mm v : FVec Ideal S32x1024 .f32) :
    k0_pay1 (F := Ideal) (k0_pay13 (k0_pay9 (ld0 p)) (ld1 p) (ld2 p) (ld3 p) w mm v) (FloatOps.ofBits FTy.f32 0xBA83126F#32)
      = k0_pay8 (sum4 p) w mm v := rfl
theorem same19 (p : FVec Ideal S4x32x1024 .bf16) (mm : FVec Ideal S32x1024 .f32) :
    k0_pay11 (F := Ideal) (k0_pay9 (ld0 p)) (ld1 p) (ld2 p) (ld3 p) mm = k0_pay6 (sum4 p) mm := rfl
theorem same20 (p : FVec Ideal S4x32x1024 .bf16) (v : FVec Ideal S32x1024 .f32) :
    k0_pay12 (F := Ideal) (k0_pay9 (ld0 p)) (ld1 p) (ld2 p) (ld3 p) v = k0_pay7 (sum4 p) v := rfl

/-- **The gradient of the second weight**: the array after the run is the reference's. -/
theorem final17 (c : Dev nD) : (dats m 0 c).arrAt 17 (cfgs 0).N = val_main_v24 (F := Ideal) (bp m c) := by
  refine (dats m 0 c).arrAt_eq_of_covers 17 _ (by decide +kernel) fun t _ y => ?_
  have ht := lt_of_lt_of_eq t.isLt N_0
  have key := (congrFun (same17 (iblk m c 9 t)) (ix2 (y 0) (y 1))).trans (point17 m c t (y 0) (y 1))
  blk_simp
  rw [after0_17]
  by_cases h0 : t.val < 4
  · rw [outsAt0_A m c t h0 (by omega) (by omega)]
    frame_out
    exact (congrArg _ (by blk_ext [idx t])).trans (key.trans (congrArg _ (by blk_ext [idx t])))
  by_cases h1 : t.val ≤ 6
  · rw [outsAt0_B m c t h0 (by omega) (by omega)]
    frame_out
    exact (congrArg _ (by blk_ext [idx t])).trans (key.trans (congrArg _ (by blk_ext [idx t])))
  · rw [outsAt0_C m c t h0 (by omega) (by omega)]
    frame_out
    exact (congrArg _ (by blk_ext [idx t])).trans (key.trans (congrArg _ (by blk_ext [idx t])))

/-- **The change of the second weight**: the array after the run is the reference's. -/
theorem final18 (c : Dev nD) : (dats m 0 c).arrAt 18 (cfgs 0).N = val_main_v74 (F := Ideal) (bw m c) (bp m c) (bm m c) (bv m c) := by
  refine (dats m 0 c).arrAt_eq_of_covers 18 _ (by decide +kernel) fun t _ y => ?_
  have ht := lt_of_lt_of_eq t.isLt N_0
  have key := (congrFun (same18 (iblk m c 9 t) (iblk m c 8 t) (iblk m c 10 t) (iblk m c 11 t)) (ix2 (y 0) (y 1))).trans (point18 m c t (y 0) (y 1))
  blk_simp
  rw [after0_18]
  by_cases h0 : t.val < 4
  · rw [outsAt0_A m c t h0 (by omega) (by omega)]
    frame_out
    exact (congrArg _ (by blk_ext [idx t])).trans (key.trans (congrArg _ (by blk_ext [idx t])))
  by_cases h1 : t.val ≤ 6
  · rw [outsAt0_B m c t h0 (by omega) (by omega)]
    frame_out
    exact (congrArg _ (by blk_ext [idx t])).trans (key.trans (congrArg _ (by blk_ext [idx t])))
  · rw [outsAt0_C m c t h0 (by omega) (by omega)]
    frame_out
    exact (congrArg _ (by blk_ext [idx t])).trans (key.trans (congrArg _ (by blk_ext [idx t])))

/-- **The first moment of the second weight**: the array after the run is the reference's. -/
theorem final19 (c : Dev nD) : (dats m 0 c).arrAt 19 (cfgs 0).N = val_main_v55 (F := Ideal) (bp m c) (bm m c) := by
  refine (dats m 0 c).arrAt_eq_of_covers 19 _ (by decide +kernel) fun t _ y => ?_
  have ht := lt_of_lt_of_eq t.isLt N_0
  have key := (congrFun (same19 (iblk m c 9 t) (iblk m c 10 t)) (ix2 (y 0) (y 1))).trans (point19 m c t (y 0) (y 1))
  blk_simp
  rw [after0_19]
  by_cases h0 : t.val < 4
  · rw [outsAt0_A m c t h0 (by omega) (by omega)]
    frame_out
    exact (congrArg _ (by blk_ext [idx t])).trans (key.trans (congrArg _ (by blk_ext [idx t])))
  by_cases h1 : t.val ≤ 6
  · rw [outsAt0_B m c t h0 (by omega) (by omega)]
    frame_out
    exact (congrArg _ (by blk_ext [idx t])).trans (key.trans (congrArg _ (by blk_ext [idx t])))
  · rw [outsAt0_C m c t h0 (by omega) (by omega)]
    frame_out
    exact (congrArg _ (by blk_ext [idx t])).trans (key.trans (congrArg _ (by blk_ext [idx t])))

/-- **The second moment of the second weight**: the array after the run is the reference's. -/
theorem final20 (c : Dev nD) : (dats m 0 c).arrAt 20 (cfgs 0).N = val_main_v61 (F := Ideal) (bp m c) (bv m c) := by
  refine (dats m 0 c).arrAt_eq_of_covers 20 _ (by decide +kernel) fun t _ y => ?_
  have ht := lt_of_lt_of_eq t.isLt N_0
  have key := (congrFun (same20 (iblk m c 9 t) (iblk m c 11 t)) (ix2 (y 0) (y 1))).trans (point20 m c t (y 0) (y 1))
  blk_simp
  rw [after0_20]
  by_cases h0 : t.val < 4
  · rw [outsAt0_A m c t h0 (by omega) (by omega)]
    frame_out
    exact (congrArg _ (by blk_ext [idx t])).trans (key.trans (congrArg _ (by blk_ext [idx t])))
  by_cases h1 : t.val ≤ 6
  · rw [outsAt0_B m c t h0 (by omega) (by omega)]
    frame_out
    exact (congrArg _ (by blk_ext [idx t])).trans (key.trans (congrArg _ (by blk_ext [idx t])))
  · rw [outsAt0_C m c t h0 (by omega) (by omega)]
    frame_out
    exact (congrArg _ (by blk_ext [idx t])).trans (key.trans (congrArg _ (by blk_ext [idx t])))

end Cert.WinBwdIdeal.Value

end
-- ==== Proof.WinClaim.lean ====
/-
The claims about the gradient of the input projection's weight and AdamW of two weights.
-/
module

public import proofs.«01_k».proof.Defs
public import proofs.«01_k».proof.Proof.Gen.WinBwd.Frame
public import proofs.«01_k».proof.Proof.WinSecond
public import Idealize.ShloMosaic.Lib.Claim

@[expose] public section

noncomputable section

namespace Cert.WinClaim

open Idealize.ShloMosaic Idealize.SL.Sem

theorem frame_p : Cert.quiescent_WinBwd (hWinBwd := Cert.WinBwd.Gen.facts) := fun m ρ _ => Cert.WinBwd.Gen.frame m ρ

theorem frame_pi : Cert.quiescent_WinBwdIdeal (hWinBwdIdeal := Cert.WinBwdIdeal.Gen.facts) :=
  fun m ρ _ => Cert.WinBwdIdeal.Gen.frame m ρ

theorem frame_ri : Cert.quiescent_WinRefIdeal (hWinRefIdeal := Cert.WinRefIdeal.Gen.facts) :=
  fun m ρ _ => (θ_run _ _ _).mono (fun r h => ⟨fun c => (h c).2.2.2.2.2.2.2.2.2, sem_eq_zero_of_no_sems (by decide) r.2⟩)
    (Cert.WinRefIdeal.Value.run (F := Ideal) m ρ)

set_option maxHeartbeats 1600000 in
theorem algebraic : Cert.algebraic_WinBwdIdeal_WinRefIdeal (hWinBwdIdeal := Cert.WinBwdIdeal.Gen.facts)
    (hWinRefIdeal := Cert.WinRefIdeal.Gen.facts) := by
  intro m g m' g' _ hagree
  refine ⟨_, _, _, _, _, _, _, _, _, Cert.WinBwdIdeal.Value.run_blocks m g,
    (θ_run _ _ _).mono (fun r h c => ?_) (Cert.WinRefIdeal.Value.run m' g')⟩
  obtain ⟨h0, h1, h2, h3, h4, h5, h6, h7, h8, hargs⟩ := h c
  obtain ⟨a0, a1, a2, a3, a4, a5, a6, a7, a8, a9, a10, a11, a12⟩ := hagree c
  refine ⟨h0.trans ?_, h1.trans ?_, h2.trans ?_, h3.trans ?_, h4.trans ?_, h5.trans ?_, h6.trans ?_, h7.trans ?_,
    h8.trans ?_, hargs⟩
  · refine (Cert.WinRefIdeal.Read.val_main_v26_eq _ _ _ _ _).trans ?_
    rw [a0, a1, a2, a3, a4]
    exact (Cert.WinBwdIdeal.Value.final12 m c).symm
  · refine (Cert.WinRefIdeal.Read.val_main_v22_eq _).trans ?_
    rw [a6]
    exact (Cert.WinBwdIdeal.Value.final13 m c).symm
  · refine (Cert.WinRefIdeal.Read.val_main_v50_eq _ _ _ _).trans ?_
    rw [a5, a6, a7, a8]
    exact (Cert.WinBwdIdeal.Value.final14 m c).symm
  · refine (Cert.WinRefIdeal.Read.val_main_v31_eq _ _).trans ?_
    rw [a6, a7]
    exact (Cert.WinBwdIdeal.Value.final15 m c).symm
  · refine (Cert.WinRefIdeal.Read.val_main_v37_eq _ _).trans ?_
    rw [a6, a8]
    exact (Cert.WinBwdIdeal.Value.final16 m c).symm
  · refine (Cert.WinRefIdeal.Read.val_main_v24_eq _).trans ?_
    rw [a10]
    exact (Cert.WinBwdIdeal.Value.final17 m c).symm
  · refine (Cert.WinRefIdeal.Read.val_main_v74_eq _ _ _ _).trans ?_
    rw [a9, a10, a11, a12]
    exact (Cert.WinBwdIdeal.Value.final18 m c).symm
  · refine (Cert.WinRefIdeal.Read.val_main_v55_eq _ _).trans ?_
    rw [a10, a11]
    exact (Cert.WinBwdIdeal.Value.final19 m c).symm
  · refine (Cert.WinRefIdeal.Read.val_main_v61_eq _ _).trans ?_
    rw [a10, a12]
    exact (Cert.WinBwdIdeal.Value.final20 m c).symm

end Cert.WinClaim

end
-- ==== Proof.AdamInValue.lean ====
/-
The kernel of AdamW at the input projection's weight: the reference's arrays at an element, what one block of 176 rows holds,
and that the four result arrays are the reference's.
-/
module

public import proofs.«01_k».proof.Proof.Gen.AdamInIdeal.Value
public import proofs.«01_k».proof.Proof.Gen.AdamInRefIdeal.Read
public import proofs.«01_k».proof.Proof.Adam
public import Idealize.ShloMosaic.Lib.Pipeline.ValueKit

@[expose] public section

set_option maxRecDepth 16384

noncomputable section

open Idealize.ShloMosaic Idealize.ShloMosaic.TcCoe Idealize.SL.Sem

namespace Cert.AdamInRefIdeal.Math

open Cert.AdamInRefIdeal Cert.AdamInRefIdeal.Gen Cert.AdamInRefIdeal.Read

variable (x0 x2 x3 : FVec Ideal S704x1024 .f32) (x1 : FVec Ideal S4x704x1024 .bf16)

/-- The gradient is the sum of its four parts. -/
theorem g_at (r : Fin 704) (q : Fin 1024) :
    val_main_v1 (F := Ideal) x1 (ix2 r q)
      = (show EReal from x1 (ix3 0 r q)) + (show EReal from x1 (ix3 1 r q)) + (show EReal from x1 (ix3 2 r q))
        + (show EReal from x1 (ix3 3 r q)) := by
  have h : val_main_v1 (F := Ideal) x1 (ix2 r q) = ∑ k : Fin 4, (show EReal from x1 (ix3 k r q)) := by
    pointwise [val_main_v1, val_main_v0, val_main_cst]
  rw [h, Fin.sum_univ_four]

theorem m_at (i : S704x1024.Idx) :
    val_main_v6 (F := Ideal) x1 x2 i = Athena.Adam.newM (val_main_v1 (F := Ideal) x1 i) (x2 i) := by
  unfold Athena.Adam.newM
  pointwise [val_main_v6, val_main_v5, val_main_v4, val_main_v3, val_main_v2, val_main_cst_0, val_main_cst_1]

theorem v_at (i : S704x1024.Idx) :
    val_main_v12 (F := Ideal) x1 x3 i = Athena.Adam.newV (val_main_v1 (F := Ideal) x1 i) (x3 i) := by
  unfold Athena.Adam.newV
  pointwise [val_main_v12, val_main_v11, val_main_v10, val_main_v9, val_main_v8, val_main_v7, val_main_cst_2, val_main_cst_3]

theorem delta_at (i : S704x1024.Idx) :
    val_main_v25 (F := Ideal) x0 x1 x2 x3 i = Athena.Adam.delta (x0 i) (val_main_v1 (F := Ideal) x1 i) (x2 i) (x3 i) := by
  unfold Athena.Adam.delta
  rw [← m_at, ← v_at]
  pointwise [val_main_v25, val_main_v24, val_main_v23, val_main_v22, val_main_v21, val_main_v20, val_main_v19, val_main_v18,
    val_main_v17, val_main_v16, val_main_v15, val_main_v14, val_main_v13, val_main_cst_4, val_main_cst_5, val_main_cst_6,
    val_main_cst_7, val_main_cst_8]

end Cert.AdamInRefIdeal.Math

namespace Cert.AdamInIdeal.Value

open Cert.AdamInIdeal Cert.AdamInIdeal.Gen
open Cert.AdamInRefIdeal.Read (val_main_v1 val_main_v6 val_main_v12 val_main_v25)

variable (m : (ℓ : Loc nD τ sig) → Buf (Elt Ideal) ℓ)

/-- The arguments of a device: the weight, the gradient's four parts and the two moments. -/
abbrev aw (c : Dev nD) : FVec Ideal S704x1024 .f32 := m ((c : Thread nD τ).loc main_arg0)
abbrev ap (c : Dev nD) : FVec Ideal S4x704x1024 .bf16 := m ((c : Thread nD τ).loc main_arg1)
abbrev am (c : Dev nD) : FVec Ideal S704x1024 .f32 := m ((c : Thread nD τ).loc main_arg2)
abbrev av (c : Dev nD) : FVec Ideal S704x1024 .f32 := m ((c : Thread nD τ).loc main_arg3)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row r of block t is row 176 t + r of the array. -/
abbrev row (t : Fin cfg0.N) (r : Fin 176) : Fin 704 := ⟨t.val * 176 + r, by have := lt_of_lt_of_eq t.isLt N_0; omega⟩

abbrev bw (c : Dev nD) (t : Fin cfg0.N) : FVec Ideal S176x1024 .f32 := iblk m c 0 t
abbrev bp (c : Dev nD) (t : Fin cfg0.N) : FVec Ideal S4x176x1024 .bf16 := iblk m c 1 t
abbrev bm (c : Dev nD) (t : Fin cfg0.N) : FVec Ideal S176x1024 .f32 := iblk m c 2 t
abbrev bv (c : Dev nD) (t : Fin cfg0.N) : FVec Ideal S176x1024 .f32 := iblk m c 3 t

/-- The four parts of a block. -/
abbrev ld0 (p : FVec Ideal S4x176x1024 .bf16) : Vec Ideal S1x176x1024 .bf16 :=
  View.ld (S := S4x176x1024) (e' := .bf16) (Val := Elt Ideal) p r0_0
abbrev ld1 (p : FVec Ideal S4x176x1024 .bf16) : Vec Ideal S1x176x1024 .bf16 :=
  View.ld (S := S4x176x1024) (e' := .bf16) (Val := Elt Ideal) p r0_1
abbrev ld2 (p : FVec Ideal S4x176x1024 .bf16) : Vec Ideal S1x176x1024 .bf16 :=
  View.ld (S := S4x176x1024) (e' := .bf16) (Val := Elt Ideal) p r0_2
abbrev ld3 (p : FVec Ideal S4x176x1024 .bf16) : Vec Ideal S1x176x1024 .bf16 :=
  View.ld (S := S4x176x1024) (e' := .bf16) (Val := Elt Ideal) p r0_3

/-- What a block stores. -/
def sG (p : FVec Ideal S4x176x1024 .bf16) : FVec Ideal S176x1024 .f32 := k0_pay2 (F := Ideal) (ld0 p) (ld1 p) (ld2 p) (ld3 p)
def sM (p : FVec Ideal S4x176x1024 .bf16) (a : FVec Ideal S176x1024 .f32) : FVec Ideal S176x1024 .f32 :=
  k0_pay3 (F := Ideal) (ld0 p) (ld1 p) (ld2 p) (ld3 p) a
def sV (p : FVec Ideal S4x176x1024 .bf16) (a : FVec Ideal S176x1024 .f32) : FVec Ideal S176x1024 .f32 :=
  k0_pay4 (F := Ideal) (ld0 p) (ld1 p) (ld2 p) (ld3 p) a
def sD (w : FVec Ideal S176x1024 .f32) (p : FVec Ideal S4x176x1024 .bf16) (a b : FVec Ideal S176x1024 .f32) :
    FVec Ideal S176x1024 .f32 :=
  k0_pay1 (F := Ideal) w (k0_pay5 (F := Ideal) (ld0 p) (ld1 p) (ld2 p) (ld3 p) a)
    (k0_pay6 (F := Ideal) (ld0 p) (ld1 p) (ld2 p) (ld3 p) b) (Scalar.ofBits .f32 0x322BCC77#32)

theorem sG_at (p : FVec Ideal S4x176x1024 .bf16) (r : Fin 176) (q : Fin 1024) :
    sG p (ix2 r q) = (show EReal from p (ix3 0 r q)) + (show EReal from p (ix3 1 r q)) + (show EReal from p (ix3 2 r q))
      + (show EReal from p (ix3 3 r q)) := by
  pointwise [sG, ld0, ld1, ld2, ld3, r0_0, r0_1, r0_2, r0_3, k0_pay2]

theorem sM_at (p : FVec Ideal S4x176x1024 .bf16) (a : FVec Ideal S176x1024 .f32) (i : S176x1024.Idx) :
    sM p a i = Athena.Adam.newM (sG p i) (a i) := by
  unfold Athena.Adam.newM sM k0_pay3
  change _ = _ + _ * k0_pay2 (F := Ideal) (ld0 p) (ld1 p) (ld2 p) (ld3 p) i
  generalize k0_pay2 (F := Ideal) (ld0 p) (ld1 p) (ld2 p) (ld3 p) = P
  pointwise []

theorem sV_at (p : FVec Ideal S4x176x1024 .bf16) (a : FVec Ideal S176x1024 .f32) (i : S176x1024.Idx) :
    sV p a i = Athena.Adam.newV (sG p i) (a i) := by
  unfold Athena.Adam.newV sV k0_pay4
  change _ = _ + _ * (k0_pay2 (F := Ideal) (ld0 p) (ld1 p) (ld2 p) (ld3 p) i * k0_pay2 (F := Ideal) (ld0 p) (ld1 p) (ld2 p) (ld3 p) i)
  generalize k0_pay2 (F := Ideal) (ld0 p) (ld1 p) (ld2 p) (ld3 p) = P
  pointwise []

theorem sD_at (w : FVec Ideal S176x1024 .f32) (p : FVec Ideal S4x176x1024 .bf16) (a b : FVec Ideal S176x1024 .f32)
    (i : S176x1024.Idx) : sD w p a b i = Athena.Adam.delta (w i) (sG p i) (a i) (b i) := by
  unfold Athena.Adam.delta
  rw [← sM_at, ← sV_at]
  unfold sD sM sV k0_pay5 k0_pay6
  generalize k0_pay3 (F := Ideal) (ld0 p) (ld1 p) (ld2 p) (ld3 p) a = P
  generalize k0_pay4 (F := Ideal) (ld0 p) (ld1 p) (ld2 p) (ld3 p) b = Q
  pointwise [k0_pay1]

section
variable (c : Dev nD) (t : Fin cfg0.N) (r : Fin 176) (q : Fin 1024)

theorem bw_at : bw m c t (ix2 r q) = aw m c (ix2 (row t r) q) := by
  blk_ext [iblk, V, idx t]

theorem bp_at (k : Fin 4) : bp m c t (ix3 k r q) = ap m c (ix3 k (row t r) q) := by
  blk_ext [iblk, V, idx t]

theorem bm_at : bm m c t (ix2 r q) = am m c (ix2 (row t r) q) := by
  blk_ext [iblk, V, idx t]

theorem bv_at : bv m c t (ix2 r q) = av m c (ix2 (row t r) q) := by
  blk_ext [iblk, V, idx t]

theorem point4 : sG (bp m c t) (ix2 r q) = val_main_v1 (F := Ideal) (ap m c) (ix2 (row t r) q) := by
  refine (sG_at _ r q).trans (Eq.trans ?_ (Cert.AdamInRefIdeal.Math.g_at _ _ _).symm)
  exact congrArg₂ (fun a b : EReal => a + b) (congrArg₂ (fun a b : EReal => a + b) (congrArg₂ (fun a b : EReal => a + b)
    (bp_at m c t r q 0) (bp_at m c t r q 1)) (bp_at m c t r q 2)) (bp_at m c t r q 3)

theorem point5 : sD (bw m c t) (bp m c t) (bm m c t) (bv m c t) (ix2 r q)
    = val_main_v25 (F := Ideal) (aw m c) (ap m c) (am m c) (av m c) (ix2 (row t r) q) := by
  refine (sD_at _ _ _ _ _).trans (Eq.trans ?_ (Cert.AdamInRefIdeal.Math.delta_at _ _ _ _ _).symm)
  rw [bw_at, bm_at, bv_at, point4]

theorem point6 : sM (bp m c t) (bm m c t) (ix2 r q) = val_main_v6 (F := Ideal) (ap m c) (am m c) (ix2 (row t r) q) := by
  refine (sM_at _ _ _).trans (Eq.trans ?_ (Cert.AdamInRefIdeal.Math.m_at _ _ _).symm)
  rw [bm_at, point4]

theorem point7 : sV (bp m c t) (bv m c t) (ix2 r q) = val_main_v12 (F := Ideal) (ap m c) (av m c) (ix2 (row t r) q) := by
  refine (sV_at _ _ _).trans (Eq.trans ?_ (Cert.AdamInRefIdeal.Math.v_at _ _ _).symm)
  rw [bv_at, point4]

end

/-- **The gradient**: the array after the run is the reference's. -/
theorem final4 (c : Dev nD) : (dats m 0 c).arrAt 4 (cfgs 0).N = val_main_v1 (F := Ideal) (ap m c) := by
  refine (dats m 0 c).arrAt_eq_of_covers 4 _ (by decide +kernel) fun t _ y => ?_
  have key := point4 m c t (y 0) (y 1)
  blk_simp
  rw [after0_4]
  frame_out
  show sG (bp m c t) y = _
  exact (congrArg (sG (bp m c t)) (by blk_ext [idx t])).trans (key.trans (congrArg (val_main_v1 (F := Ideal) (ap m c))
    (by blk_ext [idx t])))

/-- **The weight's change.** -/
theorem final5 (c : Dev nD) : (dats m 0 c).arrAt 5 (cfgs 0).N
    = val_main_v25 (F := Ideal) (aw m c) (ap m c) (am m c) (av m c) := by
  refine (dats m 0 c).arrAt_eq_of_covers 5 _ (by decide +kernel) fun t _ y => ?_
  have key := point5 m c t (y 0) (y 1)
  blk_simp
  rw [after0_5]
  frame_out
  show sD (bw m c t) (bp m c t) (bm m c t) (bv m c t) y = _
  exact (congrArg (sD (bw m c t) (bp m c t) (bm m c t) (bv m c t)) (by blk_ext [idx t])).trans (key.trans
    (congrArg (val_main_v25 (F := Ideal) (aw m c) (ap m c) (am m c) (av m c)) (by blk_ext [idx t])))

/-- **The first moment.** -/
theorem final6 (c : Dev nD) : (dats m 0 c).arrAt 6 (cfgs 0).N = val_main_v6 (F := Ideal) (ap m c) (am m c) := by
  refine (dats m 0 c).arrAt_eq_of_covers 6 _ (by decide +kernel) fun t _ y => ?_
  have key := point6 m c t (y 0) (y 1)
  blk_simp
  rw [after0_6]
  frame_out
  show sM (bp m c t) (bm m c t) y = _
  exact (congrArg (sM (bp m c t) (bm m c t)) (by blk_ext [idx t])).trans (key.trans
    (congrArg (val_main_v6 (F := Ideal) (ap m c) (am m c)) (by blk_ext [idx t])))

/-- **The second moment.** -/
theorem final7 (c : Dev nD) : (dats m 0 c).arrAt 7 (cfgs 0).N = val_main_v12 (F := Ideal) (ap m c) (av m c) := by
  refine (dats m 0 c).arrAt_eq_of_covers 7 _ (by decide +kernel) fun t _ y => ?_
  have key := point7 m c t (y 0) (y 1)
  blk_simp
  rw [after0_7]
  frame_out
  show sV (bp m c t) (bv m c t) y = _
  exact (congrArg (sV (bp m c t) (bv m c t)) (by blk_ext [idx t])).trans (key.trans
    (congrArg (val_main_v12 (F := Ideal) (ap m c) (av m c)) (by blk_ext [idx t])))

end Cert.AdamInIdeal.Value

end
-- ==== Proof.AdamInClaim.lean ====
/-
The claims about AdamW at the input projection's weight.
-/
module

public import proofs.«01_k».proof.Defs
public import proofs.«01_k».proof.Proof.Gen.AdamIn.Frame
public import proofs.«01_k».proof.Proof.AdamInValue
public import Idealize.ShloMosaic.Lib.Claim

@[expose] public section

noncomputable section

namespace Cert.AdamInClaim

open Idealize.ShloMosaic Idealize.SL.Sem

theorem frame_p : Cert.quiescent_AdamIn (hAdamIn := Cert.AdamIn.Gen.facts) := fun m ρ _ => Cert.AdamIn.Gen.frame m ρ

theorem frame_pi : Cert.quiescent_AdamInIdeal (hAdamInIdeal := Cert.AdamInIdeal.Gen.facts) :=
  fun m ρ _ => Cert.AdamInIdeal.Gen.frame m ρ

theorem frame_ri : Cert.quiescent_AdamInRefIdeal (hAdamInRefIdeal := Cert.AdamInRefIdeal.Gen.facts) :=
  fun m ρ _ => (θ_run _ _ _).mono (fun r h => ⟨fun c => (h c).2.2.2.2, sem_eq_zero_of_no_sems (by decide) r.2⟩)
    (Cert.AdamInRefIdeal.Value.run (F := Ideal) m ρ)

set_option maxHeartbeats 1600000 in
theorem algebraic : Cert.algebraic_AdamInIdeal_AdamInRefIdeal (hAdamInIdeal := Cert.AdamInIdeal.Gen.facts)
    (hAdamInRefIdeal := Cert.AdamInRefIdeal.Gen.facts) := by
  intro m g m' g' _ hagree
  refine ⟨_, _, _, _, Cert.AdamInIdeal.Value.run_blocks m g,
    (θ_run _ _ _).mono (fun r h c => ?_) (Cert.AdamInRefIdeal.Value.run m' g')⟩
  obtain ⟨h0, h1, h2, h3, hargs⟩ := h c
  obtain ⟨a0, a1, a2, a3⟩ := hagree c
  refine ⟨h0.trans ?_, h1.trans ?_, h2.trans ?_, h3.trans ?_, hargs⟩
  · refine (Cert.AdamInRefIdeal.Read.val_main_v1_eq _).trans ?_
    rw [a1]
    exact (Cert.AdamInIdeal.Value.final4 m c).symm
  · refine (Cert.AdamInRefIdeal.Read.val_main_v25_eq _ _ _ _).trans ?_
    rw [a0, a1, a2, a3]
    exact (Cert.AdamInIdeal.Value.final5 m c).symm
  · refine (Cert.AdamInRefIdeal.Read.val_main_v6_eq _ _).trans ?_
    rw [a1, a2]
    exact (Cert.AdamInIdeal.Value.final6 m c).symm
  · refine (Cert.AdamInRefIdeal.Read.val_main_v12_eq _ _).trans ?_
    rw [a1, a3]
    exact (Cert.AdamInIdeal.Value.final7 m c).symm

end Cert.AdamInClaim

end
-- ==== Proof.LossMath.lean ====
/-
The feed-forward block's forward pass, the loss and its gradient, as the reference writes them: the results at an element,
in the words of `Athena.Norm` and of the logistic function.
-/
module

public import proofs.«01_k».proof.Proof.Gen.LossRefIdeal.Read
public import proofs.«01_k».proof.Proof.Norm
public import proofs.«01_k».proof.Proof.Gate

@[expose] public section

set_option maxRecDepth 16384

noncomputable section

open Idealize.ShloMosaic Idealize.ShloMosaic.TcCoe Idealize.SL.Sem

namespace Cert.LossRefIdeal.Math

open Cert.LossRefIdeal Cert.LossRefIdeal.Gen Cert.LossRefIdeal.Read

/-- The factor of the error in the loss's gradient: half of two over the row's length. -/
theorem factor (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [Athena.Gate.half_eq, h1, h2, h3, Athena.Norm.len_eq, Ideal.div_coe (by norm_num), ← mul_assoc, ← EReal.coe_mul,
    ← EReal.coe_mul, ← EReal.coe_mul, mul_comm e]
  congr 2
  norm_num

variable (x0 : FVec Ideal S4096x1024 .f32) (x1 : FVec Ideal S1024 .f32) (x2 x3 : FVec Ideal S1024x2816 .f32)
  (x4 : FVec Ideal S2816x1024 .f32) (x5 : FVec Ideal S4096x1024 .f32) (x6 : FVec Ideal S1024 .f32)

/-- The normed row. -/
theorem h_at (i : Fin 4096) (k : Fin 1024) :
    val_main_v12 (F := Ideal) x0 x1 (ix2 i k)
      = x0 (ix2 i k) * Athena.Norm.scale (fun k => x0 (ix2 i k)) * x1 (ix1 k) := by
  unfold Athena.Norm.scale Athena.Norm.ms
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The gate before its activation. -/
theorem gate_at (i : Fin 4096) (q : Fin 2816) :
    val_main_v13 (F := Ideal) x0 x1 x2 (ix2 i q)
      = ∑ k : Fin 1024, val_main_v12 (F := Ideal) x0 x1 (ix2 i k) * x2 (ix2 k q) := by
  pointwise [val_main_v13]

/-- The other product is the same of its own weight. -/
theorem up_eq : val_main_v14 (F := Ideal) x0 x1 x3 = val_main_v13 (F := Ideal) x0 x1 x3 := rfl

/-- The gated value. -/
theorem act_at (i : Fin 4096) (q : Fin 2816) :
    val_main_v16 (F := Ideal) x0 x1 x2 x3 (ix2 i q)
      = val_main_v13 (F := Ideal) x0 x1 x2 (ix2 i q) * Ideal.logistic (val_main_v13 (F := Ideal) x0 x1 x2 (ix2 i q))
        * val_main_v14 (F := Ideal) x0 x1 x3 (ix2 i q) := by
  unfold Ideal.logistic
  pointwise [val_main_v16, val_main_v15, val_main_call0_v5, val_main_call0_v4, val_main_call0_v3, val_main_call0_v2,
    val_main_call0_v1, val_main_call0_v0, val_main_call0_cst, val_main_call0_cst_0]

theorem act_eq : val_main_v20 (F := Ideal) x0 x1 x2 x3 = val_main_v16 (F := Ideal) x0 x1 x2 x3 := rfl

/-- The block's output. -/
theorem out_at (i : Fin 4096) (j : Fin 1024) :
    val_main_v22 (F := Ideal) x0 x1 x2 x3 x4 (ix2 i j)
      = x0 (ix2 i j) + ∑ q : Fin 2816, val_main_v16 (F := Ideal) x0 x1 x2 x3 (ix2 i q) * x4 (ix2 q j) := by
  rw [← act_eq]
  pointwise [val_main_v22, val_main_v21]

/-- The difference from the target. -/
theorem err_at (i : Fin 4096) (j : Fin 1024) :
    val_main_v39 (F := Ideal) x0 x1 x2 x3 x4 x5 x6 (ix2 i j)
      = val_main_v22 (F := Ideal) x0 x1 x2 x3 x4 (ix2 i j)
          * Athena.Norm.scale (fun k => val_main_v22 (F := Ideal) x0 x1 x2 x3 x4 (ix2 i k)) * x6 (ix1 j) - x5 (ix2 i j) := by
  unfold Athena.Norm.scale Athena.Norm.ms
  pointwise [val_main_v39, val_main_v38, val_main_v37, val_main_v36, val_main_v35, val_main_v34, val_main_v30, val_main_v29,
    val_main_v28, val_main_v27, val_main_v26, val_main_v25, val_main_v24, val_main_v23, val_main_cst_2, val_main_cst_3,
    val_main_cst_4]

/-- The loss, on every lane. -/
theorem loss_at (i : Fin 1) (j : Fin 128) :
    val_main_v79 (F := Ideal) x0 x1 x2 x3 x4 x5 x6 (ix2 i j)
      = Ideal.ofBits .f32 0x3F000000#32 * ∑ t : Fin 4096, Ideal.div
          (∑ k : Fin 1024, val_main_v39 (F := Ideal) x0 x1 x2 x3 x4 x5 x6 (ix2 t k)
            * val_main_v39 (F := Ideal) x0 x1 x2 x3 x4 x5 x6 (ix2 t k)) (Ideal.ofBits .f32 0x44800000#32) := by
  pointwise [val_main_v79, val_main_v47, val_main_v46, val_main_v45, val_main_v44, val_main_v43, val_main_v40, val_main_cst_7,
    val_main_cst_8, val_main_cst_9, val_main_cst_10]

/-- What the normed output receives. -/
theorem dy_at (i : Fin 4096) (j : Fin 1024) :
    val_main_v53 (F := Ideal) x0 x1 x2 x3 x4 x5 x6 (ix2 i j)
      = val_main_v39 (F := Ideal) x0 x1 x2 x3 x4 x5 x6 (ix2 i j) * Ideal.ofBits .f32 0x3A800000#32 := by
  rw [← factor]
  pointwise [val_main_v53, val_main_v52, val_main_v51, val_main_v50, val_main_v49, val_main_v48, val_main_v42, val_main_v41,
    val_main_cst_6, val_main_cst_11, val_main_cst_12, val_main_cst_13]

/-- The final gain's gradient. -/
theorem dg_at (i : Fin 1) (j : Fin 1024) :
    val_main_v80 (F := Ideal) x0 x1 x2 x3 x4 x5 x6 (ix2 i j)
      = ∑ t : Fin 4096, val_main_v53 (F := Ideal) x0 x1 x2 x3 x4 x5 x6 (ix2 t j)
          * (val_main_v22 (F := Ideal) x0 x1 x2 x3 x4 (ix2 t j)
            * Athena.Norm.scale fun k => val_main_v22 (F := Ideal) x0 x1 x2 x3 x4 (ix2 t k)) := by
  unfold Athena.Norm.scale Athena.Norm.ms
  pointwise [val_main_v80, val_main_v59, val_main_v56, val_main_v55, val_main_v54, val_main_v35, val_main_v34, val_main_v30,
    val_main_v29, val_main_v28, val_main_v27, val_main_v26, val_main_v25, val_main_v24, val_main_v23, val_main_cst_2,
    val_main_cst_3, val_main_cst_4, val_main_cst_14, val_main_cst_15]
  simp only [Fin.sum_univ_one]
  exact Finset.sum_congr rfl fun t _ => mul_comm _ _

/-- The gradient of the block's output. -/
theorem dx_at (i : Fin 4096) (j : Fin 1024) :
    val_main_v73 (F := Ideal) x0 x1 x2 x3 x4 x5 x6 (ix2 i j)
      = Athena.Norm.grad (fun k => val_main_v22 (F := Ideal) x0 x1 x2 x3 x4 (ix2 i k))
          (fun k => val_main_v53 (F := Ideal) x0 x1 x2 x3 x4 x5 x6 (ix2 i k) * x6 (ix1 k)) j := by
  rw [Athena.Norm.grad_eq]
  unfold Athena.Norm.back Athena.Norm.scale Athena.Norm.ms
  pointwise [val_main_v73, val_main_v72, val_main_v71, val_main_v70, val_main_v69, val_main_v68, val_main_v67, val_main_v66,
    val_main_v65, val_main_v64, val_main_v63, val_main_v62, val_main_v61, val_main_v60, val_main_v58, val_main_v57,
    val_main_v36, val_main_v33, val_main_v32, val_main_v31, val_main_v30,
    val_main_v29, val_main_v28, val_main_v27, val_main_v26, val_main_v25, val_main_v24, val_main_v23, val_main_cst_2,
    val_main_cst_3, val_main_cst_4, val_main_cst_5, val_main_cst_16, val_main_cst_17, val_main_cst_18]
  simp only [Fin.sum_univ_one]
  rw [add_assoc]
  exact congrArg (_ + ·) (add_comm _ _)

end Cert.LossRefIdeal.Math

end
-- ==== Proof.LossValue.lean ====
/-
The kernel of the feed-forward block's forward pass with the loss and its gradient: what one block of 512 rows holds, what the
eight result arrays hold, and that this is the reference.
-/
module

public import proofs.«01_k».proof.Proof.Gen.LossFwdIdeal.Value
public import proofs.«01_k».proof.Proof.LossMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossFwdIdeal.Value

open Cert.LossFwdIdeal Cert.LossFwdIdeal.Gen
open Cert.LossRefIdeal.Read (val_main_v12 val_main_v13 val_main_v14 val_main_v16 val_main_v22 val_main_v39 val_main_v53
  val_main_v73 val_main_v75 val_main_v76 val_main_v77 val_main_v78 val_main_v79 val_main_v80 val_main_v82)

variable (m : (ℓ : Loc nD τ sig) → Buf (Elt Ideal) ℓ)

/-- The arguments of a device: x, the gain, the three weights, the target and the final gain. -/
abbrev ax (c : Dev nD) : FVec Ideal S4096x1024 .f32 := m ((c : Thread nD τ).loc main_arg0)
abbrev ag (c : Dev nD) : FVec Ideal S1024 .f32 := m ((c : Thread nD τ).loc main_arg1)
abbrev awg (c : Dev nD) : FVec Ideal S1024x2816 .f32 := m ((c : Thread nD τ).loc main_arg2)
abbrev awu (c : Dev nD) : FVec Ideal S1024x2816 .f32 := m ((c : Thread nD τ).loc main_arg3)
abbrev awd (c : Dev nD) : FVec Ideal S2816x1024 .f32 := m ((c : Thread nD τ).loc main_arg4)
abbrev atg (c : Dev nD) : FVec Ideal S4096x1024 .f32 := m ((c : Thread nD τ).loc main_arg5)
abbrev agf (c : Dev nD) : FVec Ideal S1024 .f32 := m ((c : Thread nD τ).loc main_arg6)

/-- The reference's arrays of a device. -/
abbrev rh (c : Dev nD) := val_main_v12 (F := Ideal) (ax m c) (ag m c)
abbrev rg (c : Dev nD) := val_main_v13 (F := Ideal) (ax m c) (ag m c) (awg m c)
abbrev ru (c : Dev nD) := val_main_v14 (F := Ideal) (ax m c) (ag m c) (awu m c)
abbrev ra (c : Dev nD) := val_main_v16 (F := Ideal) (ax m c) (ag m c) (awg m c) (awu m c)
abbrev ro (c : Dev nD) := val_main_v22 (F := Ideal) (ax m c) (ag m c) (awg m c) (awu m c) (awd m c)
abbrev re (c : Dev nD) := val_main_v39 (F := Ideal) (ax m c) (ag m c) (awg m c) (awu m c) (awd m c) (atg m c) (agf m c)
abbrev rdy (c : Dev nD) := val_main_v53 (F := Ideal) (ax m c) (ag m c) (awg m c) (awu m c) (awd m c) (atg m c) (agf m c)
abbrev rdx (c : Dev nD) := val_main_v73 (F := Ideal) (ax m c) (ag m c) (awg m c) (awu m c) (awd m c) (atg m c) (agf m c)

/-- The windows' blocks: the rows' arrays walk by 512 rows, the transposed ones by 512 columns, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![0, t.val] ∧ win0_8.index t = ![t.val, 0] ∧ win0_9.index t = ![t.val, 0]
    ∧ win0_10.index t = ![t.val, 0] ∧ win0_11.index t = ![0, 0] ∧ win0_12.index t = ![0, 0]
    ∧ win0_13.index t = ![t.val, 0] ∧ win0_14.index t = ![0, t.val] :=
  (by decide +kernel : ∀ t : Fin grid0.N, _)

/-- Row r of block t is row 512 t + r of the array. -/
abbrev row (t : Fin cfg0.N) (r : Fin 512) : Fin 4096 := ⟨t.val * 512 + r, by have := lt_of_lt_of_eq t.isLt N_0; omega⟩

/-- The blocks of the inputs. -/
abbrev bx (c : Dev nD) (t : Fin cfg0.N) : FVec Ideal S512x1024 .f32 := iblk m c 0 t
abbrev bg (c : Dev nD) (t : Fin cfg0.N) : FVec Ideal S1x1024 .f32 := iblk m c 1 t
abbrev bwg (c : Dev nD) (t : Fin cfg0.N) : FVec Ideal S2816x1024 .bf16 := iblk m c 2 t
abbrev bwu (c : Dev nD) (t : Fin cfg0.N) : FVec Ideal S2816x1024 .bf16 := iblk m c 3 t
abbrev bwd (c : Dev nD) (t : Fin cfg0.N) : FVec Ideal S2816x1024 .bf16 := iblk m c 4 t
abbrev btg (c : Dev nD) (t : Fin cfg0.N) : FVec Ideal S512x1024 .f32 := iblk m c 5 t
abbrev bgf (c : Dev nD) (t : Fin cfg0.N) : FVec Ideal S1x1024 .f32 := iblk m c 6 t

theorem bx_at (c : Dev nD) (t : Fin cfg0.N) (r : Fin 512) (q : Fin 1024) :
    bx m c t (ix2 r q) = ax m c (ix2 (row t r) q) := by
  blk_ext [iblk, V, idx t]

theorem bg_at (c : Dev nD) (t : Fin cfg0.N) (q : Fin 1024) : bg m c t (ix2 0 q) = ag m c (ix1 q) := by
  blk_point [iblk, V, idx t]

theorem bwg_at (c : Dev nD) (t : Fin cfg0.N) (k : Fin 2816) (q : Fin 1024) :
    bwg m c t (ix2 k q) = awg m c (ix2 q k) := by
  blk_point [iblk, V, idx t]

theorem bwu_at (c : Dev nD) (t : Fin cfg0.N) (k : Fin 2816) (q : Fin 1024) :
    bwu m c t (ix2 k q) = awu m c (ix2 q k) := by
  blk_point [iblk, V, idx t]

theorem bwd_at (c : Dev nD) (t : Fin cfg0.N) (k : Fin 2816) (q : Fin 1024) :
    bwd m c t (ix2 k q) = awd m c (ix2 k q) := by
  blk_point [iblk, V, idx t]

theorem btg_at (c : Dev nD) (t : Fin cfg0.N) (r : Fin 512) (q : Fin 1024) :
    btg m c t (ix2 r q) = atg m c (ix2 (row t r) q) := by
  blk_ext [iblk, V, idx t]

theorem bgf_at (c : Dev nD) (t : Fin cfg0.N) (q : Fin 1024) : bgf m c t (ix2 0 q) = agf m c (ix1 q) := by
  blk_point [iblk, V, idx t]

/-! The body's arrays at an element. -/

theorem pay8_at (X : FVec Ideal S512x1024 .f32) (g : FVec Ideal S1x1024 .f32) (r : Fin 512) (k : Fin 1024) :
    k0_pay8 X g (ix2 r k) = X (ix2 r k) * Athena.Norm.scale (fun k => X (ix2 r k)) * g (ix2 0 k) := by
  unfold Athena.Norm.scale Athena.Norm.ms
  pointwise [k0_pay8]

theorem pay11_at (X : FVec Ideal S512x1024 .f32) (g : FVec Ideal S1x1024 .f32) (w : FVec Ideal S2816x1024 .bf16)
    (r : Fin 512) (q : Fin 2816) :
    k0_pay11 (F := Ideal) X g w (ix2 r q)
      = ∑ k : Fin 1024, (show EReal from k0_pay8 (F := Ideal) X g (ix2 r k)) * (show EReal from w (ix2 q k)) := by
  pointwise [k0_pay11, k0_pay9]

theorem pay12_eq (X : FVec Ideal S512x1024 .f32) (g : FVec Ideal S1x1024 .f32) (w : FVec Ideal S2816x1024 .bf16) :
    k0_pay12 (F := Ideal) X g w = k0_pay11 (F := Ideal) X g w := rfl

theorem pay16_at (a b : FVec Ideal S512x2816 .f32) (r : Fin 512) (q : Fin 2816) :
    (show EReal from k0_pay16 a b k0_pay15 (ix2 r q)) = a (ix2 r q) * Athena.Gate.sg (a (ix2 r q)) * b (ix2 r q) := by
  unfold Athena.Gate.sg
  pointwise [k0_pay16, k0_pay15]

theorem pay17_at (X : FVec Ideal S512x1024 .f32) (a b : FVec Ideal S512x2816 .f32) (w : FVec Ideal S2816x1024 .bf16)
    (r : Fin 512) (j : Fin 1024) :
    k0_pay17 X a b k0_pay15 w (ix2 r j)
      = X (ix2 r j) + ∑ q : Fin 2816, (show EReal from k0_pay16 a b k0_pay15 (ix2 r q)) * w (ix2 q j) := by
  generalize hz : k0_pay15 (F := Ideal) = z
  pointwise [k0_pay17]

theorem pay19_at (X : FVec Ideal S512x1024 .f32) (a b z : FVec Ideal S512x2816 .f32) (w : FVec Ideal S2816x1024 .bf16)
    (r : Fin 512) :
    k0_pay19 X a b z w (ix2 r 0) = Athena.Norm.scale fun k => k0_pay17 X a b z w (ix2 r k) := by
  unfold Athena.Norm.scale Athena.Norm.ms
  generalize hP : k0_pay17 X a b z w = P
  unfold k0_pay19
  rw [hP]
  pointwise []

theorem pay20_at (X : FVec Ideal S512x1024 .f32) (a b z : FVec Ideal S512x2816 .f32) (w : FVec Ideal S2816x1024 .bf16)
    (r : Fin 512) (j : Fin 1024) :
    k0_pay20 X a b z w (ix2 r j) = k0_pay17 X a b z w (ix2 r j) * Athena.Norm.scale fun k => k0_pay17 X a b z w (ix2 r k) := by
  rw [← pay19_at]
  generalize hQ : k0_pay19 X a b z w = Q
  generalize hP : k0_pay17 X a b z w = P
  unfold k0_pay20
  rw [hP, hQ]
  pointwise []

theorem pay21_at (X : FVec Ideal S512x1024 .f32) (a b z : FVec Ideal S512x2816 .f32) (w : FVec Ideal S2816x1024 .bf16)
    (gf : FVec Ideal S1x1024 .f32) (T : FVec Ideal S512x1024 .f32) (r : Fin 512) (j : Fin 1024) :
    k0_pay21 X a b z w gf T (ix2 r j) = k0_pay20 X a b z w (ix2 r j) * gf (ix2 0 j) - T (ix2 r j) := by
  generalize hP : k0_pay20 X a b z w = P
  unfold k0_pay21
  rw [hP]
  pointwise [k0_pay18]

theorem pay23_at (X : FVec Ideal S512x1024 .f32) (a b z : FVec Ideal S512x2816 .f32) (w : FVec Ideal S2816x1024 .bf16)
    (gf : FVec Ideal S1x1024 .f32) (T : FVec Ideal S512x1024 .f32) :
    k0_pay23 X a b z w gf T (ix2 0 0) = ∑ r : Fin 512, Ideal.div (∑ k : Fin 1024, k0_pay21 X a b z w gf T (ix2 r k)
      * k0_pay21 X a b z w gf T (ix2 r k)) (Ideal.ofBits .f32 0x44800000#32) := by
  generalize hP : k0_pay21 X a b z w gf T = P
  unfold k0_pay23
  rw [hP]
  pointwise []

/-- The loss's row after a block. -/
theorem loss_step (o : FVec Ideal S1x128 .f32) (s : FVec Ideal S1x1 .f32) (j : S1x128.Idx) :
    k0_pay1 (k0_pay22 o) s (Scalar.ofBits .f32 0x3F000000#32) j = o j + Ideal.ofBits .f32 0x3F000000#32 * s (ix2 0 0) := by
  pointwise [k0_pay1, k0_pay22]

theorem pay2_at (e : FVec Ideal S512x1024 .f32) (r : Fin 512) (j : Fin 1024) :
    k0_pay2 e (ix2 r j) = e (ix2 r j) * Ideal.ofBits .f32 0x3A800000#32 := by
  pointwise [k0_pay2]

theorem pay3_at (xh e : FVec Ideal S512x1024 .f32) (o : FVec Ideal S1x1024 .f32) (j : S1x1024.Idx) :
    k0_pay3 xh e o j = o j + ∑ r : Fin 512, k0_pay2 e (ix2 r (j 1)) * xh (ix2 r (j 1)) := by
  generalize hP : k0_pay2 e = P
  unfold k0_pay3
  rw [hP]
  pointwise []

theorem pay4_at (gf : FVec Ideal S1x1024 .f32) (s : FVec Ideal S512x1 .f32) (xh e : FVec Ideal S512x1024 .f32)
    (r : Fin 512) (j : Fin 1024) :
    k0_pay4 (k0_pay18 gf) s xh e (ix2 r j) = s (ix2 r 0) * (k0_pay2 e (ix2 r j) * gf (ix2 0 j) - xh (ix2 r j)
      * Ideal.div (∑ k : Fin 1024, k0_pay2 e (ix2 r k) * gf (ix2 0 k) * xh (ix2 r k)) (Ideal.ofBits .f32 0x44800000#32)) := by
  generalize hP : k0_pay2 e = P
  unfold k0_pay4
  rw [hP]
  pointwise [k0_pay18]

theorem pay5_at (gf : FVec Ideal S1x1024 .f32) (s : FVec Ideal S512x1 .f32) (xh e : FVec Ideal S512x1024 .f32)
    (r : Fin 512) (j : Fin 1024) :
    (show EReal from k0_pay5 gf s xh e (ix2 j r)) = k0_pay4 gf s xh e (ix2 r j) := by
  generalize hP : k0_pay4 gf s xh e = P
  unfold k0_pay5
  rw [hP]
  pointwise []

theorem pay10_at (X : FVec Ideal S512x1024 .f32) (g : FVec Ideal S1x1024 .f32) (r : Fin 512) (k : Fin 1024) :
    (show EReal from k0_pay10 (F := Ideal) X g (ix2 k r)) = (show EReal from k0_pay8 (F := Ideal) X g (ix2 r k)) := by
  generalize hP : k0_pay8 (F := Ideal) X g = P
  unfold k0_pay10
  rw [hP]
  pointwise []

theorem pay6_at (j : S1x128.Idx) : (k0_pay6 (F := Ideal) j : EReal) = 0 := by
  pointwise [k0_pay6]

theorem pay7_at (j : S1x1024.Idx) : (k0_pay7 (F := Ideal) j : EReal) = 0 := by
  pointwise [k0_pay7]

/-! The body's arrays of a block, and that they are the reference's rows. -/

abbrev bh (c : Dev nD) (t : Fin cfg0.N) : FVec Ideal S512x1024 .f32 := k0_pay8 (bx m c t) (bg m c t)
abbrev bga (c : Dev nD) (t : Fin cfg0.N) : FVec Ideal S512x2816 .f32 := k0_pay11 (bx m c t) (bg m c t) (bwg m c t)
abbrev bup (c : Dev nD) (t : Fin cfg0.N) : FVec Ideal S512x2816 .f32 := k0_pay12 (bx m c t) (bg m c t) (bwu m c t)
abbrev bo (c : Dev nD) (t : Fin cfg0.N) : FVec Ideal S512x1024 .f32 :=
  k0_pay17 (bx m c t) (bga m c t) (bup m c t) k0_pay15 (bwd m c t)
abbrev bs (c : Dev nD) (t : Fin cfg0.N) : FVec Ideal S512x1 .f32 :=
  k0_pay19 (bx m c t) (bga m c t) (bup m c t) k0_pay15 (bwd m c t)
abbrev bn (c : Dev nD) (t : Fin cfg0.N) : FVec Ideal S512x1024 .f32 :=
  k0_pay20 (bx m c t) (bga m c t) (bup m c t) k0_pay15 (bwd m c t)
abbrev be (c : Dev nD) (t : Fin cfg0.N) : FVec Ideal S512x1024 .f32 :=
  k0_pay21 (bx m c t) (bga m c t) (bup m c t) k0_pay15 (bwd m c t) (bgf m c t) (btg m c t)

theorem h_blk (c : Dev nD) (t : Fin cfg0.N) (r : Fin 512) (k : Fin 1024) : bh m c t (ix2 r k) = rh m c (ix2 (row t r) k) := by
  refine (pay8_at _ _ r k).trans (Eq.trans ?_ (Cert.LossRefIdeal.Math.h_at _ _ _ _).symm)
  exact congrArg₂ (fun a b : EReal => a * b) (congrArg₂ (fun a b : EReal => a * b) (bx_at m c t r k)
    (congrArg Athena.Norm.scale (funext fun k => bx_at m c t r k))) (bg_at m c t k)

theorem gate_blk (c : Dev nD) (t : Fin cfg0.N) (r : Fin 512) (q : Fin 2816) :
    bga m c t (ix2 r q) = rg m c (ix2 (row t r) q) := by
  refine (pay11_at _ _ _ r q).trans (Eq.trans ?_ (Cert.LossRefIdeal.Math.gate_at _ _ _ _ _).symm)
  exact Finset.sum_congr rfl fun k _ => congrArg₂ (fun a b : EReal => a * b) (h_blk m c t r k) (bwg_at m c t q k)

theorem up_blk (c : Dev nD) (t : Fin cfg0.N) (r : Fin 512) (q : Fin 2816) :
    bup m c t (ix2 r q) = ru m c (ix2 (row t r) q) := by
  refine (congrFun (pay12_eq _ _ _) _).trans ((pay11_at _ _ _ r q).trans (Eq.trans ?_
    ((Cert.LossRefIdeal.Math.gate_at (ax m c) (ag m c) (awu m c) _ _).symm.trans
      (congrFun (Cert.LossRefIdeal.Math.up_eq _ _ _).symm _))))
  exact Finset.sum_congr rfl fun k _ => congrArg₂ (fun a b : EReal => a * b) (h_blk m c t r k) (bwu_at m c t q k)

theorem act_blk (c : Dev nD) (t : Fin cfg0.N) (r : Fin 512) (q : Fin 2816) :
    (show EReal from k0_pay16 (bga m c t) (bup m c t) k0_pay15 (ix2 r q)) = ra m c (ix2 (row t r) q) := by
  refine (pay16_at _ _ r q).trans (Eq.trans ?_ (Cert.LossRefIdeal.Math.act_at _ _ _ _ _ _).symm)
  rw [Athena.Gate.sg_eq]
  exact congrArg₂ (fun a b : EReal => a * Ideal.logistic a * b) (gate_blk m c t r q) (up_blk m c t r q)

theorem out_blk (c : Dev nD) (t : Fin cfg0.N) (r : Fin 512) (j : Fin 1024) :
    bo m c t (ix2 r j) = ro m c (ix2 (row t r) j) := by
  refine (pay17_at _ _ _ _ r j).trans (Eq.trans ?_ (Cert.LossRefIdeal.Math.out_at _ _ _ _ _ _ _).symm)
  exact congrArg₂ (fun a b : EReal => a + b) (bx_at m c t r j) (Finset.sum_congr rfl fun q _ =>
    congrArg₂ (fun a b : EReal => a * b) (act_blk m c t r q) (bwd_at m c t q j))

theorem scale_blk (c : Dev nD) (t : Fin cfg0.N) (r : Fin 512) :
    (Athena.Norm.scale fun k => bo m c t (ix2 r k)) = Athena.Norm.scale fun k => ro m c (ix2 (row t r) k) :=
  congrArg Athena.Norm.scale (funext fun k => out_blk m c t r k)

theorem n_blk (c : Dev nD) (t : Fin cfg0.N) (r : Fin 512) (j : Fin 1024) :
    bn m c t (ix2 r j) = ro m c (ix2 (row t r) j) * Athena.Norm.scale fun k => ro m c (ix2 (row t r) k) :=
  (pay20_at _ _ _ _ _ r j).trans (congrArg₂ (fun a b : EReal => a * b) (out_blk m c t r j) (scale_blk m c t r))

theorem err_blk (c : Dev nD) (t : Fin cfg0.N) (r : Fin 512) (j : Fin 1024) :
    be m c t (ix2 r j) = re m c (ix2 (row t r) j) := by
  refine (pay21_at _ _ _ _ _ _ _ r j).trans (Eq.trans ?_ (Cert.LossRefIdeal.Math.err_at _ _ _ _ _ _ _ _ _).symm)
  exact congrArg₂ (fun a b : EReal => a - b) (congrArg₂ (fun a b : EReal => a * b) (n_blk m c t r j) (bgf_at m c t j))
    (btg_at m c t r j)

theorem dy_blk (c : Dev nD) (t : Fin cfg0.N) (r : Fin 512) (j : Fin 1024) :
    k0_pay2 (be m c t) (ix2 r j) = rdy m c (ix2 (row t r) j) :=
  (pay2_at _ r j).trans ((congrArg (fun a : EReal => a * _) (err_blk m c t r j)).trans
    (Cert.LossRefIdeal.Math.dy_at _ _ _ _ _ _ _ _ _).symm)

theorem dx_blk (c : Dev nD) (t : Fin cfg0.N) (r : Fin 512) (j : Fin 1024) :
    k0_pay4 (k0_pay18 (bgf m c t)) (bs m c t) (bn m c t) (be m c t) (ix2 r j) = rdx m c (ix2 (row t r) j) := by
  refine (pay4_at _ _ _ _ r j).trans (Eq.trans ?_ (Cert.LossRefIdeal.Math.dx_at _ _ _ _ _ _ _ _ _).symm)
  unfold Athena.Norm.grad
  refine congrArg₂ (fun a b : EReal => a * b) ((pay19_at _ _ _ _ _ r).trans (scale_blk m c t r)) ?_
  refine congrArg₂ (fun a b : EReal => a - b)
    (congrArg₂ (fun a b : EReal => a * b) (dy_blk m c t r j) (bgf_at m c t j)) ?_
  refine congrArg₂ (fun a b : EReal => a * Ideal.div b _) (n_blk m c t r j) (Finset.sum_congr rfl fun k _ => ?_)
  exact congrArg₂ (fun a b : EReal => a * b) (congrArg₂ (fun a b : EReal => a * b) (dy_blk m c t r k) (bgf_at m c t k))
    (n_blk m c t r k)

/-- What a point stores of the three arrays that follow. -/
def bht (c : Dev nD) (t : Fin cfg0.N) : FVec Ideal S1024x512 .bf16 := k0_pay10 (bx m c t) (bg m c t)
def bdx (c : Dev nD) (t : Fin cfg0.N) : FVec Ideal S512x1024 .f32 :=
  k0_pay4 (k0_pay18 (bgf m c t)) (bs m c t) (bn m c t) (be m c t)
def bdxt (c : Dev nD) (t : Fin cfg0.N) : FVec Ideal S1024x512 .bf16 :=
  k0_pay5 (k0_pay18 (bgf m c t)) (bs m c t) (bn m c t) (be m c t)

theorem ht_blk (c : Dev nD) (t : Fin cfg0.N) (r : Fin 512) (k : Fin 1024) :
    (show EReal from bht m c t (ix2 k r))
      = (show EReal from val_main_v75 (F := Ideal) (ax m c) (ag m c) (ix2 k (row t r))) := by
  have href : (show EReal from val_main_v75 (F := Ideal) (ax m c) (ag m c) (ix2 k (row t r))) = rh m c (ix2 (row t r) k) := by
    pointwise [val_main_v75, Cert.LossRefIdeal.Read.val_main_v74]
  exact ((pay10_at (bx m c t) (bg m c t) r k).trans (h_blk m c t r k)).trans href.symm

theorem dxt_blk (c : Dev nD) (t : Fin cfg0.N) (r : Fin 512) (k : Fin 1024) :
    (show EReal from bdxt m c t (ix2 k r)) = (show EReal from val_main_v82 (F := Ideal) (ax m c) (ag m c) (awg m c)
      (awu m c) (awd m c) (atg m c) (agf m c) (ix2 k (row t r))) := by
  have href : (show EReal from val_main_v82 (F := Ideal) (ax m c) (ag m c) (awg m c)
      (awu m c) (awd m c) (atg m c) (agf m c) (ix2 k (row t r))) = rdx m c (ix2 (row t r) k) := by
    pointwise [val_main_v82, Cert.LossRefIdeal.Read.val_main_v81]
  exact ((pay5_at (k0_pay18 (bgf m c t)) (bs m c t) (bn m c t) (be m c t) r k).trans (dx_blk m c t r k)).trans href.symm

/-- **The normed rows, transposed.** -/
theorem final7 (c : Dev nD) : (dats m 0 c).arrAt 7 (cfgs 0).N = val_main_v75 (F := Ideal) (ax m c) (ag m c) := by
  refine (dats m 0 c).arrAt_eq_of_covers 7 _ (by decide +kernel) fun t _ y => ?_
  blk_simp
  rw [after0_7]
  have key := ht_blk m c t (y 1) (y 0)
  by_cases h0 : t.val % 8 = 0
  · rw [outsAt0_A m c t h0]; frame_out
    show bht m c t y = _
    exact (congrArg (bht m c t) (by blk_ext [idx t])).trans (key.trans (congrArg (val_main_v75 (F := Ideal) (ax m c) (ag m c)) (by blk_ext [idx t])))
  · rw [outsAt0_B m c t h0]; frame_out
    show bht m c t y = _
    exact (congrArg (bht m c t) (by blk_ext [idx t])).trans (key.trans (congrArg (val_main_v75 (F := Ideal) (ax m c) (ag m c)) (by blk_ext [idx t])))

/-- **The gate before its activation.** -/
theorem final8 (c : Dev nD) : (dats m 0 c).arrAt 8 (cfgs 0).N
    = val_main_v76 (F := Ideal) (ax m c) (ag m c) (awg m c) := by
  refine (dats m 0 c).arrAt_eq_of_covers 8 _ (by decide +kernel) fun t _ y => ?_
  blk_simp
  rw [after0_8]
  have key := gate_blk m c t (y 0) (y 1)
  by_cases h0 : t.val % 8 = 0
  · rw [outsAt0_A m c t h0]; frame_out
    exact (congrArg (bga m c t) (by blk_ext [idx t])).trans (key.trans (congrArg (rg m c) (by blk_ext [idx t])))
  · rw [outsAt0_B m c t h0]; frame_out
    exact (congrArg (bga m c t) (by blk_ext [idx t])).trans (key.trans (congrArg (rg m c) (by blk_ext [idx t])))

/-- **The other product.** -/
theorem final9 (c : Dev nD) : (dats m 0 c).arrAt 9 (cfgs 0).N
    = val_main_v77 (F := Ideal) (ax m c) (ag m c) (awu m c) := by
  refine (dats m 0 c).arrAt_eq_of_covers 9 _ (by decide +kernel) fun t _ y => ?_
  blk_simp
  rw [after0_9]
  have key := up_blk m c t (y 0) (y 1)
  by_cases h0 : t.val % 8 = 0
  · rw [outsAt0_A m c t h0]; frame_out
    exact (congrArg (bup m c t) (by blk_ext [idx t])).trans (key.trans (congrArg (ru m c) (by blk_ext [idx t])))
  · rw [outsAt0_B m c t h0]; frame_out
    exact (congrArg (bup m c t) (by blk_ext [idx t])).trans (key.trans (congrArg (ru m c) (by blk_ext [idx t])))

/-- **The gated value.** -/
theorem final10 (c : Dev nD) : (dats m 0 c).arrAt 10 (cfgs 0).N
    = val_main_v78 (F := Ideal) (ax m c) (ag m c) (awg m c) (awu m c) := by
  refine (dats m 0 c).arrAt_eq_of_covers 10 _ (by decide +kernel) fun t _ y => ?_
  blk_simp
  rw [after0_10]
  have key := act_blk m c t (y 0) (y 1)
  by_cases h0 : t.val % 8 = 0
  · rw [outsAt0_A m c t h0]; frame_out
    exact (congrArg (k0_pay16 (bga m c t) (bup m c t) k0_pay15) (by blk_ext [idx t])).trans
      (key.trans (congrArg (ra m c) (by blk_ext [idx t])))
  · rw [outsAt0_B m c t h0]; frame_out
    exact (congrArg (k0_pay16 (bga m c t) (bup m c t) k0_pay15) (by blk_ext [idx t])).trans
      (key.trans (congrArg (ra m c) (by blk_ext [idx t])))

/-- **The gradient of the block's output.** -/
theorem final13 (c : Dev nD) : (dats m 0 c).arrAt 13 (cfgs 0).N
    = val_main_v73 (F := Ideal) (ax m c) (ag m c) (awg m c) (awu m c) (awd m c) (atg m c) (agf m c) := by
  refine (dats m 0 c).arrAt_eq_of_covers 13 _ (by decide +kernel) fun t _ y => ?_
  blk_simp
  rw [after0_13]
  have key := dx_blk m c t (y 0) (y 1)
  by_cases h0 : t.val % 8 = 0
  · rw [outsAt0_A m c t h0]; frame_out
    show bdx m c t y = _
    exact (congrArg (bdx m c t) (by blk_ext [idx t])).trans (key.trans (congrArg (rdx m c) (by blk_ext [idx t])))
  · rw [outsAt0_B m c t h0]; frame_out
    show bdx m c t y = _
    exact (congrArg (bdx m c t) (by blk_ext [idx t])).trans (key.trans (congrArg (rdx m c) (by blk_ext [idx t])))

/-- **The same, transposed.** -/
theorem final14 (c : Dev nD) : (dats m 0 c).arrAt 14 (cfgs 0).N
    = val_main_v82 (F := Ideal) (ax m c) (ag m c) (awg m c) (awu m c) (awd m c) (atg m c) (agf m c) := by
  refine (dats m 0 c).arrAt_eq_of_covers 14 _ (by decide +kernel) fun t _ y => ?_
  blk_simp
  rw [after0_14]
  have key := dxt_blk m c t (y 1) (y 0)
  by_cases h0 : t.val % 8 = 0
  · rw [outsAt0_A m c t h0]; frame_out
    show bdxt m c t y = _
    exact (congrArg (bdxt m c t) (by blk_ext [idx t])).trans (key.trans (congrArg (val_main_v82 (F := Ideal) (ax m c) (ag m c) (awg m c)
      (awu m c) (awd m c) (atg m c) (agf m c)) (by blk_ext [idx t])))
  · rw [outsAt0_B m c t h0]; frame_out
    show bdxt m c t y = _
    exact (congrArg (bdxt m c t) (by blk_ext [idx t])).trans (key.trans (congrArg (val_main_v82 (F := Ideal) (ax m c) (ag m c) (awg m c)
      (awu m c) (awd m c) (atg m c) (agf m c)) (by blk_ext [idx t])))

/-- The sum of a block's rows' mean squared errors. -/
abbrev blkLoss (c : Dev nD) (t : Fin cfg0.N) : EReal := ∑ r : Fin 512, Ideal.div (∑ k : Fin 1024, be m c t (ix2 r k)
  * be m c t (ix2 r k)) (Ideal.ofBits .f32 0x44800000#32)

theorem loss_A (c : Dev nD) (t : Fin cfg0.N) (j : S1x128.Idx) :
    k0_pay1 (k0_pay22 k0_pay6) (k0_pay23 (bx m c t) (bga m c t) (bup m c t) k0_pay15 (bwd m c t) (bgf m c t) (btg m c t))
      (Scalar.ofBits .f32 0x3F000000#32) j = 0 + Ideal.ofBits .f32 0x3F000000#32 * blkLoss m c t :=
  (loss_step _ _ j).trans (congrArg₂ (fun a b : EReal => a + _ * b) (pay6_at j) (pay23_at _ _ _ _ _ _ _))

theorem loss_B (c : Dev nD) (t : Fin cfg0.N) (o : FVec Ideal S1x128 .f32) (j : S1x128.Idx) :
    k0_pay1 (k0_pay22 o) (k0_pay23 (bx m c t) (bga m c t) (bup m c t) k0_pay15 (bwd m c t) (bgf m c t) (btg m c t))
      (Scalar.ofBits .f32 0x3F000000#32) j = o j + Ideal.ofBits .f32 0x3F000000#32 * blkLoss m c t :=
  (loss_step _ _ j).trans (congrArg (fun b : EReal => o j + _ * b) (pay23_at _ _ _ _ _ _ _))

/-- **The loss**, on every lane. -/
theorem final11 (c : Dev nD) : (dats m 0 c).arrAt 11 (cfgs 0).N
    = val_main_v79 (F := Ideal) (ax m c) (ag m c) (awg m c) (awu m c) (awd m c) (atg m c) (agf m c) := by
  refine (dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0)
    (fun t j => Ideal.ofBits .f32 0x3F000000#32 * blkLoss m c t)
    (fun t h j => by
      rw [outsAt0_A m c t h]; frame_out
      exact loss_A m c t j)
    (fun t h j => by
      rw [outsAt0_B m c t h]; frame_out
      exact loss_B m c t _ j)
    (le_of_eq N_0) t0_7 rfl j, zero_add]
  have href := Cert.LossRefIdeal.Math.loss_at (ax m c) (ag m c) (awg m c) (awu m c) (awd m c) (atg m c) (agf m c) (j 0) (j 1)
  refine Eq.trans ?_ (href.symm.trans (congrArg _ ?_))
  · rw [Athena.Gate.half_eq, ← Athena.Norm.coe_mul_sum _ _ (by norm_num : (0 : ℝ) ≤ 1 / 2)]
    refine congrArg (fun a : EReal => _ * a) (Fin.sum_mul_add_congr fun t r hl => ?_)
    exact congrArg (fun a : EReal => Ideal.div a _) (Finset.sum_congr rfl fun k _ =>
      congrArg₂ (fun a b : EReal => a * b) (err_blk m c t r k) (err_blk m c t r k))
  · blk_ext

/-- **The final gain's gradient.** -/
theorem final12 (c : Dev nD) : (dats m 0 c).arrAt 12 (cfgs 0).N
    = val_main_v80 (F := Ideal) (ax m c) (ag m c) (awg m c) (awu m c) (awd m c) (atg m c) (agf m c) := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.1) 8 (fun _ => 0)
    (fun t j => ∑ r : Fin 512, k0_pay2 (be m c t) (ix2 r (j 1)) * bn m c t (ix2 r (j 1)))
    (fun t h j => by
      rw [outsAt0_A m c t h]; frame_out
      exact (pay3_at (bn m c t) (be m c t) _ j).trans (congrArg (· + _) (pay7_at j)))
    (fun t h j => by
      rw [outsAt0_B m c t h]; frame_out
      exact pay3_at (bn m c t) (be m c t) _ j)
    (le_of_eq N_0) t0_7 rfl j, zero_add]
  have href := Cert.LossRefIdeal.Math.dg_at (ax m c) (ag m c) (awg m c) (awu m c) (awd m c) (atg m c) (agf m c) (j 0) (j 1)
  refine Eq.trans ?_ (href.symm.trans (congrArg _ ?_))
  · refine Fin.sum_mul_add_congr fun t r hl => ?_
    exact congrArg₂ (fun a b : EReal => a * b) (dy_blk m c t r (j 1)) (n_blk m c t r (j 1))
  · blk_ext

end Cert.LossFwdIdeal.Value

end
-- ==== Proof.LossClaim.lean ====
/-
The claims about the feed-forward block's forward pass with the loss and its gradient.
-/
module

public import proofs.«01_k».proof.Defs
public import proofs.«01_k».proof.Proof.Gen.LossFwd.Frame
public import proofs.«01_k».proof.Proof.LossValue
public import Idealize.ShloMosaic.Lib.Claim

@[expose] public section

noncomputable section

namespace Cert.LossClaim

open Idealize.ShloMosaic Idealize.SL.Sem

theorem frame_p : Cert.quiescent_LossFwd (hLossFwd := Cert.LossFwd.Gen.facts) := fun m ρ _ => Cert.LossFwd.Gen.frame m ρ

theorem frame_pi : Cert.quiescent_LossFwdIdeal (hLossFwdIdeal := Cert.LossFwdIdeal.Gen.facts) :=
  fun m ρ _ => Cert.LossFwdIdeal.Gen.frame m ρ

theorem frame_ri : Cert.quiescent_LossRefIdeal (hLossRefIdeal := Cert.LossRefIdeal.Gen.facts) :=
  fun m ρ _ => (θ_run _ _ _).mono (fun r h => ⟨fun c => (h c).2.2.2.2.2.2.2.2, sem_eq_zero_of_no_sems (by decide) r.2⟩)
    (Cert.LossRefIdeal.Value.run (F := Ideal) m ρ)

set_option maxHeartbeats 1600000 in
theorem algebraic : Cert.algebraic_LossFwdIdeal_LossRefIdeal (hLossFwdIdeal := Cert.LossFwdIdeal.Gen.facts)
    (hLossRefIdeal := Cert.LossRefIdeal.Gen.facts) := by
  intro m g m' g' _ hagree
  refine ⟨_, _, _, _, _, _, _, _, Cert.LossFwdIdeal.Value.run_blocks m g,
    (θ_run _ _ _).mono (fun r h c => ?_) (Cert.LossRefIdeal.Value.run m' g')⟩
  obtain ⟨h0, h1, h2, h3, h4, h5, h6, h7, hargs⟩ := h c
  obtain ⟨a0, a1, a2, a3, a4, a5, a6⟩ := hagree c
  refine ⟨h0.trans ?_, h1.trans ?_, h2.trans ?_, h3.trans ?_, h4.trans ?_, h5.trans ?_, h6.trans ?_, h7.trans ?_, hargs⟩
  · refine (Cert.LossRefIdeal.Read.val_main_v75_eq _ _).trans ?_
    rw [a0, a1]
    exact (Cert.LossFwdIdeal.Value.final7 m c).symm
  · refine (Cert.LossRefIdeal.Read.val_main_v76_eq _ _ _).trans ?_
    rw [a0, a1, a2]
    exact (Cert.LossFwdIdeal.Value.final8 m c).symm
  · refine (Cert.LossRefIdeal.Read.val_main_v77_eq _ _ _).trans ?_
    rw [a0, a1, a3]
    exact (Cert.LossFwdIdeal.Value.final9 m c).symm
  · refine (Cert.LossRefIdeal.Read.val_main_v78_eq _ _ _ _).trans ?_
    rw [a0, a1, a2, a3]
    exact (Cert.LossFwdIdeal.Value.final10 m c).symm
  · rw [Cert.LossRefIdeal.Read.val_main_v79_eq, a0, a1, a2, a3, a4, a5, a6]
    exact (Cert.LossFwdIdeal.Value.final11 m c).symm
  · rw [Cert.LossRefIdeal.Read.val_main_v80_eq, a0, a1, a2, a3, a4, a5, a6]
    exact (Cert.LossFwdIdeal.Value.final12 m c).symm
  · rw [Cert.LossRefIdeal.Read.val_main_v73_eq, a0, a1, a2, a3, a4, a5, a6]
    exact (Cert.LossFwdIdeal.Value.final13 m c).symm
  · rw [Cert.LossRefIdeal.Read.val_main_v82_eq, a0, a1, a2, a3, a4, a5, a6]
    exact (Cert.LossFwdIdeal.Value.final14 m c).symm

end Cert.LossClaim

end
-- ==== Proof.AdamOutIdealFrame.lean ====
/-
The frame of the AdamW kernel at four weights over the extended reals: what each block holds, the body's triple, and the run. The same text as for a
kernel of fewer windows, with more room for the elaborator at the body's triple, which has 32 windows here.
-/
module

public import proofs.«01_k».proof.Proof.Gen.AdamOutIdeal.Launch
public import proofs.«01_k».proof.Proof.Gen.AdamOutIdeal.Skeleton
public import proofs.«01_k».proof.Proof.Gen.AdamOutIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.AdamOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AdamOutIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S4x64x1024 := Rect.unit (s := S4x64x1024) ![0, 0, 0] S1x64x1024.size inb_S4x64x1024_S1x64x1024_0_0_0
abbrev r0_1 : Rect S4x64x1024 := Rect.unit (s := S4x64x1024) ![1, 0, 0] S1x64x1024.size inb_S4x64x1024_S1x64x1024_1_0_0
abbrev r0_2 : Rect S4x64x1024 := Rect.unit (s := S4x64x1024) ![2, 0, 0] S1x64x1024.size inb_S4x64x1024_S1x64x1024_2_0_0
abbrev r0_3 : Rect S4x64x1024 := Rect.unit (s := S4x64x1024) ![3, 0, 0] S1x64x1024.size inb_S4x64x1024_S1x64x1024_3_0_0
abbrev r0_4 : Rect S64x1024 := Rect.unit (s := S64x1024) ![0, 0] S64x1024.size inb_S64x1024_S64x1024_0_0
abbrev r0_5 : Rect S4x256x128 := Rect.unit (s := S4x256x128) ![0, 0, 0] S1x256x128.size inb_S4x256x128_S1x256x128_0_0_0
abbrev r0_6 : Rect S4x256x128 := Rect.unit (s := S4x256x128) ![1, 0, 0] S1x256x128.size inb_S4x256x128_S1x256x128_1_0_0
abbrev r0_7 : Rect S4x256x128 := Rect.unit (s := S4x256x128) ![2, 0, 0] S1x256x128.size inb_S4x256x128_S1x256x128_2_0_0
abbrev r0_8 : Rect S4x256x128 := Rect.unit (s := S4x256x128) ![3, 0, 0] S1x256x128.size inb_S4x256x128_S1x256x128_3_0_0
abbrev r0_9 : Rect S256x128 := Rect.unit (s := S256x128) ![0, 0] S256x128.size inb_S256x128_S256x128_0_0
abbrev r0_10 : Rect S4x176x1024 := Rect.unit (s := S4x176x1024) ![0, 0, 0] S1x176x1024.size inb_S4x176x1024_S1x176x1024_0_0_0
abbrev r0_11 : Rect S4x176x1024 := Rect.unit (s := S4x176x1024) ![1, 0, 0] S1x176x1024.size inb_S4x176x1024_S1x176x1024_1_0_0
abbrev r0_12 : Rect S4x176x1024 := Rect.unit (s := S4x176x1024) ![2, 0, 0] S1x176x1024.size inb_S4x176x1024_S1x176x1024_2_0_0
abbrev r0_13 : Rect S4x176x1024 := Rect.unit (s := S4x176x1024) ![3, 0, 0] S1x176x1024.size inb_S4x176x1024_S1x176x1024_3_0_0
abbrev r0_14 : Rect S176x1024 := Rect.unit (s := S176x1024) ![0, 0] S176x1024.size inb_S176x1024_S176x1024_0_0

/-! ## What the body leaves in each output window's buffer -/

/-! ### Values of the body that the stores' payloads, spelt out, would write more than once

    Each is a vector the body binds (often a part call's result), stated over the input windows' blocks and
    numbered on from the skeleton's payload functions (`k0_pay20` …, after `k0_pay19`), so that
    `out0_W` and the values after it name it instead of spelling it out ; the comment after each is the printed function's
    name for the value (a count appended where that name is bound again). -/

def k0_pay20 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : FVec F S256x128 .f32 :=
  k0_pay9 (View.ld x5 r0_5) (View.ld x5 r0_6) (View.ld x5 r0_7) (View.ld x5 r0_8) -- `v60`
def k0_pay21 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : FVec F S256x128 .f32 :=
  k0_pay13 (View.ld x6 r0_5) -- `v94`
def k0_pay22 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : FVec F S176x1024 .f32 :=
  k0_pay18 (View.ld x7 r0_10) (View.ld x7 r0_11) (View.ld x7 r0_12) (View.ld x7 r0_13) -- `v152`
def k0_pay23 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : FVec F S176x1024 .f32 :=
  k0_pay19 (View.ld x7 r0_10) (View.ld x7 r0_11) (View.ld x7 r0_12) (View.ld x7 r0_13) (View.ld x11 r0_14) -- `v160`

/-- Window 16's buffer after the body, and that its stores cover it. -/
def out0_16 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S64x1024 .f32 :=
  View.canon [⟨r0_4, k0_pay3 (View.ld x4 r0_0) (View.ld x4 r0_1) (View.ld x4 r0_2) (View.ld x4 r0_3)⟩]

theorem cover0_16 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y

/-- Window 17's buffer after the body, and that its stores cover it. -/
def out0_17 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S64x1024 .f32 :=
  View.canon [⟨r0_4, k0_pay8 (View.ld x0 r0_4) (k0_pay6 (View.ld x4 r0_0) (View.ld x4 r0_1) (View.ld x4 r0_2) (View.ld x4 r0_3) (View.ld x8 r0_4)) (k0_pay7 (View.ld x4 r0_0) (View.ld x4 r0_1) (View.ld x4 r0_2) (View.ld x4 r0_3) (View.ld x12 r0_4)) (Scalar.ofBits .f32 0x322BCC77#32)⟩]

theorem cover0_17 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y

/-- Window 18's buffer after the body, and that its stores cover it. -/
def out0_18 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S64x1024 .f32 :=
  View.canon [⟨r0_4, k0_pay4 (View.ld x4 r0_0) (View.ld x4 r0_1) (View.ld x4 r0_2) (View.ld x4 r0_3) (View.ld x8 r0_4)⟩]

theorem cover0_18 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y

/-- Window 19's buffer after the body, and that its stores cover it. -/
def out0_19 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S64x1024 .f32 :=
  View.canon [⟨r0_4, k0_pay5 (View.ld x4 r0_0) (View.ld x4 r0_1) (View.ld x4 r0_2) (View.ld x4 r0_3) (View.ld x12 r0_4)⟩]

theorem cover0_19 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y

/-- Window 20's buffer after the body, and that its stores cover it. -/
def out0_20 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay20 x0 x1 x2 x3 x4 x5 x6 x7 x8 x9 x10 x11 x12 x13 x14 x15⟩]

theorem cover0_20 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 21's buffer after the body, and that its stores cover it. -/
def out0_21 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay12 (k0_pay20 x0 x1 x2 x3 x4 x5 x6 x7 x8 x9 x10 x11 x12 x13 x14 x15) (View.ld x1 r0_9) (View.ld x9 r0_9) (View.ld x13 r0_9)⟩]

theorem cover0_21 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 22's buffer after the body, and that its stores cover it. -/
def out0_22 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay10 (k0_pay20 x0 x1 x2 x3 x4 x5 x6 x7 x8 x9 x10 x11 x12 x13 x14 x15) (View.ld x9 r0_9)⟩]

theorem cover0_22 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 23's buffer after the body, and that its stores cover it. -/
def out0_23 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay11 (k0_pay20 x0 x1 x2 x3 x4 x5 x6 x7 x8 x9 x10 x11 x12 x13 x14 x15) (View.ld x13 r0_9)⟩]

theorem cover0_23 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 24's buffer after the body, and that its stores cover it. -/
def out0_24 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay14 (k0_pay21 x0 x1 x2 x3 x4 x5 x6 x7 x8 x9 x10 x11 x12 x13 x14 x15) (View.ld x6 r0_6) (View.ld x6 r0_7) (View.ld x6 r0_8)⟩]

theorem cover0_24 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 25's buffer after the body, and that its stores cover it. -/
def out0_25 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay17 (k0_pay21 x0 x1 x2 x3 x4 x5 x6 x7 x8 x9 x10 x11 x12 x13 x14 x15) (View.ld x6 r0_6) (View.ld x6 r0_7) (View.ld x6 r0_8) (View.ld x2 r0_9) (View.ld x10 r0_9) (View.ld x14 r0_9)⟩]

theorem cover0_25 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 26's buffer after the body, and that its stores cover it. -/
def out0_26 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay15 (k0_pay21 x0 x1 x2 x3 x4 x5 x6 x7 x8 x9 x10 x11 x12 x13 x14 x15) (View.ld x6 r0_6) (View.ld x6 r0_7) (View.ld x6 r0_8) (View.ld x10 r0_9)⟩]

theorem cover0_26 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 27's buffer after the body, and that its stores cover it. -/
def out0_27 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S256x128 .f32 :=
  View.canon [⟨r0_9, k0_pay16 (k0_pay21 x0 x1 x2 x3 x4 x5 x6 x7 x8 x9 x10 x11 x12 x13 x14 x15) (View.ld x6 r0_6) (View.ld x6 r0_7) (View.ld x6 r0_8) (View.ld x14 r0_9)⟩]

theorem cover0_27 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

/-- Window 28's buffer after the body, and that its stores cover it. -/
def out0_28 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S176x1024 .f32 :=
  View.canon [⟨r0_14, k0_pay22 x0 x1 x2 x3 x4 x5 x6 x7 x8 x9 x10 x11 x12 x13 x14 x15⟩]

theorem cover0_28 (p0 : Vec F S176x1024 .f32) (y : S176x1024.Idx) :
    ∃ pc ∈ ([⟨r0_14, p0⟩] : List (View.Piece (Elt F) S176x1024 .f32)), y ∈ pc.1.set :=
  View.cover_of_tiled [⟨r0_14, p0⟩] S176x1024.size (by rfl) y

/-- Window 29's buffer after the body, and that its stores cover it. -/
def out0_29 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S176x1024 .f32 :=
  View.canon [⟨r0_14, k0_pay2 (k0_pay22 x0 x1 x2 x3 x4 x5 x6 x7 x8 x9 x10 x11 x12 x13 x14 x15) (View.ld x3 r0_14) (View.ld x15 r0_14) (k0_pay23 x0 x1 x2 x3 x4 x5 x6 x7 x8 x9 x10 x11 x12 x13 x14 x15) (Scalar.ofBits .f32 0x3F7FBE77#32)⟩]

theorem cover0_29 (p0 : Vec F S176x1024 .f32) (y : S176x1024.Idx) :
    ∃ pc ∈ ([⟨r0_14, p0⟩] : List (View.Piece (Elt F) S176x1024 .f32)), y ∈ pc.1.set :=
  View.cover_of_tiled [⟨r0_14, p0⟩] S176x1024.size (by rfl) y

/-- Window 30's buffer after the body, and that its stores cover it. -/
def out0_30 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S176x1024 .f32 :=
  View.canon [⟨r0_14, k0_pay23 x0 x1 x2 x3 x4 x5 x6 x7 x8 x9 x10 x11 x12 x13 x14 x15⟩]

theorem cover0_30 (p0 : Vec F S176x1024 .f32) (y : S176x1024.Idx) :
    ∃ pc ∈ ([⟨r0_14, p0⟩] : List (View.Piece (Elt F) S176x1024 .f32)), y ∈ pc.1.set :=
  View.cover_of_tiled [⟨r0_14, p0⟩] S176x1024.size (by rfl) y

/-- Window 31's buffer after the body, and that its stores cover it. -/
def out0_31 (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) : Vec F S176x1024 .f32 :=
  View.canon [⟨r0_14, k0_pay1 (k0_pay22 x0 x1 x2 x3 x4 x5 x6 x7 x8 x9 x10 x11 x12 x13 x14 x15) (View.ld x15 r0_14) (Scalar.ofBits .f32 0x3F7FBE77#32)⟩]

theorem cover0_31 (p0 : Vec F S176x1024 .f32) (y : S176x1024.Idx) :
    ∃ pc ∈ ([⟨r0_14, p0⟩] : List (View.Piece (Elt F) S176x1024 .f32)), y ∈ pc.1.set :=
  View.cover_of_tiled [⟨r0_14, p0⟩] S176x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S64x1024 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S176x1024 .f32) (harg4 : arg4.IsWhole) (arg5 : Memref sig .tc .vmem S4x64x1024 .bf16) (harg5 : arg5.IsWhole) (arg6 : Memref sig .tc .vmem S4x256x128 .bf16) (harg6 : arg6.IsWhole) (arg7 : Memref sig .tc .vmem S4x256x128 .bf16) (harg7 : arg7.IsWhole) (arg8 : Memref sig .tc .vmem S4x176x1024 .bf16) (harg8 : arg8.IsWhole) (arg9 : Memref sig .tc .vmem S64x1024 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S176x1024 .f32) (harg12 : arg12.IsWhole) (arg13 : Memref sig .tc .vmem S64x1024 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S176x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S176x1024 .f32) (harg29 : arg29.IsWhole) (arg30 : Memref sig .tc .vmem S176x1024 .f32) (harg30 : arg30.IsWhole) (arg31 : Memref sig .tc .vmem S176x1024 .f32) (harg31 : arg31.IsWhole) (arg32 : Memref sig .tc .vmem S176x1024 .f32) (harg32 : arg32.IsWhole)
    (x0 : Vec F S64x1024 .f32) (x1 x2 : Vec F S256x128 .f32) (x3 : Vec F S176x1024 .f32) (x4 : Vec F S4x64x1024 .bf16) (x5 x6 : Vec F S4x256x128 .bf16) (x7 : Vec F S4x176x1024 .bf16) (x8 : Vec F S64x1024 .f32) (x9 x10 : Vec F S256x128 .f32) (x11 : Vec F S176x1024 .f32) (x12 : Vec F S64x1024 .f32) (x13 x14 : Vec F S256x128 .f32) (x15 : Vec F S176x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x10 x11 x12 x13 x14 x15) ∗ owns (c : Thread nD τ) arg25 fullShare (out0_24 x0 x1 x2 x3 x4 x5 x6 x7 x8 x9 x10 x11 x12 x13 x14 x15) ∗ owns (c : Thread nD τ) arg26 fullShare (out0_25 x0 x1 x2 x3 x4 x5 x6 x7 x8 x9 x10 x11 x12 x13 x14 x15) ∗ owns (c : Thread nD τ) arg27 fullShare (out0_26 x0 x1 x2 x3 x4 x5 x6 x7 x8 x9 x10 x11 x12 x13 x14 x15) ∗ owns (c : Thread nD τ) arg28 fullShare (out0_27 x0 x1 x2 x3 x4 x5 x6 x7 x8 x9 x10 x11 x12 x13 x14 x15) ∗ owns (c : Thread nD τ) arg29 fullShare (out0_28 x0 x1 x2 x3 x4 x5 x6 x7 x8 x9 x10 x11 x12 x13 x14 x15) ∗ owns (c : Thread nD τ) arg30 fullShare (out0_29 x0 x1 x2 x3 x4 x5 x6 x7 x8 x9 x10 x11 x12 x13 x14 x15) ∗ owns (c : Thread nD τ) arg31 fullShare (out0_30 x0 x1 x2 x3 x4 x5 x6 x7 x8 x9 x10 x11 x12 x13 x14 x15) ∗ owns (c : Thread nD τ) arg32 fullShare (out0_31 x0 x1 x2 x3 x4 x5 x6 x7 x8 x9 x10 x11 x12 x13 x14 x15)) -∗ K ⟨⟩))
      ⊢ wp frame (wpE (defs₀ (F := F)) Variants.none c none) E (cc0_adamw_w_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_adamw_w_out_eq_skeleton]; unfold cc0_adamw_w_out_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_AdamOutIdeal`'s statement (Defs.lean) at any `F` — Proof.lean cites it at `Bits`:
    `theorem Cert.Proof.claim : Cert.Claim := ⟨Cert.AdamOutIdeal.Gen.facts, fun m ρ _ => Cert.AdamOutIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.AdamOutIdeal.Gen

end
-- ==== Proof.AdamOutRun.lean ====
/-
The run of the AdamW kernel at four weights: each result array by name, and each argument as launched.
-/
module

public import proofs.«01_k».proof.Proof.AdamOutIdealFrame
public import Idealize.ShloMosaic.Lib.Pipeline.Value

@[expose] public section

noncomputable section

namespace Cert.AdamOutIdeal.Value

open Cert.AdamOutIdeal Cert.AdamOutIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v0_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v0_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v0_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v0_4) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v0_5) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v0_6) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v0_7) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v0_8) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v0_9) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v0_10) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v0_11) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v0_12) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v0_13) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v0_14) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v0_15) = (dats m 0 c).arrAt 31 cfg0.N :=
  (h c).1 31

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

set_option maxHeartbeats 237120 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 16 cfg0.N
      ∧ r.2.mem ((c : Thread nD τ).loc main_v0_1) = (dats m 0 c).arrAt 17 cfg0.N
      ∧ r.2.mem ((c : Thread nD τ).loc main_v0_2) = (dats m 0 c).arrAt 18 cfg0.N
      ∧ r.2.mem ((c : Thread nD τ).loc main_v0_3) = (dats m 0 c).arrAt 19 cfg0.N
      ∧ r.2.mem ((c : Thread nD τ).loc main_v0_4) = (dats m 0 c).arrAt 20 cfg0.N
      ∧ r.2.mem ((c : Thread nD τ).loc main_v0_5) = (dats m 0 c).arrAt 21 cfg0.N
      ∧ r.2.mem ((c : Thread nD τ).loc main_v0_6) = (dats m 0 c).arrAt 22 cfg0.N
      ∧ r.2.mem ((c : Thread nD τ).loc main_v0_7) = (dats m 0 c).arrAt 23 cfg0.N
      ∧ r.2.mem ((c : Thread nD τ).loc main_v0_8) = (dats m 0 c).arrAt 24 cfg0.N
      ∧ r.2.mem ((c : Thread nD τ).loc main_v0_9) = (dats m 0 c).arrAt 25 cfg0.N
      ∧ r.2.mem ((c : Thread nD τ).loc main_v0_10) = (dats m 0 c).arrAt 26 cfg0.N
      ∧ r.2.mem ((c : Thread nD τ).loc main_v0_11) = (dats m 0 c).arrAt 27 cfg0.N
      ∧ r.2.mem ((c : Thread nD τ).loc main_v0_12) = (dats m 0 c).arrAt 28 cfg0.N
      ∧ r.2.mem ((c : Thread nD τ).loc main_v0_13) = (dats m 0 c).arrAt 29 cfg0.N
      ∧ r.2.mem ((c : Thread nD τ).loc main_v0_14) = (dats m 0 c).arrAt 30 cfg0.N
      ∧ r.2.mem ((c : Thread nD τ).loc main_v0_15) = (dats m 0 c).arrAt 31 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post16 m r h c,
      post17 m r h c,
      post18 m r h c,
      post19 m r h c,
      post20 m r h c,
      post21 m r h c,
      post22 m r h c,
      post23 m r h c,
      post24 m r h c,
      post25 m r h c,
      post26 m r h c,
      post27 m r h c,
      post28 m r h c,
      post29 m r h c,
      post30 m r h c,
      post31 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.AdamOutIdeal.Value

end
-- ==== Proof.AdamOutValue.lean ====
/-
The kernel of AdamW at four weights: the reference's arrays at an element, what one block holds, and that the sixteen result
arrays are the reference's. The four weights are w_out, w_branch_a, w_branch_b and w_ffn_down; they are numbered from 0.
-/
module

public import proofs.«01_k».proof.Proof.AdamOutRun
public import proofs.«01_k».proof.Proof.Gen.AdamOutRefIdeal.Read
public import proofs.«01_k».proof.Proof.Adam
public import Idealize.ShloMosaic.Lib.Pipeline.ValueKit

@[expose] public section

set_option maxRecDepth 16384

noncomputable section

open Idealize.ShloMosaic Idealize.ShloMosaic.TcCoe Idealize.SL.Sem

namespace Cert.AdamOutRefIdeal.Math

open Cert.AdamOutRefIdeal Cert.AdamOutRefIdeal.Gen Cert.AdamOutRefIdeal.Read

section
variable (x0 x8 x12 : FVec Ideal S128x1024 .f32) (x4 : FVec Ideal S4x128x1024 .bf16)

/-- The gradient of w_out is the sum of its four parts. -/
theorem g0_at (r : Fin 128) (q : Fin 1024) :
    val_main_v1 (F := Ideal) x4 (ix2 r q)
      = (show EReal from x4 (ix3 0 r q)) + (show EReal from x4 (ix3 1 r q)) + (show EReal from x4 (ix3 2 r q))
        + (show EReal from x4 (ix3 3 r q)) := by
  have h : val_main_v1 (F := Ideal) x4 (ix2 r q) = ∑ k : Fin 4, (show EReal from x4 (ix3 k r q)) := by
    pointwise [val_main_v1, val_main_v0, val_main_cst]
  rw [h, Fin.sum_univ_four]

theorem m0_at (i : S128x1024.Idx) :
    val_main_v12 (F := Ideal) x4 x8 i = Athena.Adam.newM (val_main_v1 (F := Ideal) x4 i) (x8 i) := by
  unfold Athena.Adam.newM
  pointwise [val_main_v12, val_main_v11, val_main_v10, val_main_v9, val_main_v8, val_main_cst_3, val_main_cst_4]

theorem v0_at (i : S128x1024.Idx) :
    val_main_v18 (F := Ideal) x4 x12 i = Athena.Adam.newV (val_main_v1 (F := Ideal) x4 i) (x12 i) := by
  unfold Athena.Adam.newV
  pointwise [val_main_v18, val_main_v17, val_main_v16, val_main_v15, val_main_v14, val_main_v13, val_main_cst_5, val_main_cst_6]

theorem delta0_at (i : S128x1024.Idx) :
    val_main_v31 (F := Ideal) x0 x4 x8 x12 i
      = Athena.Adam.delta (x0 i) (val_main_v1 (F := Ideal) x4 i) (x8 i) (x12 i) := by
  unfold Athena.Adam.delta
  rw [← m0_at, ← v0_at]
  pointwise [val_main_v31, val_main_v30, val_main_v29, val_main_v28, val_main_v27, val_main_v26, val_main_v25, val_main_v24, val_main_v23, val_main_v22, val_main_v21, val_main_v20, val_main_v19,
    val_main_cst_7, val_main_cst_8, val_main_cst_9, val_main_cst_10, val_main_cst_11]

end

section
variable (x1 x9 x13 : FVec Ideal S512x128 .f32) (x5 : FVec Ideal S4x512x128 .bf16)

/-- The gradient of w_branch_a is the sum of its four parts. -/
theorem g1_at (r : Fin 512) (q : Fin 128) :
    val_main_v3 (F := Ideal) x5 (ix2 r q)
      = (show EReal from x5 (ix3 0 r q)) + (show EReal from x5 (ix3 1 r q)) + (show EReal from x5 (ix3 2 r q))
        + (show EReal from x5 (ix3 3 r q)) := by
  have h : val_main_v3 (F := Ideal) x5 (ix2 r q) = ∑ k : Fin 4, (show EReal from x5 (ix3 k r q)) := by
    pointwise [val_main_v3, val_main_v2, val_main_cst_0]
  rw [h, Fin.sum_univ_four]

theorem m1_at (i : S512x128.Idx) :
    val_main_v36 (F := Ideal) x5 x9 i = Athena.Adam.newM (val_main_v3 (F := Ideal) x5 i) (x9 i) := by
  unfold Athena.Adam.newM
  pointwise [val_main_v36, val_main_v35, val_main_v34, val_main_v33, val_main_v32, val_main_cst_12, val_main_cst_13]

theorem v1_at (i : S512x128.Idx) :
    val_main_v42 (F := Ideal) x5 x13 i = Athena.Adam.newV (val_main_v3 (F := Ideal) x5 i) (x13 i) := by
  unfold Athena.Adam.newV
  pointwise [val_main_v42, val_main_v41, val_main_v40, val_main_v39, val_main_v38, val_main_v37, val_main_cst_14, val_main_cst_15]

theorem delta1_at (i : S512x128.Idx) :
    val_main_v55 (F := Ideal) x1 x5 x9 x13 i
      = Athena.Adam.delta (x1 i) (val_main_v3 (F := Ideal) x5 i) (x9 i) (x13 i) := by
  unfold Athena.Adam.delta
  rw [← m1_at, ← v1_at]
  pointwise [val_main_v55, val_main_v54, val_main_v53, val_main_v52, val_main_v51, val_main_v50, val_main_v49, val_main_v48, val_main_v47, val_main_v46, val_main_v45, val_main_v44, val_main_v43,
    val_main_cst_16, val_main_cst_17, val_main_cst_18, val_main_cst_19, val_main_cst_20]

end

section
variable (x2 x10 x14 : FVec Ideal S512x128 .f32) (x6 : FVec Ideal S4x512x128 .bf16)

/-- The gradient of w_branch_b is the sum of its four parts. -/
theorem g2_at (r : Fin 512) (q : Fin 128) :
    val_main_v5 (F := Ideal) x6 (ix2 r q)
      = (show EReal from x6 (ix3 0 r q)) + (show EReal from x6 (ix3 1 r q)) + (show EReal from x6 (ix3 2 r q))
        + (show EReal from x6 (ix3 3 r q)) := by
  have h : val_main_v5 (F := Ideal) x6 (ix2 r q) = ∑ k : Fin 4, (show EReal from x6 (ix3 k r q)) := by
    pointwise [val_main_v5, val_main_v4, val_main_cst_1]
  rw [h, Fin.sum_univ_four]

theorem m2_at (i : S512x128.Idx) :
    val_main_v60 (F := Ideal) x6 x10 i = Athena.Adam.newM (val_main_v5 (F := Ideal) x6 i) (x10 i) := by
  unfold Athena.Adam.newM
  pointwise [val_main_v60, val_main_v59, val_main_v58, val_main_v57, val_main_v56, val_main_cst_21, val_main_cst_22]

theorem v2_at (i : S512x128.Idx) :
    val_main_v66 (F := Ideal) x6 x14 i = Athena.Adam.newV (val_main_v5 (F := Ideal) x6 i) (x14 i) := by
  unfold Athena.Adam.newV
  pointwise [val_main_v66, val_main_v65, val_main_v64, val_main_v63, val_main_v62, val_main_v61, val_main_cst_23, val_main_cst_24]

theorem delta2_at (i : S512x128.Idx) :
    val_main_v79 (F := Ideal) x2 x6 x10 x14 i
      = Athena.Adam.delta (x2 i) (val_main_v5 (F := Ideal) x6 i) (x10 i) (x14 i) := by
  unfold Athena.Adam.delta
  rw [← m2_at, ← v2_at]
  pointwise [val_main_v79, val_main_v78, val_main_v77, val_main_v76, val_main_v75, val_main_v74, val_main_v73, val_main_v72, val_main_v71, val_main_v70, val_main_v69, val_main_v68, val_main_v67,
    val_main_cst_25, val_main_cst_26, val_main_cst_27, val_main_cst_28, val_main_cst_29]

end

section
variable (x3 x11 x15 : FVec Ideal S352x1024 .f32) (x7 : FVec Ideal S4x352x1024 .bf16)

/-- The gradient of w_ffn_down is the sum of its four parts. -/
theorem g3_at (r : Fin 352) (q : Fin 1024) :
    val_main_v7 (F := Ideal) x7 (ix2 r q)
      = (show EReal from x7 (ix3 0 r q)) + (show EReal from x7 (ix3 1 r q)) + (show EReal from x7 (ix3 2 r q))
        + (show EReal from x7 (ix3 3 r q)) := by
  have h : val_main_v7 (F := Ideal) x7 (ix2 r q) = ∑ k : Fin 4, (show EReal from x7 (ix3 k r q)) := by
    pointwise [val_main_v7, val_main_v6, val_main_cst_2]
  rw [h, Fin.sum_univ_four]

theorem m3_at (i : S352x1024.Idx) :
    val_main_v84 (F := Ideal) x7 x11 i = Athena.Adam.newM (val_main_v7 (F := Ideal) x7 i) (x11 i) := by
  unfold Athena.Adam.newM
  pointwise [val_main_v84, val_main_v83, val_main_v82, val_main_v81, val_main_v80, val_main_cst_30, val_main_cst_31]

theorem v3_at (i : S352x1024.Idx) :
    val_main_v90 (F := Ideal) x7 x15 i = Athena.Adam.newV (val_main_v7 (F := Ideal) x7 i) (x15 i) := by
  unfold Athena.Adam.newV
  pointwise [val_main_v90, val_main_v89, val_main_v88, val_main_v87, val_main_v86, val_main_v85, val_main_cst_32, val_main_cst_33]

theorem delta3_at (i : S352x1024.Idx) :
    val_main_v103 (F := Ideal) x3 x7 x11 x15 i
      = Athena.Adam.delta (x3 i) (val_main_v7 (F := Ideal) x7 i) (x11 i) (x15 i) := by
  unfold Athena.Adam.delta
  rw [← m3_at, ← v3_at]
  pointwise [val_main_v103, val_main_v102, val_main_v101, val_main_v100, val_main_v99, val_main_v98, val_main_v97, val_main_v96, val_main_v95, val_main_v94, val_main_v93, val_main_v92, val_main_v91,
    val_main_cst_34, val_main_cst_35, val_main_cst_36, val_main_cst_37, val_main_cst_38]

end

end Cert.AdamOutRefIdeal.Math

namespace Cert.AdamOutIdeal.Value

open Cert.AdamOutIdeal Cert.AdamOutIdeal.Gen
open Cert.AdamOutRefIdeal.Read (val_main_v1 val_main_v31 val_main_v12 val_main_v18 val_main_v3 val_main_v55 val_main_v36 val_main_v42 val_main_v5 val_main_v79 val_main_v60 val_main_v66 val_main_v7 val_main_v103 val_main_v84 val_main_v90)

variable (m : (ℓ : Loc nD τ sig) → Buf (Elt Ideal) ℓ)

/-! ## w_out -/

abbrev aw0 (c : Dev nD) : FVec Ideal S128x1024 .f32 := m ((c : Thread nD τ).loc main_arg0)
abbrev ap0 (c : Dev nD) : FVec Ideal S4x128x1024 .bf16 := m ((c : Thread nD τ).loc main_arg4)
abbrev am0 (c : Dev nD) : FVec Ideal S128x1024 .f32 := m ((c : Thread nD τ).loc main_arg8)
abbrev av0 (c : Dev nD) : FVec Ideal S128x1024 .f32 := m ((c : Thread nD τ).loc main_arg12)

theorem idx0 : ∀ t : Fin cfg0.N, win0_0.index t = ![t.val, 0] ∧ win0_4.index t = ![0, t.val, 0] ∧ win0_8.index t = ![t.val, 0] ∧ win0_12.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

/-- Row r of block t is row 64 t + r of the array. -/
abbrev row0 (t : Fin cfg0.N) (r : Fin 64) : Fin 128 := ⟨t.val * 64 + r, by have := lt_of_lt_of_eq t.isLt N_0; omega⟩

abbrev bw0 (c : Dev nD) (t : Fin cfg0.N) : FVec Ideal S64x1024 .f32 := iblk m c 0 t
abbrev bp0 (c : Dev nD) (t : Fin cfg0.N) : FVec Ideal S4x64x1024 .bf16 := iblk m c 4 t
abbrev bm0 (c : Dev nD) (t : Fin cfg0.N) : FVec Ideal S64x1024 .f32 := iblk m c 8 t
abbrev bv0 (c : Dev nD) (t : Fin cfg0.N) : FVec Ideal S64x1024 .f32 := iblk m c 12 t

abbrev ld0_0 (p : FVec Ideal S4x64x1024 .bf16) : Vec Ideal S1x64x1024 .bf16 :=
  View.ld (S := S4x64x1024) (e' := .bf16) (Val := Elt Ideal) p r0_0
abbrev ld0_1 (p : FVec Ideal S4x64x1024 .bf16) : Vec Ideal S1x64x1024 .bf16 :=
  View.ld (S := S4x64x1024) (e' := .bf16) (Val := Elt Ideal) p r0_1
abbrev ld0_2 (p : FVec Ideal S4x64x1024 .bf16) : Vec Ideal S1x64x1024 .bf16 :=
  View.ld (S := S4x64x1024) (e' := .bf16) (Val := Elt Ideal) p r0_2
abbrev ld0_3 (p : FVec Ideal S4x64x1024 .bf16) : Vec Ideal S1x64x1024 .bf16 :=
  View.ld (S := S4x64x1024) (e' := .bf16) (Val := Elt Ideal) p r0_3

/-- What a block stores. -/
def sG0 (p : FVec Ideal S4x64x1024 .bf16) : FVec Ideal S64x1024 .f32 := k0_pay3 (F := Ideal) (ld0_0 p) (ld0_1 p) (ld0_2 p) (ld0_3 p)
def sM0 (p : FVec Ideal S4x64x1024 .bf16) (a : FVec Ideal S64x1024 .f32) : FVec Ideal S64x1024 .f32 :=
  k0_pay4 (F := Ideal) (ld0_0 p) (ld0_1 p) (ld0_2 p) (ld0_3 p) a
def sV0 (p : FVec Ideal S4x64x1024 .bf16) (a : FVec Ideal S64x1024 .f32) : FVec Ideal S64x1024 .f32 :=
  k0_pay5 (F := Ideal) (ld0_0 p) (ld0_1 p) (ld0_2 p) (ld0_3 p) a
def sD0 (w : FVec Ideal S64x1024 .f32) (p : FVec Ideal S4x64x1024 .bf16) (a b : FVec Ideal S64x1024 .f32) :
    FVec Ideal S64x1024 .f32 :=
  k0_pay8 (F := Ideal) w (k0_pay6 (F := Ideal) (ld0_0 p) (ld0_1 p) (ld0_2 p) (ld0_3 p) a)
    (k0_pay7 (F := Ideal) (ld0_0 p) (ld0_1 p) (ld0_2 p) (ld0_3 p) b) (Scalar.ofBits .f32 0x322BCC77#32)

theorem sG0_at (p : FVec Ideal S4x64x1024 .bf16) (r : Fin 64) (q : Fin 1024) :
    sG0 p (ix2 r q) = (show EReal from p (ix3 0 r q)) + (show EReal from p (ix3 1 r q)) + (show EReal from p (ix3 2 r q))
      + (show EReal from p (ix3 3 r q)) := by
  pointwise [sG0, ld0_0, ld0_1, ld0_2, ld0_3, r0_0, r0_1, r0_2, r0_3, k0_pay3]

theorem sM0_at (p : FVec Ideal S4x64x1024 .bf16) (a : FVec Ideal S64x1024 .f32) (i : S64x1024.Idx) :
    sM0 p a i = Athena.Adam.newM (sG0 p i) (a i) := by
  unfold Athena.Adam.newM sM0 k0_pay4
  change _ = _ + _ * k0_pay3 (F := Ideal) (ld0_0 p) (ld0_1 p) (ld0_2 p) (ld0_3 p) i
  generalize k0_pay3 (F := Ideal) (ld0_0 p) (ld0_1 p) (ld0_2 p) (ld0_3 p) = P
  pointwise []

theorem sV0_at (p : FVec Ideal S4x64x1024 .bf16) (a : FVec Ideal S64x1024 .f32) (i : S64x1024.Idx) :
    sV0 p a i = Athena.Adam.newV (sG0 p i) (a i) := by
  unfold Athena.Adam.newV sV0 k0_pay5
  change _ = _ + _ * (k0_pay3 (F := Ideal) (ld0_0 p) (ld0_1 p) (ld0_2 p) (ld0_3 p) i * k0_pay3 (F := Ideal) (ld0_0 p) (ld0_1 p) (ld0_2 p) (ld0_3 p) i)
  generalize k0_pay3 (F := Ideal) (ld0_0 p) (ld0_1 p) (ld0_2 p) (ld0_3 p) = P
  pointwise []

theorem sD0_at (w : FVec Ideal S64x1024 .f32) (p : FVec Ideal S4x64x1024 .bf16) (a b : FVec Ideal S64x1024 .f32)
    (i : S64x1024.Idx) : sD0 w p a b i = Athena.Adam.delta (w i) (sG0 p i) (a i) (b i) := by
  unfold Athena.Adam.delta
  rw [← sM0_at, ← sV0_at]
  unfold sD0 sM0 sV0 k0_pay6 k0_pay7
  generalize k0_pay4 (F := Ideal) (ld0_0 p) (ld0_1 p) (ld0_2 p) (ld0_3 p) a = P
  generalize k0_pay5 (F := Ideal) (ld0_0 p) (ld0_1 p) (ld0_2 p) (ld0_3 p) b = Q
  pointwise [k0_pay8]

section
variable (c : Dev nD) (t : Fin cfg0.N) (r : Fin 64) (q : Fin 1024)

theorem bw0_at : bw0 m c t (ix2 r q) = aw0 m c (ix2 (row0 t r) q) := by
  blk_ext [iblk, V, idx0 t]

theorem bp0_at (k : Fin 4) : bp0 m c t (ix3 k r q) = ap0 m c (ix3 k (row0 t r) q) := by
  blk_ext [iblk, V, idx0 t]

theorem bm0_at : bm0 m c t (ix2 r q) = am0 m c (ix2 (row0 t r) q) := by
  blk_ext [iblk, V, idx0 t]

theorem bv0_at : bv0 m c t (ix2 r q) = av0 m c (ix2 (row0 t r) q) := by
  blk_ext [iblk, V, idx0 t]

theorem pointG0 : sG0 (bp0 m c t) (ix2 r q) = val_main_v1 (F := Ideal) (ap0 m c) (ix2 (row0 t r) q) := by
  refine (sG0_at _ r q).trans (Eq.trans ?_ (Cert.AdamOutRefIdeal.Math.g0_at _ _ _).symm)
  exact congrArg₂ (fun a b : EReal => a + b) (congrArg₂ (fun a b : EReal => a + b) (congrArg₂ (fun a b : EReal => a + b)
    (bp0_at m c t r q 0) (bp0_at m c t r q 1)) (bp0_at m c t r q 2)) (bp0_at m c t r q 3)

theorem pointD0 : sD0 (bw0 m c t) (bp0 m c t) (bm0 m c t) (bv0 m c t) (ix2 r q)
    = val_main_v31 (F := Ideal) (aw0 m c) (ap0 m c) (am0 m c) (av0 m c) (ix2 (row0 t r) q) := by
  refine (sD0_at _ _ _ _ _).trans (Eq.trans ?_ (Cert.AdamOutRefIdeal.Math.delta0_at _ _ _ _ _).symm)
  rw [bw0_at, bm0_at, bv0_at, pointG0]

theorem pointM0 : sM0 (bp0 m c t) (bm0 m c t) (ix2 r q)
    = val_main_v12 (F := Ideal) (ap0 m c) (am0 m c) (ix2 (row0 t r) q) := by
  refine (sM0_at _ _ _).trans (Eq.trans ?_ (Cert.AdamOutRefIdeal.Math.m0_at _ _ _).symm)
  rw [bm0_at, pointG0]

theorem pointV0 : sV0 (bp0 m c t) (bv0 m c t) (ix2 r q)
    = val_main_v18 (F := Ideal) (ap0 m c) (av0 m c) (ix2 (row0 t r) q) := by
  refine (sV0_at _ _ _).trans (Eq.trans ?_ (Cert.AdamOutRefIdeal.Math.v0_at _ _ _).symm)
  rw [bv0_at, pointG0]

end

/-- **The gradient** of w_out. -/
theorem final16 (c : Dev nD) : (dats m 0 c).arrAt 16 (cfgs 0).N = val_main_v1 (F := Ideal) (ap0 m c) := by
  refine (dats m 0 c).arrAt_eq_of_covers 16 _ (by decide +kernel) fun t _ y => ?_
  have key := pointG0 m c t (y 0) (y 1)
  blk_simp
  rw [after0_16]
  frame_out
  show sG0 (bp0 m c t) y = _
  exact (congrArg (sG0 (bp0 m c t)) (by blk_ext [idx0 t])).trans (key.trans (congrArg (val_main_v1 (F := Ideal) (ap0 m c))
    (by blk_ext [idx0 t])))

/-- **The weight's change** of w_out. -/
theorem final17 (c : Dev nD) : (dats m 0 c).arrAt 17 (cfgs 0).N = val_main_v31 (F := Ideal) (aw0 m c) (ap0 m c) (am0 m c) (av0 m c) := by
  refine (dats m 0 c).arrAt_eq_of_covers 17 _ (by decide +kernel) fun t _ y => ?_
  have key := pointD0 m c t (y 0) (y 1)
  blk_simp
  rw [after0_17]
  frame_out
  show sD0 (bw0 m c t) (bp0 m c t) (bm0 m c t) (bv0 m c t) y = _
  exact (congrArg (sD0 (bw0 m c t) (bp0 m c t) (bm0 m c t) (bv0 m c t)) (by blk_ext [idx0 t])).trans (key.trans (congrArg (val_main_v31 (F := Ideal) (aw0 m c) (ap0 m c) (am0 m c) (av0 m c))
    (by blk_ext [idx0 t])))

/-- **The first moment** of w_out. -/
theorem final18 (c : Dev nD) : (dats m 0 c).arrAt 18 (cfgs 0).N = val_main_v12 (F := Ideal) (ap0 m c) (am0 m c) := by
  refine (dats m 0 c).arrAt_eq_of_covers 18 _ (by decide +kernel) fun t _ y => ?_
  have key := pointM0 m c t (y 0) (y 1)
  blk_simp
  rw [after0_18]
  frame_out
  show sM0 (bp0 m c t) (bm0 m c t) y = _
  exact (congrArg (sM0 (bp0 m c t) (bm0 m c t)) (by blk_ext [idx0 t])).trans (key.trans (congrArg (val_main_v12 (F := Ideal) (ap0 m c) (am0 m c))
    (by blk_ext [idx0 t])))

/-- **The second moment** of w_out. -/
theorem final19 (c : Dev nD) : (dats m 0 c).arrAt 19 (cfgs 0).N = val_main_v18 (F := Ideal) (ap0 m c) (av0 m c) := by
  refine (dats m 0 c).arrAt_eq_of_covers 19 _ (by decide +kernel) fun t _ y => ?_
  have key := pointV0 m c t (y 0) (y 1)
  blk_simp
  rw [after0_19]
  frame_out
  show sV0 (bp0 m c t) (bv0 m c t) y = _
  exact (congrArg (sV0 (bp0 m c t) (bv0 m c t)) (by blk_ext [idx0 t])).trans (key.trans (congrArg (val_main_v18 (F := Ideal) (ap0 m c) (av0 m c))
    (by blk_ext [idx0 t])))

/-! ## w_branch_a -/

abbrev aw1 (c : Dev nD) : FVec Ideal S512x128 .f32 := m ((c : Thread nD τ).loc main_arg1)
abbrev ap1 (c : Dev nD) : FVec Ideal S4x512x128 .bf16 := m ((c : Thread nD τ).loc main_arg5)
abbrev am1 (c : Dev nD) : FVec Ideal S512x128 .f32 := m ((c : Thread nD τ).loc main_arg9)
abbrev av1 (c : Dev nD) : FVec Ideal S512x128 .f32 := m ((c : Thread nD τ).loc main_arg13)

theorem idx1 : ∀ t : Fin cfg0.N, win0_1.index t = ![t.val, 0] ∧ win0_5.index t = ![0, t.val, 0] ∧ win0_9.index t = ![t.val, 0] ∧ win0_13.index t = ![t.val, 0] ∧ win0_20.index t = ![t.val, 0] ∧ win0_21.index t = ![t.val, 0] ∧ win0_22.index t = ![t.val, 0] ∧ win0_23.index t = ![t.val, 0] :=
  (by decide +kernel : ∀ t : Fin grid0.N, _)

/-- Row r of block t is row 256 t + r of the array. -/
abbrev row1 (t : Fin cfg0.N) (r : Fin 256) : Fin 512 := ⟨t.val * 256 + r, by have := lt_of_lt_of_eq t.isLt N_0; omega⟩

abbrev bw1 (c : Dev nD) (t : Fin cfg0.N) : FVec Ideal S256x128 .f32 := iblk m c 1 t
abbrev bp1 (c : Dev nD) (t : Fin cfg0.N) : FVec Ideal S4x256x128 .bf16 := iblk m c 5 t
abbrev bm1 (c : Dev nD) (t : Fin cfg0.N) : FVec Ideal S256x128 .f32 := iblk m c 9 t
abbrev bv1 (c : Dev nD) (t : Fin cfg0.N) : FVec Ideal S256x128 .f32 := iblk m c 13 t

abbrev ld1_0 (p : FVec Ideal S4x256x128 .bf16) : Vec Ideal S1x256x128 .bf16 :=
  View.ld (S := S4x256x128) (e' := .bf16) (Val := Elt Ideal) p r0_5
abbrev ld1_1 (p : FVec Ideal S4x256x128 .bf16) : Vec Ideal S1x256x128 .bf16 :=
  View.ld (S := S4x256x128) (e' := .bf16) (Val := Elt Ideal) p r0_6
abbrev ld1_2 (p : FVec Ideal S4x256x128 .bf16) : Vec Ideal S1x256x128 .bf16 :=
  View.ld (S := S4x256x128) (e' := .bf16) (Val := Elt Ideal) p r0_7
abbrev ld1_3 (p : FVec Ideal S4x256x128 .bf16) : Vec Ideal S1x256x128 .bf16 :=
  View.ld (S := S4x256x128) (e' := .bf16) (Val := Elt Ideal) p r0_8

/-- What a block stores. -/
def sG1 (p : FVec Ideal S4x256x128 .bf16) : FVec Ideal S256x128 .f32 := k0_pay9 (F := Ideal) (ld1_0 p) (ld1_1 p) (ld1_2 p) (ld1_3 p)
def sM1 (p : FVec Ideal S4x256x128 .bf16) (a : FVec Ideal S256x128 .f32) : FVec Ideal S256x128 .f32 :=
  k0_pay10 (F := Ideal) (sG1 p) a
def sV1 (p : FVec Ideal S4x256x128 .bf16) (a : FVec Ideal S256x128 .f32) : FVec Ideal S256x128 .f32 :=
  k0_pay11 (F := Ideal) (sG1 p) a
def sD1 (w : FVec Ideal S256x128 .f32) (p : FVec Ideal S4x256x128 .bf16) (a b : FVec Ideal S256x128 .f32) :
    FVec Ideal S256x128 .f32 :=
  k0_pay12 (F := Ideal) (sG1 p) w a b

theorem sG1_at (p : FVec Ideal S4x256x128 .bf16) (r : Fin 256) (q : Fin 128) :
    sG1 p (ix2 r q) = (show EReal from p (ix3 0 r q)) + (show EReal from p (ix3 1 r q)) + (show EReal from p (ix3 2 r q))
      + (show EReal from p (ix3 3 r q)) := by
  pointwise [sG1, ld1_0, ld1_1, ld1_2, ld1_3, r0_5, r0_6, r0_7, r0_8, k0_pay9]

theorem sM1_at (p : FVec Ideal S4x256x128 .bf16) (a : FVec Ideal S256x128 .f32) (i : S256x128.Idx) :
    sM1 p a i = Athena.Adam.newM (sG1 p i) (a i) := by
  unfold Athena.Adam.newM sM1
  generalize sG1 p = P
  pointwise [k0_pay10]

theorem sV1_at (p : FVec Ideal S4x256x128 .bf16) (a : FVec Ideal S256x128 .f32) (i : S256x128.Idx) :
    sV1 p a i = Athena.Adam.newV (sG1 p i) (a i) := by
  unfold Athena.Adam.newV sV1
  generalize sG1 p = P
  pointwise [k0_pay11]

theorem sD1_at (w : FVec Ideal S256x128 .f32) (p : FVec Ideal S4x256x128 .bf16) (a b : FVec Ideal S256x128 .f32)
    (i : S256x128.Idx) : sD1 w p a b i = Athena.Adam.delta (w i) (sG1 p i) (a i) (b i) := by
  unfold Athena.Adam.delta
  rw [← sM1_at, ← sV1_at]
  unfold sD1 sM1 sV1 k0_pay12
  generalize k0_pay10 (F := Ideal) (sG1 p) a = P
  generalize k0_pay11 (F := Ideal) (sG1 p) b = Q
  pointwise []

section
variable (c : Dev nD) (t : Fin cfg0.N) (r : Fin 256) (q : Fin 128)

theorem bw1_at : bw1 m c t (ix2 r q) = aw1 m c (ix2 (row1 t r) q) := by
  blk_ext [iblk, V, idx1 t]

theorem bp1_at (k : Fin 4) : bp1 m c t (ix3 k r q) = ap1 m c (ix3 k (row1 t r) q) := by
  blk_ext [iblk, V, idx1 t]

theorem bm1_at : bm1 m c t (ix2 r q) = am1 m c (ix2 (row1 t r) q) := by
  blk_ext [iblk, V, idx1 t]

theorem bv1_at : bv1 m c t (ix2 r q) = av1 m c (ix2 (row1 t r) q) := by
  blk_ext [iblk, V, idx1 t]

theorem pointG1 : sG1 (bp1 m c t) (ix2 r q) = val_main_v3 (F := Ideal) (ap1 m c) (ix2 (row1 t r) q) := by
  refine (sG1_at _ r q).trans (Eq.trans ?_ (Cert.AdamOutRefIdeal.Math.g1_at _ _ _).symm)
  exact congrArg₂ (fun a b : EReal => a + b) (congrArg₂ (fun a b : EReal => a + b) (congrArg₂ (fun a b : EReal => a + b)
    (bp1_at m c t r q 0) (bp1_at m c t r q 1)) (bp1_at m c t r q 2)) (bp1_at m c t r q 3)

theorem pointD1 : sD1 (bw1 m c t) (bp1 m c t) (bm1 m c t) (bv1 m c t) (ix2 r q)
    = val_main_v55 (F := Ideal) (aw1 m c) (ap1 m c) (am1 m c) (av1 m c) (ix2 (row1 t r) q) := by
  refine (sD1_at _ _ _ _ _).trans (Eq.trans ?_ (Cert.AdamOutRefIdeal.Math.delta1_at _ _ _ _ _).symm)
  rw [bw1_at, bm1_at, bv1_at, pointG1]

theorem pointM1 : sM1 (bp1 m c t) (bm1 m c t) (ix2 r q)
    = val_main_v36 (F := Ideal) (ap1 m c) (am1 m c) (ix2 (row1 t r) q) := by
  refine (sM1_at _ _ _).trans (Eq.trans ?_ (Cert.AdamOutRefIdeal.Math.m1_at _ _ _).symm)
  rw [bm1_at, pointG1]

theorem pointV1 : sV1 (bp1 m c t) (bv1 m c t) (ix2 r q)
    = val_main_v42 (F := Ideal) (ap1 m c) (av1 m c) (ix2 (row1 t r) q) := by
  refine (sV1_at _ _ _).trans (Eq.trans ?_ (Cert.AdamOutRefIdeal.Math.v1_at _ _ _).symm)
  rw [bv1_at, pointG1]

end

/-- **The gradient** of w_branch_a. -/
theorem final20 (c : Dev nD) : (dats m 0 c).arrAt 20 (cfgs 0).N = val_main_v3 (F := Ideal) (ap1 m c) := by
  refine (dats m 0 c).arrAt_eq_of_covers 20 _ (by decide +kernel) fun t _ y => ?_
  have key := pointG1 m c t (y 0) (y 1)
  blk_simp
  rw [after0_20]
  frame_out
  show sG1 (bp1 m c t) y = _
  exact (congrArg (sG1 (bp1 m c t)) (by blk_ext [idx1 t])).trans (key.trans (congrArg (val_main_v3 (F := Ideal) (ap1 m c))
    (by blk_ext [idx1 t])))

/-- **The weight's change** of w_branch_a. -/
theorem final21 (c : Dev nD) : (dats m 0 c).arrAt 21 (cfgs 0).N = val_main_v55 (F := Ideal) (aw1 m c) (ap1 m c) (am1 m c) (av1 m c) := by
  refine (dats m 0 c).arrAt_eq_of_covers 21 _ (by decide +kernel) fun t _ y => ?_
  have key := pointD1 m c t (y 0) (y 1)
  blk_simp
  rw [after0_21]
  frame_out
  show sD1 (bw1 m c t) (bp1 m c t) (bm1 m c t) (bv1 m c t) y = _
  exact (congrArg (sD1 (bw1 m c t) (bp1 m c t) (bm1 m c t) (bv1 m c t)) (by blk_ext [idx1 t])).trans (key.trans (congrArg (val_main_v55 (F := Ideal) (aw1 m c) (ap1 m c) (am1 m c) (av1 m c))
    (by blk_ext [idx1 t])))

/-- **The first moment** of w_branch_a. -/
theorem final22 (c : Dev nD) : (dats m 0 c).arrAt 22 (cfgs 0).N = val_main_v36 (F := Ideal) (ap1 m c) (am1 m c) := by
  refine (dats m 0 c).arrAt_eq_of_covers 22 _ (by decide +kernel) fun t _ y => ?_
  have key := pointM1 m c t (y 0) (y 1)
  blk_simp
  rw [after0_22]
  frame_out
  show sM1 (bp1 m c t) (bm1 m c t) y = _
  exact (congrArg (sM1 (bp1 m c t) (bm1 m c t)) (by blk_ext [idx1 t])).trans (key.trans (congrArg (val_main_v36 (F := Ideal) (ap1 m c) (am1 m c))
    (by blk_ext [idx1 t])))

/-- **The second moment** of w_branch_a. -/
theorem final23 (c : Dev nD) : (dats m 0 c).arrAt 23 (cfgs 0).N = val_main_v42 (F := Ideal) (ap1 m c) (av1 m c) := by
  refine (dats m 0 c).arrAt_eq_of_covers 23 _ (by decide +kernel) fun t _ y => ?_
  have key := pointV1 m c t (y 0) (y 1)
  blk_simp
  rw [after0_23]
  frame_out
  show sV1 (bp1 m c t) (bv1 m c t) y = _
  exact (congrArg (sV1 (bp1 m c t) (bv1 m c t)) (by blk_ext [idx1 t])).trans (key.trans (congrArg (val_main_v42 (F := Ideal) (ap1 m c) (av1 m c))
    (by blk_ext [idx1 t])))

/-! ## w_branch_b -/

abbrev aw2 (c : Dev nD) : FVec Ideal S512x128 .f32 := m ((c : Thread nD τ).loc main_arg2)
abbrev ap2 (c : Dev nD) : FVec Ideal S4x512x128 .bf16 := m ((c : Thread nD τ).loc main_arg6)
abbrev am2 (c : Dev nD) : FVec Ideal S512x128 .f32 := m ((c : Thread nD τ).loc main_arg10)
abbrev av2 (c : Dev nD) : FVec Ideal S512x128 .f32 := m ((c : Thread nD τ).loc main_arg14)

theorem idx2 : ∀ t : Fin cfg0.N, win0_2.index t = ![t.val, 0] ∧ win0_6.index t = ![0, t.val, 0] ∧ win0_10.index t = ![t.val, 0] ∧ win0_14.index t = ![t.val, 0] ∧ win0_24.index t = ![t.val, 0] ∧ win0_25.index t = ![t.val, 0] ∧ win0_26.index t = ![t.val, 0] ∧ win0_27.index t = ![t.val, 0] :=
  (by decide +kernel : ∀ t : Fin grid0.N, _)

/-- Row r of block t is row 256 t + r of the array. -/
abbrev row2 (t : Fin cfg0.N) (r : Fin 256) : Fin 512 := ⟨t.val * 256 + r, by have := lt_of_lt_of_eq t.isLt N_0; omega⟩

abbrev bw2 (c : Dev nD) (t : Fin cfg0.N) : FVec Ideal S256x128 .f32 := iblk m c 2 t
abbrev bp2 (c : Dev nD) (t : Fin cfg0.N) : FVec Ideal S4x256x128 .bf16 := iblk m c 6 t
abbrev bm2 (c : Dev nD) (t : Fin cfg0.N) : FVec Ideal S256x128 .f32 := iblk m c 10 t
abbrev bv2 (c : Dev nD) (t : Fin cfg0.N) : FVec Ideal S256x128 .f32 := iblk m c 14 t

abbrev ld2_0 (p : FVec Ideal S4x256x128 .bf16) : Vec Ideal S1x256x128 .bf16 :=
  View.ld (S := S4x256x128) (e' := .bf16) (Val := Elt Ideal) p r0_5
abbrev ld2_1 (p : FVec Ideal S4x256x128 .bf16) : Vec Ideal S1x256x128 .bf16 :=
  View.ld (S := S4x256x128) (e' := .bf16) (Val := Elt Ideal) p r0_6
abbrev ld2_2 (p : FVec Ideal S4x256x128 .bf16) : Vec Ideal S1x256x128 .bf16 :=
  View.ld (S := S4x256x128) (e' := .bf16) (Val := Elt Ideal) p r0_7
abbrev ld2_3 (p : FVec Ideal S4x256x128 .bf16) : Vec Ideal S1x256x128 .bf16 :=
  View.ld (S := S4x256x128) (e' := .bf16) (Val := Elt Ideal) p r0_8

/-- What a block stores. -/
def sG2 (p : FVec Ideal S4x256x128 .bf16) : FVec Ideal S256x128 .f32 := k0_pay14 (F := Ideal) (k0_pay13 (F := Ideal) (ld2_0 p)) (ld2_1 p) (ld2_2 p) (ld2_3 p)
def sM2 (p : FVec Ideal S4x256x128 .bf16) (a : FVec Ideal S256x128 .f32) : FVec Ideal S256x128 .f32 :=
  k0_pay15 (F := Ideal) (k0_pay13 (F := Ideal) (ld2_0 p)) (ld2_1 p) (ld2_2 p) (ld2_3 p) a
def sV2 (p : FVec Ideal S4x256x128 .bf16) (a : FVec Ideal S256x128 .f32) : FVec Ideal S256x128 .f32 :=
  k0_pay16 (F := Ideal) (k0_pay13 (F := Ideal) (ld2_0 p)) (ld2_1 p) (ld2_2 p) (ld2_3 p) a
def sD2 (w : FVec Ideal S256x128 .f32) (p : FVec Ideal S4x256x128 .bf16) (a b : FVec Ideal S256x128 .f32) :
    FVec Ideal S256x128 .f32 :=
  k0_pay17 (F := Ideal) (k0_pay13 (F := Ideal) (ld2_0 p)) (ld2_1 p) (ld2_2 p) (ld2_3 p) w a b

theorem sG2_at (p : FVec Ideal S4x256x128 .bf16) (r : Fin 256) (q : Fin 128) :
    sG2 p (ix2 r q) = (show EReal from p (ix3 0 r q)) + (show EReal from p (ix3 1 r q)) + (show EReal from p (ix3 2 r q))
      + (show EReal from p (ix3 3 r q)) := by
  pointwise [sG2, ld2_0, ld2_1, ld2_2, ld2_3, r0_5, r0_6, r0_7, r0_8, k0_pay14, k0_pay13]

theorem sM2_at (p : FVec Ideal S4x256x128 .bf16) (a : FVec Ideal S256x128 .f32) (i : S256x128.Idx) :
    sM2 p a i = Athena.Adam.newM (sG2 p i) (a i) := by
  unfold Athena.Adam.newM sM2 k0_pay15
  change _ = _ + _ * k0_pay14 (F := Ideal) (k0_pay13 (F := Ideal) (ld2_0 p)) (ld2_1 p) (ld2_2 p) (ld2_3 p) i
  generalize k0_pay14 (F := Ideal) (k0_pay13 (F := Ideal) (ld2_0 p)) (ld2_1 p) (ld2_2 p) (ld2_3 p) = P
  pointwise []

theorem sV2_at (p : FVec Ideal S4x256x128 .bf16) (a : FVec Ideal S256x128 .f32) (i : S256x128.Idx) :
    sV2 p a i = Athena.Adam.newV (sG2 p i) (a i) := by
  unfold Athena.Adam.newV sV2 k0_pay16
  change _ = _ + _ * (k0_pay14 (F := Ideal) (k0_pay13 (F := Ideal) (ld2_0 p)) (ld2_1 p) (ld2_2 p) (ld2_3 p) i * k0_pay14 (F := Ideal) (k0_pay13 (F := Ideal) (ld2_0 p)) (ld2_1 p) (ld2_2 p) (ld2_3 p) i)
  generalize k0_pay14 (F := Ideal) (k0_pay13 (F := Ideal) (ld2_0 p)) (ld2_1 p) (ld2_2 p) (ld2_3 p) = P
  pointwise []

theorem sD2_at (w : FVec Ideal S256x128 .f32) (p : FVec Ideal S4x256x128 .bf16) (a b : FVec Ideal S256x128 .f32)
    (i : S256x128.Idx) : sD2 w p a b i = Athena.Adam.delta (w i) (sG2 p i) (a i) (b i) := by
  unfold Athena.Adam.delta
  rw [← sM2_at, ← sV2_at]
  unfold sD2 sM2 sV2 k0_pay17
  generalize k0_pay15 (F := Ideal) (k0_pay13 (F := Ideal) (ld2_0 p)) (ld2_1 p) (ld2_2 p) (ld2_3 p) a = P
  generalize k0_pay16 (F := Ideal) (k0_pay13 (F := Ideal) (ld2_0 p)) (ld2_1 p) (ld2_2 p) (ld2_3 p) b = Q
  pointwise []

section
variable (c : Dev nD) (t : Fin cfg0.N) (r : Fin 256) (q : Fin 128)

theorem bw2_at : bw2 m c t (ix2 r q) = aw2 m c (ix2 (row2 t r) q) := by
  blk_ext [iblk, V, idx2 t]

theorem bp2_at (k : Fin 4) : bp2 m c t (ix3 k r q) = ap2 m c (ix3 k (row2 t r) q) := by
  blk_ext [iblk, V, idx2 t]

theorem bm2_at : bm2 m c t (ix2 r q) = am2 m c (ix2 (row2 t r) q) := by
  blk_ext [iblk, V, idx2 t]

theorem bv2_at : bv2 m c t (ix2 r q) = av2 m c (ix2 (row2 t r) q) := by
  blk_ext [iblk, V, idx2 t]

theorem pointG2 : sG2 (bp2 m c t) (ix2 r q) = val_main_v5 (F := Ideal) (ap2 m c) (ix2 (row2 t r) q) := by
  refine (sG2_at _ r q).trans (Eq.trans ?_ (Cert.AdamOutRefIdeal.Math.g2_at _ _ _).symm)
  exact congrArg₂ (fun a b : EReal => a + b) (congrArg₂ (fun a b : EReal => a + b) (congrArg₂ (fun a b : EReal => a + b)
    (bp2_at m c t r q 0) (bp2_at m c t r q 1)) (bp2_at m c t r q 2)) (bp2_at m c t r q 3)

theorem pointD2 : sD2 (bw2 m c t) (bp2 m c t) (bm2 m c t) (bv2 m c t) (ix2 r q)
    = val_main_v79 (F := Ideal) (aw2 m c) (ap2 m c) (am2 m c) (av2 m c) (ix2 (row2 t r) q) := by
  refine (sD2_at _ _ _ _ _).trans (Eq.trans ?_ (Cert.AdamOutRefIdeal.Math.delta2_at _ _ _ _ _).symm)
  rw [bw2_at, bm2_at, bv2_at, pointG2]

theorem pointM2 : sM2 (bp2 m c t) (bm2 m c t) (ix2 r q)
    = val_main_v60 (F := Ideal) (ap2 m c) (am2 m c) (ix2 (row2 t r) q) := by
  refine (sM2_at _ _ _).trans (Eq.trans ?_ (Cert.AdamOutRefIdeal.Math.m2_at _ _ _).symm)
  rw [bm2_at, pointG2]

theorem pointV2 : sV2 (bp2 m c t) (bv2 m c t) (ix2 r q)
    = val_main_v66 (F := Ideal) (ap2 m c) (av2 m c) (ix2 (row2 t r) q) := by
  refine (sV2_at _ _ _).trans (Eq.trans ?_ (Cert.AdamOutRefIdeal.Math.v2_at _ _ _).symm)
  rw [bv2_at, pointG2]

end

/-- **The gradient** of w_branch_b. -/
theorem final24 (c : Dev nD) : (dats m 0 c).arrAt 24 (cfgs 0).N = val_main_v5 (F := Ideal) (ap2 m c) := by
  refine (dats m 0 c).arrAt_eq_of_covers 24 _ (by decide +kernel) fun t _ y => ?_
  have key := pointG2 m c t (y 0) (y 1)
  blk_simp
  rw [after0_24]
  frame_out
  show sG2 (bp2 m c t) y = _
  exact (congrArg (sG2 (bp2 m c t)) (by blk_ext [idx2 t])).trans (key.trans (congrArg (val_main_v5 (F := Ideal) (ap2 m c))
    (by blk_ext [idx2 t])))

/-- **The weight's change** of w_branch_b. -/
theorem final25 (c : Dev nD) : (dats m 0 c).arrAt 25 (cfgs 0).N = val_main_v79 (F := Ideal) (aw2 m c) (ap2 m c) (am2 m c) (av2 m c) := by
  refine (dats m 0 c).arrAt_eq_of_covers 25 _ (by decide +kernel) fun t _ y => ?_
  have key := pointD2 m c t (y 0) (y 1)
  blk_simp
  rw [after0_25]
  frame_out
  show sD2 (bw2 m c t) (bp2 m c t) (bm2 m c t) (bv2 m c t) y = _
  exact (congrArg (sD2 (bw2 m c t) (bp2 m c t) (bm2 m c t) (bv2 m c t)) (by blk_ext [idx2 t])).trans (key.trans (congrArg (val_main_v79 (F := Ideal) (aw2 m c) (ap2 m c) (am2 m c) (av2 m c))
    (by blk_ext [idx2 t])))

/-- **The first moment** of w_branch_b. -/
theorem final26 (c : Dev nD) : (dats m 0 c).arrAt 26 (cfgs 0).N = val_main_v60 (F := Ideal) (ap2 m c) (am2 m c) := by
  refine (dats m 0 c).arrAt_eq_of_covers 26 _ (by decide +kernel) fun t _ y => ?_
  have key := pointM2 m c t (y 0) (y 1)
  blk_simp
  rw [after0_26]
  frame_out
  show sM2 (bp2 m c t) (bm2 m c t) y = _
  exact (congrArg (sM2 (bp2 m c t) (bm2 m c t)) (by blk_ext [idx2 t])).trans (key.trans (congrArg (val_main_v60 (F := Ideal) (ap2 m c) (am2 m c))
    (by blk_ext [idx2 t])))

/-- **The second moment** of w_branch_b. -/
theorem final27 (c : Dev nD) : (dats m 0 c).arrAt 27 (cfgs 0).N = val_main_v66 (F := Ideal) (ap2 m c) (av2 m c) := by
  refine (dats m 0 c).arrAt_eq_of_covers 27 _ (by decide +kernel) fun t _ y => ?_
  have key := pointV2 m c t (y 0) (y 1)
  blk_simp
  rw [after0_27]
  frame_out
  show sV2 (bp2 m c t) (bv2 m c t) y = _
  exact (congrArg (sV2 (bp2 m c t) (bv2 m c t)) (by blk_ext [idx2 t])).trans (key.trans (congrArg (val_main_v66 (F := Ideal) (ap2 m c) (av2 m c))
    (by blk_ext [idx2 t])))

/-! ## w_ffn_down -/

abbrev aw3 (c : Dev nD) : FVec Ideal S352x1024 .f32 := m ((c : Thread nD τ).loc main_arg3)
abbrev ap3 (c : Dev nD) : FVec Ideal S4x352x1024 .bf16 := m ((c : Thread nD τ).loc main_arg7)
abbrev am3 (c : Dev nD) : FVec Ideal S352x1024 .f32 := m ((c : Thread nD τ).loc main_arg11)
abbrev av3 (c : Dev nD) : FVec Ideal S352x1024 .f32 := m ((c : Thread nD τ).loc main_arg15)

theorem idx3 : ∀ t : Fin cfg0.N, win0_3.index t = ![t.val, 0] ∧ win0_7.index t = ![0, t.val, 0] ∧ win0_11.index t = ![t.val, 0] ∧ win0_15.index t = ![t.val, 0] ∧ win0_28.index t = ![t.val, 0] ∧ win0_29.index t = ![t.val, 0] ∧ win0_30.index t = ![t.val, 0] ∧ win0_31.index t = ![t.val, 0] :=
  (by decide +kernel : ∀ t : Fin grid0.N, _)

/-- Row r of block t is row 176 t + r of the array. -/
abbrev row3 (t : Fin cfg0.N) (r : Fin 176) : Fin 352 := ⟨t.val * 176 + r, by have := lt_of_lt_of_eq t.isLt N_0; omega⟩

abbrev bw3 (c : Dev nD) (t : Fin cfg0.N) : FVec Ideal S176x1024 .f32 := iblk m c 3 t
abbrev bp3 (c : Dev nD) (t : Fin cfg0.N) : FVec Ideal S4x176x1024 .bf16 := iblk m c 7 t
abbrev bm3 (c : Dev nD) (t : Fin cfg0.N) : FVec Ideal S176x1024 .f32 := iblk m c 11 t
abbrev bv3 (c : Dev nD) (t : Fin cfg0.N) : FVec Ideal S176x1024 .f32 := iblk m c 15 t

abbrev ld3_0 (p : FVec Ideal S4x176x1024 .bf16) : Vec Ideal S1x176x1024 .bf16 :=
  View.ld (S := S4x176x1024) (e' := .bf16) (Val := Elt Ideal) p r0_10
abbrev ld3_1 (p : FVec Ideal S4x176x1024 .bf16) : Vec Ideal S1x176x1024 .bf16 :=
  View.ld (S := S4x176x1024) (e' := .bf16) (Val := Elt Ideal) p r0_11
abbrev ld3_2 (p : FVec Ideal S4x176x1024 .bf16) : Vec Ideal S1x176x1024 .bf16 :=
  View.ld (S := S4x176x1024) (e' := .bf16) (Val := Elt Ideal) p r0_12
abbrev ld3_3 (p : FVec Ideal S4x176x1024 .bf16) : Vec Ideal S1x176x1024 .bf16 :=
  View.ld (S := S4x176x1024) (e' := .bf16) (Val := Elt Ideal) p r0_13

/-- A load of a whole block is the block. -/
theorem ld_full3 (X : Vec Ideal S176x1024 .f32) : View.ld X r0_14 = X :=
  View.ld_unit_lit _ X (by decide)

/-- What a block stores. -/
def sG3 (p : FVec Ideal S4x176x1024 .bf16) : FVec Ideal S176x1024 .f32 := k0_pay18 (F := Ideal) (ld3_0 p) (ld3_1 p) (ld3_2 p) (ld3_3 p)
def sM3 (p : FVec Ideal S4x176x1024 .bf16) (a : FVec Ideal S176x1024 .f32) : FVec Ideal S176x1024 .f32 :=
  k0_pay19 (F := Ideal) (ld3_0 p) (ld3_1 p) (ld3_2 p) (ld3_3 p) a
def sV3 (p : FVec Ideal S4x176x1024 .bf16) (a : FVec Ideal S176x1024 .f32) : FVec Ideal S176x1024 .f32 :=
  k0_pay1 (F := Ideal) (sG3 p) a (Scalar.ofBits .f32 0x3F7FBE77#32)
def sD3 (w : FVec Ideal S176x1024 .f32) (p : FVec Ideal S4x176x1024 .bf16) (a b : FVec Ideal S176x1024 .f32) :
    FVec Ideal S176x1024 .f32 :=
  k0_pay2 (F := Ideal) (sG3 p) w b (sM3 p a) (Scalar.ofBits .f32 0x3F7FBE77#32)

theorem sG3_at (p : FVec Ideal S4x176x1024 .bf16) (r : Fin 176) (q : Fin 1024) :
    sG3 p (ix2 r q) = (show EReal from p (ix3 0 r q)) + (show EReal from p (ix3 1 r q)) + (show EReal from p (ix3 2 r q))
      + (show EReal from p (ix3 3 r q)) := by
  pointwise [sG3, ld3_0, ld3_1, ld3_2, ld3_3, r0_10, r0_11, r0_12, r0_13, k0_pay18]

theorem sM3_at (p : FVec Ideal S4x176x1024 .bf16) (a : FVec Ideal S176x1024 .f32) (i : S176x1024.Idx) :
    sM3 p a i = Athena.Adam.newM (sG3 p i) (a i) := by
  unfold Athena.Adam.newM sM3 k0_pay19
  change _ = _ + _ * k0_pay18 (F := Ideal) (ld3_0 p) (ld3_1 p) (ld3_2 p) (ld3_3 p) i
  generalize k0_pay18 (F := Ideal) (ld3_0 p) (ld3_1 p) (ld3_2 p) (ld3_3 p) = P
  pointwise []

theorem sV3_at (p : FVec Ideal S4x176x1024 .bf16) (a : FVec Ideal S176x1024 .f32) (i : S176x1024.Idx) :
    sV3 p a i = Athena.Adam.newV (sG3 p i) (a i) := by
  unfold Athena.Adam.newV sV3
  generalize sG3 p = P
  pointwise [k0_pay1]

theorem sD3_at (w : FVec Ideal S176x1024 .f32) (p : FVec Ideal S4x176x1024 .bf16) (a b : FVec Ideal S176x1024 .f32)
    (i : S176x1024.Idx) : sD3 w p a b i = Athena.Adam.delta (w i) (sG3 p i) (a i) (b i) := by
  unfold Athena.Adam.delta
  rw [← sM3_at, ← sV3_at]
  unfold sD3 sV3 k0_pay2
  generalize sM3 p a = P
  generalize k0_pay1 (F := Ideal) (sG3 p) b (Scalar.ofBits .f32 0x3F7FBE77#32) = Q
  pointwise []

section
variable (c : Dev nD) (t : Fin cfg0.N) (r : Fin 176) (q : Fin 1024)

theorem bw3_at : bw3 m c t (ix2 r q) = aw3 m c (ix2 (row3 t r) q) := by
  blk_ext [iblk, V, idx3 t]

theorem bp3_at (k : Fin 4) : bp3 m c t (ix3 k r q) = ap3 m c (ix3 k (row3 t r) q) := by
  blk_ext [iblk, V, idx3 t]

theorem bm3_at : bm3 m c t (ix2 r q) = am3 m c (ix2 (row3 t r) q) := by
  blk_ext [iblk, V, idx3 t]

theorem bv3_at : bv3 m c t (ix2 r q) = av3 m c (ix2 (row3 t r) q) := by
  blk_ext [iblk, V, idx3 t]

theorem pointG3 : sG3 (bp3 m c t) (ix2 r q) = val_main_v7 (F := Ideal) (ap3 m c) (ix2 (row3 t r) q) := by
  refine (sG3_at _ r q).trans (Eq.trans ?_ (Cert.AdamOutRefIdeal.Math.g3_at _ _ _).symm)
  exact congrArg₂ (fun a b : EReal => a + b) (congrArg₂ (fun a b : EReal => a + b) (congrArg₂ (fun a b : EReal => a + b)
    (bp3_at m c t r q 0) (bp3_at m c t r q 1)) (bp3_at m c t r q 2)) (bp3_at m c t r q 3)

theorem pointD3 : sD3 (bw3 m c t) (bp3 m c t) (bm3 m c t) (bv3 m c t) (ix2 r q)
    = val_main_v103 (F := Ideal) (aw3 m c) (ap3 m c) (am3 m c) (av3 m c) (ix2 (row3 t r) q) := by
  refine (sD3_at _ _ _ _ _).trans (Eq.trans ?_ (Cert.AdamOutRefIdeal.Math.delta3_at _ _ _ _ _).symm)
  rw [bw3_at, bm3_at, bv3_at, pointG3]

theorem pointM3 : sM3 (bp3 m c t) (bm3 m c t) (ix2 r q)
    = val_main_v84 (F := Ideal) (ap3 m c) (am3 m c) (ix2 (row3 t r) q) := by
  refine (sM3_at _ _ _).trans (Eq.trans ?_ (Cert.AdamOutRefIdeal.Math.m3_at _ _ _).symm)
  rw [bm3_at, pointG3]

theorem pointV3 : sV3 (bp3 m c t) (bv3 m c t) (ix2 r q)
    = val_main_v90 (F := Ideal) (ap3 m c) (av3 m c) (ix2 (row3 t r) q) := by
  refine (sV3_at _ _ _).trans (Eq.trans ?_ (Cert.AdamOutRefIdeal.Math.v3_at _ _ _).symm)
  rw [bv3_at, pointG3]

end

/-- **The gradient** of w_ffn_down. -/
theorem final28 (c : Dev nD) : (dats m 0 c).arrAt 28 (cfgs 0).N = val_main_v7 (F := Ideal) (ap3 m c) := by
  refine (dats m 0 c).arrAt_eq_of_covers 28 _ (by decide +kernel) fun t _ y => ?_
  have key := pointG3 m c t (y 0) (y 1)
  blk_simp
  rw [after0_28]
  frame_out
  show sG3 (bp3 m c t) y = _
  exact (congrArg (sG3 (bp3 m c t)) (by blk_ext [idx3 t])).trans (key.trans (congrArg (val_main_v7 (F := Ideal) (ap3 m c))
    (by blk_ext [idx3 t])))

set_option maxHeartbeats 1600000 in
/-- **The weight's change** of w_ffn_down. -/
theorem final29 (c : Dev nD) : (dats m 0 c).arrAt 29 (cfgs 0).N = val_main_v103 (F := Ideal) (aw3 m c) (ap3 m c) (am3 m c) (av3 m c) := by
  refine (dats m 0 c).arrAt_eq_of_covers 29 _ (by decide +kernel) fun t _ y => ?_
  have key := pointD3 m c t (y 0) (y 1)
  blk_simp
  rw [after0_29]
  frame_out
  unfold k0_pay22 k0_pay23
  rw [ld_full3]
  show sD3 (bw3 m c t) (bp3 m c t) (bm3 m c t) (bv3 m c t) y = _
  exact (congrArg (sD3 (bw3 m c t) (bp3 m c t) (bm3 m c t) (bv3 m c t)) (by blk_ext [idx3 t])).trans (key.trans (congrArg (val_main_v103 (F := Ideal) (aw3 m c) (ap3 m c) (am3 m c) (av3 m c))
    (by blk_ext [idx3 t])))

set_option maxHeartbeats 1600000 in
/-- **The first moment** of w_ffn_down. -/
theorem final30 (c : Dev nD) : (dats m 0 c).arrAt 30 (cfgs 0).N = val_main_v84 (F := Ideal) (ap3 m c) (am3 m c) := by
  refine (dats m 0 c).arrAt_eq_of_covers 30 _ (by decide +kernel) fun t _ y => ?_
  have key := pointM3 m c t (y 0) (y 1)
  blk_simp
  rw [after0_30]
  frame_out
  unfold k0_pay23
  rw [ld_full3]
  show sM3 (bp3 m c t) (bm3 m c t) y = _
  exact (congrArg (sM3 (bp3 m c t) (bm3 m c t)) (by blk_ext [idx3 t])).trans (key.trans (congrArg (val_main_v84 (F := Ideal) (ap3 m c) (am3 m c))
    (by blk_ext [idx3 t])))

set_option maxHeartbeats 1600000 in
/-- **The second moment** of w_ffn_down. -/
theorem final31 (c : Dev nD) : (dats m 0 c).arrAt 31 (cfgs 0).N = val_main_v90 (F := Ideal) (ap3 m c) (av3 m c) := by
  refine (dats m 0 c).arrAt_eq_of_covers 31 _ (by decide +kernel) fun t _ y => ?_
  have key := pointV3 m c t (y 0) (y 1)
  blk_simp
  rw [after0_31]
  frame_out
  unfold k0_pay22
  show sV3 (bp3 m c t) (bv3 m c t) y = _
  exact (congrArg (sV3 (bp3 m c t) (bv3 m c t)) (by blk_ext [idx3 t])).trans (key.trans (congrArg (val_main_v90 (F := Ideal) (ap3 m c) (av3 m c))
    (by blk_ext [idx3 t])))

end Cert.AdamOutIdeal.Value

end
-- ==== Proof.AdamOutClaim.lean ====
/-
The claims about AdamW at the four weights of one call.
-/
module

public import proofs.«01_k».proof.Defs
public import proofs.«01_k».proof.Proof.AdamOutFrame
public import proofs.«01_k».proof.Proof.AdamOutValue
public import Idealize.ShloMosaic.Lib.Claim

@[expose] public section

noncomputable section

namespace Cert.AdamOutClaim

open Idealize.ShloMosaic Idealize.SL.Sem

theorem frame_p : Cert.quiescent_AdamOut (hAdamOut := Cert.AdamOut.Gen.facts) := fun m ρ _ => Cert.AdamOut.Gen.frame m ρ

theorem frame_pi : Cert.quiescent_AdamOutIdeal (hAdamOutIdeal := Cert.AdamOutIdeal.Gen.facts) :=
  fun m ρ _ => Cert.AdamOutIdeal.Gen.frame m ρ

theorem frame_ri : Cert.quiescent_AdamOutRefIdeal (hAdamOutRefIdeal := Cert.AdamOutRefIdeal.Gen.facts) :=
  fun m ρ _ => (θ_run _ _ _).mono (fun r h => ⟨fun c => (h c).2.2.2.2.2.2.2.2.2.2.2.2.2.2.2.2, sem_eq_zero_of_no_sems (by decide) r.2⟩)
    (Cert.AdamOutRefIdeal.Value.run (F := Ideal) m ρ)

set_option maxHeartbeats 8000000 in
theorem algebraic : Cert.algebraic_AdamOutIdeal_AdamOutRefIdeal (hAdamOutIdeal := Cert.AdamOutIdeal.Gen.facts)
    (hAdamOutRefIdeal := Cert.AdamOutRefIdeal.Gen.facts) := by
  intro m g m' g' _ hagree
  refine ⟨_, _, _, _, _, _, _, _, _, _, _, _, _, _, _, _, Cert.AdamOutIdeal.Value.run_blocks m g,
    (θ_run _ _ _).mono (fun r h c => ?_) (Cert.AdamOutRefIdeal.Value.run m' g')⟩
  obtain ⟨h0, h1, h2, h3, h4, h5, h6, h7, h8, h9, h10, h11, h12, h13, h14, h15, hargs⟩ := h c
  obtain ⟨a0, a1, a2, a3, a4, a5, a6, a7, a8, a9, a10, a11, a12, a13, a14, a15⟩ := hagree c
  refine ⟨h0.trans ?_, h1.trans ?_, h2.trans ?_, h3.trans ?_, h4.trans ?_, h5.trans ?_, h6.trans ?_, h7.trans ?_,
    h8.trans ?_, h9.trans ?_, h10.trans ?_, h11.trans ?_, h12.trans ?_, h13.trans ?_, h14.trans ?_, h15.trans ?_, hargs⟩
  · refine (Cert.AdamOutRefIdeal.Read.val_main_v1_eq _).trans ?_
    rw [a4]
    exact (Cert.AdamOutIdeal.Value.final16 m c).symm
  · refine (Cert.AdamOutRefIdeal.Read.val_main_v31_eq _ _ _ _).trans ?_
    rw [a0, a4, a8, a12]
    exact (Cert.AdamOutIdeal.Value.final17 m c).symm
  · refine (Cert.AdamOutRefIdeal.Read.val_main_v12_eq _ _).trans ?_
    rw [a4, a8]
    exact (Cert.AdamOutIdeal.Value.final18 m c).symm
  · refine (Cert.AdamOutRefIdeal.Read.val_main_v18_eq _ _).trans ?_
    rw [a4, a12]
    exact (Cert.AdamOutIdeal.Value.final19 m c).symm
  · refine (Cert.AdamOutRefIdeal.Read.val_main_v3_eq _).trans ?_
    rw [a5]
    exact (Cert.AdamOutIdeal.Value.final20 m c).symm
  · refine (Cert.AdamOutRefIdeal.Read.val_main_v55_eq _ _ _ _).trans ?_
    rw [a1, a5, a9, a13]
    exact (Cert.AdamOutIdeal.Value.final21 m c).symm
  · refine (Cert.AdamOutRefIdeal.Read.val_main_v36_eq _ _).trans ?_
    rw [a5, a9]
    exact (Cert.AdamOutIdeal.Value.final22 m c).symm
  · refine (Cert.AdamOutRefIdeal.Read.val_main_v42_eq _ _).trans ?_
    rw [a5, a13]
    exact (Cert.AdamOutIdeal.Value.final23 m c).symm
  · refine (Cert.AdamOutRefIdeal.Read.val_main_v5_eq _).trans ?_
    rw [a6]
    exact (Cert.AdamOutIdeal.Value.final24 m c).symm
  · refine (Cert.AdamOutRefIdeal.Read.val_main_v79_eq _ _ _ _).trans ?_
    rw [a2, a6, a10, a14]
    exact (Cert.AdamOutIdeal.Value.final25 m c).symm
  · refine (Cert.AdamOutRefIdeal.Read.val_main_v60_eq _ _).trans ?_
    rw [a6, a10]
    exact (Cert.AdamOutIdeal.Value.final26 m c).symm
  · refine (Cert.AdamOutRefIdeal.Read.val_main_v66_eq _ _).trans ?_
    rw [a6, a14]
    exact (Cert.AdamOutIdeal.Value.final27 m c).symm
  · refine (Cert.AdamOutRefIdeal.Read.val_main_v7_eq _).trans ?_
    rw [a7]
    exact (Cert.AdamOutIdeal.Value.final28 m c).symm
  · refine (Cert.AdamOutRefIdeal.Read.val_main_v103_eq _ _ _ _).trans ?_
    rw [a3, a7, a11, a15]
    exact (Cert.AdamOutIdeal.Value.final29 m c).symm
  · refine (Cert.AdamOutRefIdeal.Read.val_main_v84_eq _ _).trans ?_
    rw [a7, a11]
    exact (Cert.AdamOutIdeal.Value.final30 m c).symm
  · refine (Cert.AdamOutRefIdeal.Read.val_main_v90_eq _ _).trans ?_
    rw [a7, a15]
    exact (Cert.AdamOutIdeal.Value.final31 m c).symm

end Cert.AdamOutClaim

end
-- ==== Proof.lean ====
/-
The claims of this certificate, put together. The mathematics is in the modules beside this file: `Norm` (one normed row
and its gradient), `Finite` and `Gate` (the gate's gradient, over the reals), then per call `…Math` (what the reference's
result holds at an element), `…Value` (what the kernel's arrays hold, and that the two agree) and `…Claim` (the runs).
-/
module

public import proofs.«01_k».proof.Defs
public import proofs.«01_k».proof.Proof.Gen.InBwd.Frame
public import proofs.«01_k».proof.Proof.Gen.InBwdIdeal.Value
public import proofs.«01_k».proof.Proof.Gen.InRefIdeal.Read
public import proofs.«01_k».proof.Proof.Gen.FfnBwd.Frame
public import proofs.«01_k».proof.Proof.Gen.FfnBwdIdeal.Value
public import proofs.«01_k».proof.Proof.Gen.FfnRefIdeal.Read
public import proofs.«01_k».proof.Proof.Gen.Pre_ffn_finite
public import proofs.«01_k».proof.Proof.InClaim
public import proofs.«01_k».proof.Proof.FfnClaim
public import proofs.«01_k».proof.Proof.Gen.WffnBwd.Frame
public import proofs.«01_k».proof.Proof.Gen.WffnBwdIdeal.Value
public import proofs.«01_k».proof.Proof.Gen.WffnRefIdeal.Read
public import proofs.«01_k».proof.Proof.Gen.WinBwd.Frame
public import proofs.«01_k».proof.Proof.Gen.WinBwdIdeal.Value
public import proofs.«01_k».proof.Proof.Gen.WinRefIdeal.Read
public import proofs.«01_k».proof.Proof.WffnClaim
public import proofs.«01_k».proof.Proof.WinClaim
public import proofs.«01_k».proof.Proof.Gen.AdamIn.Frame
public import proofs.«01_k».proof.Proof.Gen.AdamInIdeal.Value
public import proofs.«01_k».proof.Proof.Gen.AdamInRefIdeal.Read
public import proofs.«01_k».proof.Proof.Gen.LossFwd.Frame
public import proofs.«01_k».proof.Proof.Gen.LossFwdIdeal.Value
public import proofs.«01_k».proof.Proof.Gen.LossRefIdeal.Read
public import proofs.«01_k».proof.Proof.AdamInClaim
public import proofs.«01_k».proof.Proof.LossClaim
public import proofs.«01_k».proof.Proof.Gen.AdamOutRefIdeal.Read
public import proofs.«01_k».proof.Proof.AdamOutFrame
public import proofs.«01_k».proof.Proof.AdamOutClaim
public import Idealize.ShloMosaic.Adequacy
public import Idealize.ShloMosaic.Init

@[expose] public section

noncomputable section

namespace Cert.Proof

open Idealize.ShloMosaic Idealize.SL.Sem

theorem claim : Cert.Claim :=
  ⟨Cert.InBwd.Gen.facts, Cert.InBwdIdeal.Gen.facts, Cert.InRefIdeal.Gen.facts,
    Cert.FfnBwd.Gen.facts, Cert.FfnBwdIdeal.Gen.facts, Cert.FfnRefIdeal.Gen.facts,
    Cert.WffnBwd.Gen.facts, Cert.WffnBwdIdeal.Gen.facts, Cert.WffnRefIdeal.Gen.facts,
    Cert.WinBwd.Gen.facts, Cert.WinBwdIdeal.Gen.facts, Cert.WinRefIdeal.Gen.facts,
    Cert.AdamIn.Gen.facts, Cert.AdamInIdeal.Gen.facts, Cert.AdamInRefIdeal.Gen.facts,
    Cert.LossFwd.Gen.facts, Cert.LossFwdIdeal.Gen.facts, Cert.LossRefIdeal.Gen.facts,
    Cert.AdamOut.Gen.facts, Cert.AdamOutIdeal.Gen.facts, Cert.AdamOutRefIdeal.Gen.facts,
    Cert.Pre_ffn_finite.Gen.facts,
    Cert.InClaim.frame_p, Cert.InClaim.frame_pi, Cert.InClaim.frame_ri,
    Cert.FfnClaim.frame_p, Cert.FfnClaim.frame_pi, Cert.FfnClaim.frame_pi_pre,
    Cert.FfnClaim.frame_ri, Cert.FfnClaim.frame_ri_pre,
    Cert.WffnClaim.frame_p, Cert.WffnClaim.frame_pi, Cert.WffnClaim.frame_ri,
    Cert.WinClaim.frame_p, Cert.WinClaim.frame_pi, Cert.WinClaim.frame_ri,
    Cert.AdamInClaim.frame_p, Cert.AdamInClaim.frame_pi, Cert.AdamInClaim.frame_ri,
    Cert.LossClaim.frame_p, Cert.LossClaim.frame_pi, Cert.LossClaim.frame_ri,
    Cert.AdamOutClaim.frame_p, Cert.AdamOutClaim.frame_pi, Cert.AdamOutClaim.frame_ri,
    trivial, Cert.InClaim.algebraic, trivial, Cert.FfnClaim.algebraic, trivial, Cert.WffnClaim.algebraic,
    trivial, Cert.WinClaim.algebraic, trivial, Cert.AdamInClaim.algebraic,
    trivial, Cert.LossClaim.algebraic, trivial, Cert.AdamOutClaim.algebraic⟩

end Cert.Proof

end
